-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S2x512x4096 : Shape := ⟨3, ![2, 512, 4096]⟩
abbrev S2x8 : Shape := ⟨2, ![2, 8]⟩
abbrev S_ : Shape := ⟨0, ![]⟩
abbrev S1x128 : Shape := ⟨2, ![1, 128]⟩
abbrev S3x1x128 : Shape := ⟨3, ![3, 1, 128]⟩
abbrev S3 : Shape := ⟨1, ![3]⟩
abbrev S512x512 : Shape := ⟨2, ![512, 512]⟩
abbrev S1x512x512 : Shape := ⟨3, ![1, 512, 512]⟩
abbrev S1x1 : Shape := ⟨2, ![1, 1]⟩
abbrev S1 : Shape := ⟨1, ![1]⟩
abbrev S1x1x1 : Shape := ⟨3, ![1, 1, 1]⟩
abbrev S1x1x128 : Shape := ⟨3, ![1, 1, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S512x8192, .bf16⟩
  | .hbm, ⟨2, _⟩ => ⟨S512x8192, .f32⟩
  | .local _ .vmem, ⟨0, _⟩ => ⟨S4096x512, .bf16⟩
  | .local _ .vmem, ⟨1, _⟩ => ⟨S512x8192, .bf16⟩
  | .local _ .vmem, ⟨2, _⟩ => ⟨S512x8192, .f32⟩
  | .local _ .vmem, ⟨3, _⟩ => ⟨S2x512x4096, .bf16⟩
  | .local _ .vmem, ⟨4, _⟩ => ⟨S2x512x4096, .bf16⟩
  | .local _ .vmem, ⟨5, _⟩ => ⟨S1x128, .f32⟩
  | .local _ .vmem, ⟨6, _⟩ => ⟨S3x1x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 3 → Bool
  | ⟨0, _⟩ => true
  | ⟨1, _⟩ => true
  | ⟨2, _⟩ => false
  | _ => false

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  (ofTc nBuf bufTy 3 73 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch8 : Ref sig .tc := ⟨.vmem, 5, rfl⟩
abbrev cc0_scratch9 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_18 : BitVec 32 := 1#32
  let v35 : BitVec 32 := Scalar.muli v33 c1_i32_18
  let v36 : BitVec 32 := Scalar.addi c0_i32_19 v35
  v36.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_21 : BitVec 32 := 1#32
  let v37 : BitVec 32 := Scalar.muli v19 c1_i32_21
  let v38 : BitVec 32 := Scalar.addi c0_i32_22 v37
  v38.toNat
def k0_off1 (d0 : Dev nD) (c0_i32_24 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_23 : BitVec 32 := 1#32
  let v39 : BitVec 32 := Scalar.subi v5 c1_i32_23
  let v40 : BitVec 32 := Scalar.subi v39 c0_i32_24
  let c8_i32_25 : BitVec 32 := 8#32
  let c0_i32_26 : BitVec 32 := 0#32
  let v41 : BitVec 1 := Scalar.cmpi .eq c8_i32_25 c0_i32_26
  let c1_i32_27 : BitVec 32 := 1#32
  let v42 : BitVec 32 := Scalar.select v41 c1_i32_27 c8_i32_25
  let v43 : BitVec 32 := Scalar.remsi v40 v42
  let c0_i32_29 : BitVec 32 := 0#32
  let v45 : BitVec 1 := Scalar.cmpi .slt v43 c0_i32_29
  let c0_i32_30 : BitVec 32 := 0#32
  let v46 : BitVec 1 := Scalar.cmpi .slt v42 c0_i32_30
  let v47 : BitVec 1 := Scalar.xori v45 v46
  let c0_i32_28 : BitVec 32 := 0#32
  let v44 : BitVec 1 := Scalar.cmpi .ne v43 c0_i32_28
  let v48 : BitVec 1 := Scalar.andi v47 v44
  let v49 : BitVec 32 := Scalar.addi v43 v42
  let v50 : BitVec 32 := Scalar.select v48 v49 v43
  let c4_i32_31 : BitVec 32 := 4#32
  let v51 : BitVec 1 := Scalar.cmpi .slt v50 c4_i32_31
  let c11_i32_32 : BitVec 32 := 11#32
  let v52 : BitVec 32 := Scalar.subi c11_i32_32 v50
  let v53 : BitVec 32 := Scalar.select v51 v50 v52
  let c512_i32 : BitVec 32 := 512#32
  let v69 : BitVec 32 := Scalar.muli v53 c512_i32
  let v70 : Index := Scalar.indexCast v69
  let c0 : Index := 0#32
  ![v70.toNat, 0]
def k0_off2 (d0 : Dev nD) (c0_i32_34 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_33 : BitVec 32 := 1#32
  let v54 : BitVec 32 := Scalar.addi v5 c1_i32_33
  let v55 : BitVec 32 := Scalar.addi v54 c0_i32_34
  let c8_i32_35 : BitVec 32 := 8#32
  let c0_i32_36 : BitVec 32 := 0#32
  let v56 : BitVec 1 := Scalar.cmpi .eq c8_i32_35 c0_i32_36
  let c1_i32_37 : BitVec 32 := 1#32
  let v57 : BitVec 32 := Scalar.select v56 c1_i32_37 c8_i32_35
  let v58 : BitVec 32 := Scalar.remsi v55 v57
  let c0_i32_39 : BitVec 32 := 0#32
  let v60 : BitVec 1 := Scalar.cmpi .slt v58 c0_i32_39
  let c0_i32_40 : BitVec 32 := 0#32
  let v61 : BitVec 1 := Scalar.cmpi .slt v57 c0_i32_40
  let v62 : BitVec 1 := Scalar.xori v60 v61
  let c0_i32_38 : BitVec 32 := 0#32
  let v59 : BitVec 1 := Scalar.cmpi .ne v58 c0_i32_38
  let v63 : BitVec 1 := Scalar.andi v62 v59
  let v64 : BitVec 32 := Scalar.addi v58 v57
  let v65 : BitVec 32 := Scalar.select v63 v64 v58
  let c4_i32_41 : BitVec 32 := 4#32
  let v66 : BitVec 1 := Scalar.cmpi .slt v65 c4_i32_41
  let c11_i32_42 : BitVec 32 := 11#32
  let v67 : BitVec 32 := Scalar.subi c11_i32_42 v65
  let v68 : BitVec 32 := Scalar.select v66 v65 v67
  let c512_i32_47 : BitVec 32 := 512#32
  let v80 : BitVec 32 := Scalar.muli v68 c512_i32_47
  let v81 : Index := Scalar.indexCast v80
  let c0_48 : Index := 0#32
  ![v81.toNat, 0]
def k0_dev3 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_60 : BitVec 32 := 1#32
  let v91 : BitVec 32 := Scalar.muli v19 c1_i32_60
  let v92 : BitVec 32 := Scalar.addi c0_i32_61 v91
  v92.toNat
def k0_dev4 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_72 : BitVec 32 := 1#32
  let v101 : BitVec 32 := Scalar.muli v33 c1_i32_72
  let v102 : BitVec 32 := Scalar.addi c0_i32_73 v101
  v102.toNat
def k0_dev5 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_98 : BitVec 32 := 1#32
  let v133 : BitVec 32 := Scalar.muli v19 c1_i32_98
  let v134 : BitVec 32 := Scalar.addi c0_i32_99 v133
  v134.toNat
def k0_dev6 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_110 : BitVec 32 := 1#32
  let v143 : BitVec 32 := Scalar.muli v33 c1_i32_110
  let v144 : BitVec 32 := Scalar.addi c0_i32_111 v143
  v144.toNat
def k0_dev7 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_136 : BitVec 32 := 1#32
  let v175 : BitVec 32 := Scalar.muli v19 c1_i32_136
  let v176 : BitVec 32 := Scalar.addi c0_i32_137 v175
  v176.toNat
def k0_dev8 (d0 : Dev nD) : Nat :=
  let c0_i32_148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_147 : BitVec 32 := 1#32
  let v185 : BitVec 32 := Scalar.muli v33 c1_i32_147
  let v186 : BitVec 32 := Scalar.addi c0_i32_148 v185
  v186.toNat
def k0_dev9 (d0 : Dev nD) : Nat :=
  let c0_i32_173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_172 : BitVec 32 := 1#32
  let v217 : BitVec 32 := Scalar.muli v19 c1_i32_172
  let v218 : BitVec 32 := Scalar.addi c0_i32_173 v217
  v218.toNat
def k0_dev10 (d0 : Dev nD) : Nat :=
  let c0_i32_184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_183 : BitVec 32 := 1#32
  let v227 : BitVec 32 := Scalar.muli v33 c1_i32_183
  let v228 : BitVec 32 := Scalar.addi c0_i32_184 v227
  v228.toNat
def k0_dev11 (d0 : Dev nD) : Nat :=
  let c0_i32_210 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_209 : BitVec 32 := 1#32
  let v259 : BitVec 32 := Scalar.muli v19 c1_i32_209
  let v260 : BitVec 32 := Scalar.addi c0_i32_210 v259
  v260.toNat
def k0_dev12 (d0 : Dev nD) : Nat :=
  let c0_i32_221 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_220 : BitVec 32 := 1#32
  let v269 : BitVec 32 := Scalar.muli v33 c1_i32_220
  let v270 : BitVec 32 := Scalar.addi c0_i32_221 v269
  v270.toNat
def k0_dev13 (d0 : Dev nD) : Nat :=
  let c0_i32_246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_245 : BitVec 32 := 1#32
  let v301 : BitVec 32 := Scalar.muli v19 c1_i32_245
  let v302 : BitVec 32 := Scalar.addi c0_i32_246 v301
  v302.toNat
def k0_dev14 (d0 : Dev nD) : Nat :=
  let c0_i32_257 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_256 : BitVec 32 := 1#32
  let v311 : BitVec 32 := Scalar.muli v33 c1_i32_256
  let v312 : BitVec 32 := Scalar.addi c0_i32_257 v311
  v312.toNat
def k0_dev15 (d0 : Dev nD) : Nat :=
  let c0_i32_282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_281 : BitVec 32 := 1#32
  let v343 : BitVec 32 := Scalar.muli v19 c1_i32_281
  let v344 : BitVec 32 := Scalar.addi c0_i32_282 v343
  v344.toNat
def k0_dev16 (d0 : Dev nD) : Nat :=
  let c0_i32_293 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_292 : BitVec 32 := 1#32
  let v353 : BitVec 32 := Scalar.muli v33 c1_i32_292
  let v354 : BitVec 32 := Scalar.addi c0_i32_293 v353
  v354.toNat
def k0_dev17 (d0 : Dev nD) : Nat :=
  let c0_i32_318 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_317 : BitVec 32 := 1#32
  let v385 : BitVec 32 := Scalar.muli v19 c1_i32_317
  let v386 : BitVec 32 := Scalar.addi c0_i32_318 v385
  v386.toNat
def k0_dev18 (d0 : Dev nD) : Nat :=
  let c0_i32_329 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_328 : BitVec 32 := 1#32
  let v395 : BitVec 32 := Scalar.muli v33 c1_i32_328
  let v396 : BitVec 32 := Scalar.addi c0_i32_329 v395
  v396.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_334 : BitVec 32 := 512#32
  let v405 : BitVec 32 := Scalar.muli v2 c512_i32_334
  let v406 : Index := Scalar.indexCast v405
  let c0_335 : Index := 0#32
  ![v406.toNat, 0]
def k0_dev19 (d0 : Dev nD) : Nat :=
  let c0_i32_536 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_535 : BitVec 32 := 1#32
  let v621 : BitVec 32 := Scalar.muli v33 c1_i32_535
  let v622 : BitVec 32 := Scalar.addi c0_i32_536 v621
  v622.toNat
def k0_dev20 (d0 : Dev nD) : Nat :=
  let c0_i32_539 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_538 : BitVec 32 := 1#32
  let v623 : BitVec 32 := Scalar.muli v19 c1_i32_538
  let v624 : BitVec 32 := Scalar.addi c0_i32_539 v623
  v624.toNat
def k0_dev21 (d0 : Dev nD) : Nat :=
  let c0_i32_551 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_550 : BitVec 32 := 1#32
  let v625 : BitVec 32 := Scalar.muli v19 c1_i32_550
  let v626 : BitVec 32 := Scalar.addi c0_i32_551 v625
  v626.toNat
def k0_dev22 (d0 : Dev nD) : Nat :=
  let c0_i32_563 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_562 : BitVec 32 := 1#32
  let v635 : BitVec 32 := Scalar.muli v33 c1_i32_562
  let v636 : BitVec 32 := Scalar.addi c0_i32_563 v635
  v636.toNat
def k0_dev23 (d0 : Dev nD) : Nat :=
  let c0_i32_638 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_637 : BitVec 32 := 1#32
  let v703 : BitVec 32 := Scalar.muli v33 c1_i32_637
  let v704 : BitVec 32 := Scalar.addi c0_i32_638 v703
  v704.toNat
def k0_dev24 (d0 : Dev nD) : Nat :=
  let c0_i32_641 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_640 : BitVec 32 := 1#32
  let v705 : BitVec 32 := Scalar.muli v19 c1_i32_640
  let v706 : BitVec 32 := Scalar.addi c0_i32_641 v705
  v706.toNat
def k0_dev25 (d0 : Dev nD) : Nat :=
  let c0_i32_653 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_652 : BitVec 32 := 1#32
  let v707 : BitVec 32 := Scalar.muli v19 c1_i32_652
  let v708 : BitVec 32 := Scalar.addi c0_i32_653 v707
  v708.toNat
def k0_dev26 (d0 : Dev nD) : Nat :=
  let c0_i32_665 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_664 : BitVec 32 := 1#32
  let v717 : BitVec 32 := Scalar.muli v33 c1_i32_664
  let v718 : BitVec 32 := Scalar.addi c0_i32_665 v717
  v718.toNat
def k0_dev27 (d0 : Dev nD) : Nat :=
  let c0_i32_740 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_739 : BitVec 32 := 1#32
  let v785 : BitVec 32 := Scalar.muli v33 c1_i32_739
  let v786 : BitVec 32 := Scalar.addi c0_i32_740 v785
  v786.toNat
def k0_dev28 (d0 : Dev nD) : Nat :=
  let c0_i32_743 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_742 : BitVec 32 := 1#32
  let v787 : BitVec 32 := Scalar.muli v19 c1_i32_742
  let v788 : BitVec 32 := Scalar.addi c0_i32_743 v787
  v788.toNat
def k0_dev29 (d0 : Dev nD) : Nat :=
  let c0_i32_755 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_754 : BitVec 32 := 1#32
  let v789 : BitVec 32 := Scalar.muli v19 c1_i32_754
  let v790 : BitVec 32 := Scalar.addi c0_i32_755 v789
  v790.toNat
def k0_dev30 (d0 : Dev nD) : Nat :=
  let c0_i32_767 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_766 : BitVec 32 := 1#32
  let v799 : BitVec 32 := Scalar.muli v33 c1_i32_766
  let v800 : BitVec 32 := Scalar.addi c0_i32_767 v799
  v800.toNat
def k0_dev31 (d0 : Dev nD) : Nat :=
  let c0_i32_842 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_841 : BitVec 32 := 1#32
  let v867 : BitVec 32 := Scalar.muli v33 c1_i32_841
  let v868 : BitVec 32 := Scalar.addi c0_i32_842 v867
  v868.toNat
def k0_dev32 (d0 : Dev nD) : Nat :=
  let c0_i32_845 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_844 : BitVec 32 := 1#32
  let v869 : BitVec 32 := Scalar.muli v19 c1_i32_844
  let v870 : BitVec 32 := Scalar.addi c0_i32_845 v869
  v870.toNat
def k0_dev33 (d0 : Dev nD) : Nat :=
  let c0_i32_857 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_856 : BitVec 32 := 1#32
  let v871 : BitVec 32 := Scalar.muli v19 c1_i32_856
  let v872 : BitVec 32 := Scalar.addi c0_i32_857 v871
  v872.toNat
def k0_dev34 (d0 : Dev nD) : Nat :=
  let c0_i32_869 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_868 : BitVec 32 := 1#32
  let v881 : BitVec 32 := Scalar.muli v33 c1_i32_868
  let v882 : BitVec 32 := Scalar.addi c0_i32_869 v881
  v882.toNat
def k0_dev35 (d0 : Dev nD) : Nat :=
  let c0_i32_944 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_943 : BitVec 32 := 1#32
  let v949 : BitVec 32 := Scalar.muli v33 c1_i32_943
  let v950 : BitVec 32 := Scalar.addi c0_i32_944 v949
  v950.toNat
def k0_dev36 (d0 : Dev nD) : Nat :=
  let c0_i32_947 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_946 : BitVec 32 := 1#32
  let v951 : BitVec 32 := Scalar.muli v19 c1_i32_946
  let v952 : BitVec 32 := Scalar.addi c0_i32_947 v951
  v952.toNat
def k0_dev37 (d0 : Dev nD) : Nat :=
  let c0_i32_959 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_958 : BitVec 32 := 1#32
  let v953 : BitVec 32 := Scalar.muli v19 c1_i32_958
  let v954 : BitVec 32 := Scalar.addi c0_i32_959 v953
  v954.toNat
def k0_dev38 (d0 : Dev nD) : Nat :=
  let c0_i32_971 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_970 : BitVec 32 := 1#32
  let v963 : BitVec 32 := Scalar.muli v33 c1_i32_970
  let v964 : BitVec 32 := Scalar.addi c0_i32_971 v963
  v964.toNat
def k0_dev39 (d0 : Dev nD) : Nat :=
  let c0_i32_1046 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1045 : BitVec 32 := 1#32
  let v1031 : BitVec 32 := Scalar.muli v33 c1_i32_1045
  let v1032 : BitVec 32 := Scalar.addi c0_i32_1046 v1031
  v1032.toNat
def k0_dev40 (d0 : Dev nD) : Nat :=
  let c0_i32_1049 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1048 : BitVec 32 := 1#32
  let v1033 : BitVec 32 := Scalar.muli v19 c1_i32_1048
  let v1034 : BitVec 32 := Scalar.addi c0_i32_1049 v1033
  v1034.toNat
def k0_dev41 (d0 : Dev nD) : Nat :=
  let c0_i32_1061 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1060 : BitVec 32 := 1#32
  let v1035 : BitVec 32 := Scalar.muli v19 c1_i32_1060
  let v1036 : BitVec 32 := Scalar.addi c0_i32_1061 v1035
  v1036.toNat
def k0_dev42 (d0 : Dev nD) : Nat :=
  let c0_i32_1073 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1072 : BitVec 32 := 1#32
  let v1045 : BitVec 32 := Scalar.muli v33 c1_i32_1072
  let v1046 : BitVec 32 := Scalar.addi c0_i32_1073 v1045
  v1046.toNat
def k0_dev43 (d0 : Dev nD) : Nat :=
  let c0_i32_1148 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1147 : BitVec 32 := 1#32
  let v1113 : BitVec 32 := Scalar.muli v33 c1_i32_1147
  let v1114 : BitVec 32 := Scalar.addi c0_i32_1148 v1113
  v1114.toNat
def k0_dev44 (d0 : Dev nD) : Nat :=
  let c0_i32_1151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1150 : BitVec 32 := 1#32
  let v1115 : BitVec 32 := Scalar.muli v19 c1_i32_1150
  let v1116 : BitVec 32 := Scalar.addi c0_i32_1151 v1115
  v1116.toNat
def k0_dev45 (d0 : Dev nD) : Nat :=
  let c0_i32_1163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1162 : BitVec 32 := 1#32
  let v1117 : BitVec 32 := Scalar.muli v19 c1_i32_1162
  let v1118 : BitVec 32 := Scalar.addi c0_i32_1163 v1117
  v1118.toNat
def k0_dev46 (d0 : Dev nD) : Nat :=
  let c0_i32_1175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1174 : BitVec 32 := 1#32
  let v1127 : BitVec 32 := Scalar.muli v33 c1_i32_1174
  let v1128 : BitVec 32 := Scalar.addi c0_i32_1175 v1127
  v1128.toNat
def k0_dev47 (d0 : Dev nD) : Nat :=
  let c0_i32_1250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1249 : BitVec 32 := 1#32
  let v1195 : BitVec 32 := Scalar.muli v33 c1_i32_1249
  let v1196 : BitVec 32 := Scalar.addi c0_i32_1250 v1195
  v1196.toNat
def k0_dev48 (d0 : Dev nD) : Nat :=
  let c0_i32_1253 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1252 : BitVec 32 := 1#32
  let v1197 : BitVec 32 := Scalar.muli v19 c1_i32_1252
  let v1198 : BitVec 32 := Scalar.addi c0_i32_1253 v1197
  v1198.toNat
def k0_dev49 (d0 : Dev nD) : Nat :=
  let c0_i32_1265 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1264 : BitVec 32 := 1#32
  let v1199 : BitVec 32 := Scalar.muli v19 c1_i32_1264
  let v1200 : BitVec 32 := Scalar.addi c0_i32_1265 v1199
  v1200.toNat
def k0_dev50 (d0 : Dev nD) : Nat :=
  let c0_i32_1277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1276 : BitVec 32 := 1#32
  let v1209 : BitVec 32 := Scalar.muli v33 c1_i32_1276
  let v1210 : BitVec 32 := Scalar.addi c0_i32_1277 v1209
  v1210.toNat
def k0_dev51 (d0 : Dev nD) : Nat :=
  let c0_i32_1372 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1371 : BitVec 32 := 1#32
  let v1307 : BitVec 32 := Scalar.muli v33 c1_i32_1371
  let v1308 : BitVec 32 := Scalar.addi c0_i32_1372 v1307
  v1308.toNat
def k0_dev52 (d0 : Dev nD) : Nat :=
  let c0_i32_1375 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1374 : BitVec 32 := 1#32
  let v1309 : BitVec 32 := Scalar.muli v19 c1_i32_1374
  let v1310 : BitVec 32 := Scalar.addi c0_i32_1375 v1309
  v1310.toNat
def k0_dev53 (d0 : Dev nD) : Nat :=
  let c0_i32_1387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1386 : BitVec 32 := 1#32
  let v1311 : BitVec 32 := Scalar.muli v19 c1_i32_1386
  let v1312 : BitVec 32 := Scalar.addi c0_i32_1387 v1311
  v1312.toNat
def k0_dev54 (d0 : Dev nD) : Nat :=
  let c0_i32_1399 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1398 : BitVec 32 := 1#32
  let v1321 : BitVec 32 := Scalar.muli v33 c1_i32_1398
  let v1322 : BitVec 32 := Scalar.addi c0_i32_1399 v1321
  v1322.toNat
def k0_dev55 (d0 : Dev nD) : Nat :=
  let c0_i32_1474 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1473 : BitVec 32 := 1#32
  let v1389 : BitVec 32 := Scalar.muli v33 c1_i32_1473
  let v1390 : BitVec 32 := Scalar.addi c0_i32_1474 v1389
  v1390.toNat
def k0_dev56 (d0 : Dev nD) : Nat :=
  let c0_i32_1477 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1476 : BitVec 32 := 1#32
  let v1391 : BitVec 32 := Scalar.muli v19 c1_i32_1476
  let v1392 : BitVec 32 := Scalar.addi c0_i32_1477 v1391
  v1392.toNat
def k0_dev57 (d0 : Dev nD) : Nat :=
  let c0_i32_1489 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1488 : BitVec 32 := 1#32
  let v1393 : BitVec 32 := Scalar.muli v19 c1_i32_1488
  let v1394 : BitVec 32 := Scalar.addi c0_i32_1489 v1393
  v1394.toNat
def k0_dev58 (d0 : Dev nD) : Nat :=
  let c0_i32_1501 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1500 : BitVec 32 := 1#32
  let v1403 : BitVec 32 := Scalar.muli v33 c1_i32_1500
  let v1404 : BitVec 32 := Scalar.addi c0_i32_1501 v1403
  v1404.toNat
def k0_dev59 (d0 : Dev nD) : Nat :=
  let c0_i32_1576 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1575 : BitVec 32 := 1#32
  let v1471 : BitVec 32 := Scalar.muli v33 c1_i32_1575
  let v1472 : BitVec 32 := Scalar.addi c0_i32_1576 v1471
  v1472.toNat
def k0_dev60 (d0 : Dev nD) : Nat :=
  let c0_i32_1579 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1578 : BitVec 32 := 1#32
  let v1473 : BitVec 32 := Scalar.muli v19 c1_i32_1578
  let v1474 : BitVec 32 := Scalar.addi c0_i32_1579 v1473
  v1474.toNat
def k0_dev61 (d0 : Dev nD) : Nat :=
  let c0_i32_1591 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1590 : BitVec 32 := 1#32
  let v1475 : BitVec 32 := Scalar.muli v19 c1_i32_1590
  let v1476 : BitVec 32 := Scalar.addi c0_i32_1591 v1475
  v1476.toNat
def k0_dev62 (d0 : Dev nD) : Nat :=
  let c0_i32_1603 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1602 : BitVec 32 := 1#32
  let v1485 : BitVec 32 := Scalar.muli v33 c1_i32_1602
  let v1486 : BitVec 32 := Scalar.addi c0_i32_1603 v1485
  v1486.toNat
def k0_dev63 (d0 : Dev nD) : Nat :=
  let c0_i32_1678 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1677 : BitVec 32 := 1#32
  let v1553 : BitVec 32 := Scalar.muli v33 c1_i32_1677
  let v1554 : BitVec 32 := Scalar.addi c0_i32_1678 v1553
  v1554.toNat
def k0_dev64 (d0 : Dev nD) : Nat :=
  let c0_i32_1681 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1680 : BitVec 32 := 1#32
  let v1555 : BitVec 32 := Scalar.muli v19 c1_i32_1680
  let v1556 : BitVec 32 := Scalar.addi c0_i32_1681 v1555
  v1556.toNat
def k0_dev65 (d0 : Dev nD) : Nat :=
  let c0_i32_1693 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1692 : BitVec 32 := 1#32
  let v1557 : BitVec 32 := Scalar.muli v19 c1_i32_1692
  let v1558 : BitVec 32 := Scalar.addi c0_i32_1693 v1557
  v1558.toNat
def k0_dev66 (d0 : Dev nD) : Nat :=
  let c0_i32_1705 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1704 : BitVec 32 := 1#32
  let v1567 : BitVec 32 := Scalar.muli v33 c1_i32_1704
  let v1568 : BitVec 32 := Scalar.addi c0_i32_1705 v1567
  v1568.toNat
def k0_dev67 (d0 : Dev nD) : Nat :=
  let c0_i32_1780 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1779 : BitVec 32 := 1#32
  let v1635 : BitVec 32 := Scalar.muli v33 c1_i32_1779
  let v1636 : BitVec 32 := Scalar.addi c0_i32_1780 v1635
  v1636.toNat
def k0_dev68 (d0 : Dev nD) : Nat :=
  let c0_i32_1783 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1782 : BitVec 32 := 1#32
  let v1637 : BitVec 32 := Scalar.muli v19 c1_i32_1782
  let v1638 : BitVec 32 := Scalar.addi c0_i32_1783 v1637
  v1638.toNat
def k0_dev69 (d0 : Dev nD) : Nat :=
  let c0_i32_1795 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1794 : BitVec 32 := 1#32
  let v1639 : BitVec 32 := Scalar.muli v19 c1_i32_1794
  let v1640 : BitVec 32 := Scalar.addi c0_i32_1795 v1639
  v1640.toNat
def k0_dev70 (d0 : Dev nD) : Nat :=
  let c0_i32_1807 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1806 : BitVec 32 := 1#32
  let v1649 : BitVec 32 := Scalar.muli v33 c1_i32_1806
  let v1650 : BitVec 32 := Scalar.addi c0_i32_1807 v1649
  v1650.toNat
def k0_dev71 (d0 : Dev nD) : Nat :=
  let c0_i32_1882 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1881 : BitVec 32 := 1#32
  let v1717 : BitVec 32 := Scalar.muli v33 c1_i32_1881
  let v1718 : BitVec 32 := Scalar.addi c0_i32_1882 v1717
  v1718.toNat
def k0_dev72 (d0 : Dev nD) : Nat :=
  let c0_i32_1885 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1884 : BitVec 32 := 1#32
  let v1719 : BitVec 32 := Scalar.muli v19 c1_i32_1884
  let v1720 : BitVec 32 := Scalar.addi c0_i32_1885 v1719
  v1720.toNat
def k0_dev73 (d0 : Dev nD) : Nat :=
  let c0_i32_1897 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1896 : BitVec 32 := 1#32
  let v1721 : BitVec 32 := Scalar.muli v19 c1_i32_1896
  let v1722 : BitVec 32 := Scalar.addi c0_i32_1897 v1721
  v1722.toNat
def k0_dev74 (d0 : Dev nD) : Nat :=
  let c0_i32_1909 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1908 : BitVec 32 := 1#32
  let v1731 : BitVec 32 := Scalar.muli v33 c1_i32_1908
  let v1732 : BitVec 32 := Scalar.addi c0_i32_1909 v1731
  v1732.toNat
def k0_dev75 (d0 : Dev nD) : Nat :=
  let c0_i32_1984 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_1983 : BitVec 32 := 1#32
  let v1799 : BitVec 32 := Scalar.muli v33 c1_i32_1983
  let v1800 : BitVec 32 := Scalar.addi c0_i32_1984 v1799
  v1800.toNat
def k0_dev76 (d0 : Dev nD) : Nat :=
  let c0_i32_1987 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1986 : BitVec 32 := 1#32
  let v1801 : BitVec 32 := Scalar.muli v19 c1_i32_1986
  let v1802 : BitVec 32 := Scalar.addi c0_i32_1987 v1801
  v1802.toNat
def k0_dev77 (d0 : Dev nD) : Nat :=
  let c0_i32_1999 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1998 : BitVec 32 := 1#32
  let v1803 : BitVec 32 := Scalar.muli v19 c1_i32_1998
  let v1804 : BitVec 32 := Scalar.addi c0_i32_1999 v1803
  v1804.toNat
def k0_dev78 (d0 : Dev nD) : Nat :=
  let c0_i32_2011 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2010 : BitVec 32 := 1#32
  let v1813 : BitVec 32 := Scalar.muli v33 c1_i32_2010
  let v1814 : BitVec 32 := Scalar.addi c0_i32_2011 v1813
  v1814.toNat
def k0_dev79 (d0 : Dev nD) : Nat :=
  let c0_i32_2086 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2085 : BitVec 32 := 1#32
  let v1881 : BitVec 32 := Scalar.muli v33 c1_i32_2085
  let v1882 : BitVec 32 := Scalar.addi c0_i32_2086 v1881
  v1882.toNat
def k0_dev80 (d0 : Dev nD) : Nat :=
  let c0_i32_2089 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2088 : BitVec 32 := 1#32
  let v1883 : BitVec 32 := Scalar.muli v19 c1_i32_2088
  let v1884 : BitVec 32 := Scalar.addi c0_i32_2089 v1883
  v1884.toNat
def k0_dev81 (d0 : Dev nD) : Nat :=
  let c0_i32_2101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2100 : BitVec 32 := 1#32
  let v1885 : BitVec 32 := Scalar.muli v19 c1_i32_2100
  let v1886 : BitVec 32 := Scalar.addi c0_i32_2101 v1885
  v1886.toNat
def k0_dev82 (d0 : Dev nD) : Nat :=
  let c0_i32_2113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2112 : BitVec 32 := 1#32
  let v1895 : BitVec 32 := Scalar.muli v33 c1_i32_2112
  let v1896 : BitVec 32 := Scalar.addi c0_i32_2113 v1895
  v1896.toNat
def k0_dev83 (d0 : Dev nD) : Nat :=
  let c0_i32_2208 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2207 : BitVec 32 := 1#32
  let v1993 : BitVec 32 := Scalar.muli v33 c1_i32_2207
  let v1994 : BitVec 32 := Scalar.addi c0_i32_2208 v1993
  v1994.toNat
def k0_dev84 (d0 : Dev nD) : Nat :=
  let c0_i32_2211 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2210 : BitVec 32 := 1#32
  let v1995 : BitVec 32 := Scalar.muli v19 c1_i32_2210
  let v1996 : BitVec 32 := Scalar.addi c0_i32_2211 v1995
  v1996.toNat
def k0_dev85 (d0 : Dev nD) : Nat :=
  let c0_i32_2223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2222 : BitVec 32 := 1#32
  let v1997 : BitVec 32 := Scalar.muli v19 c1_i32_2222
  let v1998 : BitVec 32 := Scalar.addi c0_i32_2223 v1997
  v1998.toNat
def k0_dev86 (d0 : Dev nD) : Nat :=
  let c0_i32_2235 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2234 : BitVec 32 := 1#32
  let v2007 : BitVec 32 := Scalar.muli v33 c1_i32_2234
  let v2008 : BitVec 32 := Scalar.addi c0_i32_2235 v2007
  v2008.toNat
def k0_dev87 (d0 : Dev nD) : Nat :=
  let c0_i32_2310 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2309 : BitVec 32 := 1#32
  let v2075 : BitVec 32 := Scalar.muli v33 c1_i32_2309
  let v2076 : BitVec 32 := Scalar.addi c0_i32_2310 v2075
  v2076.toNat
def k0_dev88 (d0 : Dev nD) : Nat :=
  let c0_i32_2313 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2312 : BitVec 32 := 1#32
  let v2077 : BitVec 32 := Scalar.muli v19 c1_i32_2312
  let v2078 : BitVec 32 := Scalar.addi c0_i32_2313 v2077
  v2078.toNat
def k0_dev89 (d0 : Dev nD) : Nat :=
  let c0_i32_2325 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2324 : BitVec 32 := 1#32
  let v2079 : BitVec 32 := Scalar.muli v19 c1_i32_2324
  let v2080 : BitVec 32 := Scalar.addi c0_i32_2325 v2079
  v2080.toNat
def k0_dev90 (d0 : Dev nD) : Nat :=
  let c0_i32_2337 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2336 : BitVec 32 := 1#32
  let v2089 : BitVec 32 := Scalar.muli v33 c1_i32_2336
  let v2090 : BitVec 32 := Scalar.addi c0_i32_2337 v2089
  v2090.toNat
def k0_dev91 (d0 : Dev nD) : Nat :=
  let c0_i32_2412 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2411 : BitVec 32 := 1#32
  let v2157 : BitVec 32 := Scalar.muli v33 c1_i32_2411
  let v2158 : BitVec 32 := Scalar.addi c0_i32_2412 v2157
  v2158.toNat
def k0_dev92 (d0 : Dev nD) : Nat :=
  let c0_i32_2415 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2414 : BitVec 32 := 1#32
  let v2159 : BitVec 32 := Scalar.muli v19 c1_i32_2414
  let v2160 : BitVec 32 := Scalar.addi c0_i32_2415 v2159
  v2160.toNat
def k0_dev93 (d0 : Dev nD) : Nat :=
  let c0_i32_2427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2426 : BitVec 32 := 1#32
  let v2161 : BitVec 32 := Scalar.muli v19 c1_i32_2426
  let v2162 : BitVec 32 := Scalar.addi c0_i32_2427 v2161
  v2162.toNat
def k0_dev94 (d0 : Dev nD) : Nat :=
  let c0_i32_2439 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2438 : BitVec 32 := 1#32
  let v2171 : BitVec 32 := Scalar.muli v33 c1_i32_2438
  let v2172 : BitVec 32 := Scalar.addi c0_i32_2439 v2171
  v2172.toNat
def k0_dev95 (d0 : Dev nD) : Nat :=
  let c0_i32_2514 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2513 : BitVec 32 := 1#32
  let v2239 : BitVec 32 := Scalar.muli v33 c1_i32_2513
  let v2240 : BitVec 32 := Scalar.addi c0_i32_2514 v2239
  v2240.toNat
def k0_dev96 (d0 : Dev nD) : Nat :=
  let c0_i32_2517 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2516 : BitVec 32 := 1#32
  let v2241 : BitVec 32 := Scalar.muli v19 c1_i32_2516
  let v2242 : BitVec 32 := Scalar.addi c0_i32_2517 v2241
  v2242.toNat
def k0_dev97 (d0 : Dev nD) : Nat :=
  let c0_i32_2529 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2528 : BitVec 32 := 1#32
  let v2243 : BitVec 32 := Scalar.muli v19 c1_i32_2528
  let v2244 : BitVec 32 := Scalar.addi c0_i32_2529 v2243
  v2244.toNat
def k0_dev98 (d0 : Dev nD) : Nat :=
  let c0_i32_2541 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2540 : BitVec 32 := 1#32
  let v2253 : BitVec 32 := Scalar.muli v33 c1_i32_2540
  let v2254 : BitVec 32 := Scalar.addi c0_i32_2541 v2253
  v2254.toNat
def k0_dev99 (d0 : Dev nD) : Nat :=
  let c0_i32_2616 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2615 : BitVec 32 := 1#32
  let v2321 : BitVec 32 := Scalar.muli v33 c1_i32_2615
  let v2322 : BitVec 32 := Scalar.addi c0_i32_2616 v2321
  v2322.toNat
def k0_dev100 (d0 : Dev nD) : Nat :=
  let c0_i32_2619 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2618 : BitVec 32 := 1#32
  let v2323 : BitVec 32 := Scalar.muli v19 c1_i32_2618
  let v2324 : BitVec 32 := Scalar.addi c0_i32_2619 v2323
  v2324.toNat
def k0_dev101 (d0 : Dev nD) : Nat :=
  let c0_i32_2631 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2630 : BitVec 32 := 1#32
  let v2325 : BitVec 32 := Scalar.muli v19 c1_i32_2630
  let v2326 : BitVec 32 := Scalar.addi c0_i32_2631 v2325
  v2326.toNat
def k0_dev102 (d0 : Dev nD) : Nat :=
  let c0_i32_2643 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2642 : BitVec 32 := 1#32
  let v2335 : BitVec 32 := Scalar.muli v33 c1_i32_2642
  let v2336 : BitVec 32 := Scalar.addi c0_i32_2643 v2335
  v2336.toNat
def k0_dev103 (d0 : Dev nD) : Nat :=
  let c0_i32_2718 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2717 : BitVec 32 := 1#32
  let v2403 : BitVec 32 := Scalar.muli v33 c1_i32_2717
  let v2404 : BitVec 32 := Scalar.addi c0_i32_2718 v2403
  v2404.toNat
def k0_dev104 (d0 : Dev nD) : Nat :=
  let c0_i32_2721 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2720 : BitVec 32 := 1#32
  let v2405 : BitVec 32 := Scalar.muli v19 c1_i32_2720
  let v2406 : BitVec 32 := Scalar.addi c0_i32_2721 v2405
  v2406.toNat
def k0_dev105 (d0 : Dev nD) : Nat :=
  let c0_i32_2733 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2732 : BitVec 32 := 1#32
  let v2407 : BitVec 32 := Scalar.muli v19 c1_i32_2732
  let v2408 : BitVec 32 := Scalar.addi c0_i32_2733 v2407
  v2408.toNat
def k0_dev106 (d0 : Dev nD) : Nat :=
  let c0_i32_2745 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2744 : BitVec 32 := 1#32
  let v2417 : BitVec 32 := Scalar.muli v33 c1_i32_2744
  let v2418 : BitVec 32 := Scalar.addi c0_i32_2745 v2417
  v2418.toNat
def k0_dev107 (d0 : Dev nD) : Nat :=
  let c0_i32_2820 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2819 : BitVec 32 := 1#32
  let v2485 : BitVec 32 := Scalar.muli v33 c1_i32_2819
  let v2486 : BitVec 32 := Scalar.addi c0_i32_2820 v2485
  v2486.toNat
def k0_dev108 (d0 : Dev nD) : Nat :=
  let c0_i32_2823 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2822 : BitVec 32 := 1#32
  let v2487 : BitVec 32 := Scalar.muli v19 c1_i32_2822
  let v2488 : BitVec 32 := Scalar.addi c0_i32_2823 v2487
  v2488.toNat
def k0_dev109 (d0 : Dev nD) : Nat :=
  let c0_i32_2835 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2834 : BitVec 32 := 1#32
  let v2489 : BitVec 32 := Scalar.muli v19 c1_i32_2834
  let v2490 : BitVec 32 := Scalar.addi c0_i32_2835 v2489
  v2490.toNat
def k0_dev110 (d0 : Dev nD) : Nat :=
  let c0_i32_2847 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2846 : BitVec 32 := 1#32
  let v2499 : BitVec 32 := Scalar.muli v33 c1_i32_2846
  let v2500 : BitVec 32 := Scalar.addi c0_i32_2847 v2499
  v2500.toNat
def k0_dev111 (d0 : Dev nD) : Nat :=
  let c0_i32_2922 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2921 : BitVec 32 := 1#32
  let v2567 : BitVec 32 := Scalar.muli v33 c1_i32_2921
  let v2568 : BitVec 32 := Scalar.addi c0_i32_2922 v2567
  v2568.toNat
def k0_dev112 (d0 : Dev nD) : Nat :=
  let c0_i32_2925 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2924 : BitVec 32 := 1#32
  let v2569 : BitVec 32 := Scalar.muli v19 c1_i32_2924
  let v2570 : BitVec 32 := Scalar.addi c0_i32_2925 v2569
  v2570.toNat
def k0_dev113 (d0 : Dev nD) : Nat :=
  let c0_i32_2937 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2936 : BitVec 32 := 1#32
  let v2571 : BitVec 32 := Scalar.muli v19 c1_i32_2936
  let v2572 : BitVec 32 := Scalar.addi c0_i32_2937 v2571
  v2572.toNat
def k0_dev114 (d0 : Dev nD) : Nat :=
  let c0_i32_2949 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_2948 : BitVec 32 := 1#32
  let v2581 : BitVec 32 := Scalar.muli v33 c1_i32_2948
  let v2582 : BitVec 32 := Scalar.addi c0_i32_2949 v2581
  v2582.toNat
def k0_dev115 (d0 : Dev nD) : Nat :=
  let c0_i32_3044 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3043 : BitVec 32 := 1#32
  let v2679 : BitVec 32 := Scalar.muli v33 c1_i32_3043
  let v2680 : BitVec 32 := Scalar.addi c0_i32_3044 v2679
  v2680.toNat
def k0_dev116 (d0 : Dev nD) : Nat :=
  let c0_i32_3047 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3046 : BitVec 32 := 1#32
  let v2681 : BitVec 32 := Scalar.muli v19 c1_i32_3046
  let v2682 : BitVec 32 := Scalar.addi c0_i32_3047 v2681
  v2682.toNat
def k0_dev117 (d0 : Dev nD) : Nat :=
  let c0_i32_3059 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3058 : BitVec 32 := 1#32
  let v2683 : BitVec 32 := Scalar.muli v19 c1_i32_3058
  let v2684 : BitVec 32 := Scalar.addi c0_i32_3059 v2683
  v2684.toNat
def k0_dev118 (d0 : Dev nD) : Nat :=
  let c0_i32_3071 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3070 : BitVec 32 := 1#32
  let v2693 : BitVec 32 := Scalar.muli v33 c1_i32_3070
  let v2694 : BitVec 32 := Scalar.addi c0_i32_3071 v2693
  v2694.toNat
def k0_dev119 (d0 : Dev nD) : Nat :=
  let c0_i32_3146 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3145 : BitVec 32 := 1#32
  let v2761 : BitVec 32 := Scalar.muli v33 c1_i32_3145
  let v2762 : BitVec 32 := Scalar.addi c0_i32_3146 v2761
  v2762.toNat
def k0_dev120 (d0 : Dev nD) : Nat :=
  let c0_i32_3149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3148 : BitVec 32 := 1#32
  let v2763 : BitVec 32 := Scalar.muli v19 c1_i32_3148
  let v2764 : BitVec 32 := Scalar.addi c0_i32_3149 v2763
  v2764.toNat
def k0_dev121 (d0 : Dev nD) : Nat :=
  let c0_i32_3161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3160 : BitVec 32 := 1#32
  let v2765 : BitVec 32 := Scalar.muli v19 c1_i32_3160
  let v2766 : BitVec 32 := Scalar.addi c0_i32_3161 v2765
  v2766.toNat
def k0_dev122 (d0 : Dev nD) : Nat :=
  let c0_i32_3173 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3172 : BitVec 32 := 1#32
  let v2775 : BitVec 32 := Scalar.muli v33 c1_i32_3172
  let v2776 : BitVec 32 := Scalar.addi c0_i32_3173 v2775
  v2776.toNat
def k0_dev123 (d0 : Dev nD) : Nat :=
  let c0_i32_3248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3247 : BitVec 32 := 1#32
  let v2843 : BitVec 32 := Scalar.muli v33 c1_i32_3247
  let v2844 : BitVec 32 := Scalar.addi c0_i32_3248 v2843
  v2844.toNat
def k0_dev124 (d0 : Dev nD) : Nat :=
  let c0_i32_3251 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3250 : BitVec 32 := 1#32
  let v2845 : BitVec 32 := Scalar.muli v19 c1_i32_3250
  let v2846 : BitVec 32 := Scalar.addi c0_i32_3251 v2845
  v2846.toNat
def k0_dev125 (d0 : Dev nD) : Nat :=
  let c0_i32_3263 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3262 : BitVec 32 := 1#32
  let v2847 : BitVec 32 := Scalar.muli v19 c1_i32_3262
  let v2848 : BitVec 32 := Scalar.addi c0_i32_3263 v2847
  v2848.toNat
def k0_dev126 (d0 : Dev nD) : Nat :=
  let c0_i32_3275 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3274 : BitVec 32 := 1#32
  let v2857 : BitVec 32 := Scalar.muli v33 c1_i32_3274
  let v2858 : BitVec 32 := Scalar.addi c0_i32_3275 v2857
  v2858.toNat
def k0_dev127 (d0 : Dev nD) : Nat :=
  let c0_i32_3350 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3349 : BitVec 32 := 1#32
  let v2925 : BitVec 32 := Scalar.muli v33 c1_i32_3349
  let v2926 : BitVec 32 := Scalar.addi c0_i32_3350 v2925
  v2926.toNat
def k0_dev128 (d0 : Dev nD) : Nat :=
  let c0_i32_3353 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3352 : BitVec 32 := 1#32
  let v2927 : BitVec 32 := Scalar.muli v19 c1_i32_3352
  let v2928 : BitVec 32 := Scalar.addi c0_i32_3353 v2927
  v2928.toNat
def k0_dev129 (d0 : Dev nD) : Nat :=
  let c0_i32_3365 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3364 : BitVec 32 := 1#32
  let v2929 : BitVec 32 := Scalar.muli v19 c1_i32_3364
  let v2930 : BitVec 32 := Scalar.addi c0_i32_3365 v2929
  v2930.toNat
def k0_dev130 (d0 : Dev nD) : Nat :=
  let c0_i32_3377 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3376 : BitVec 32 := 1#32
  let v2939 : BitVec 32 := Scalar.muli v33 c1_i32_3376
  let v2940 : BitVec 32 := Scalar.addi c0_i32_3377 v2939
  v2940.toNat
def k0_dev131 (d0 : Dev nD) : Nat :=
  let c0_i32_3452 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3451 : BitVec 32 := 1#32
  let v3007 : BitVec 32 := Scalar.muli v33 c1_i32_3451
  let v3008 : BitVec 32 := Scalar.addi c0_i32_3452 v3007
  v3008.toNat
def k0_dev132 (d0 : Dev nD) : Nat :=
  let c0_i32_3455 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3454 : BitVec 32 := 1#32
  let v3009 : BitVec 32 := Scalar.muli v19 c1_i32_3454
  let v3010 : BitVec 32 := Scalar.addi c0_i32_3455 v3009
  v3010.toNat
def k0_dev133 (d0 : Dev nD) : Nat :=
  let c0_i32_3467 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3466 : BitVec 32 := 1#32
  let v3011 : BitVec 32 := Scalar.muli v19 c1_i32_3466
  let v3012 : BitVec 32 := Scalar.addi c0_i32_3467 v3011
  v3012.toNat
def k0_dev134 (d0 : Dev nD) : Nat :=
  let c0_i32_3479 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3478 : BitVec 32 := 1#32
  let v3021 : BitVec 32 := Scalar.muli v33 c1_i32_3478
  let v3022 : BitVec 32 := Scalar.addi c0_i32_3479 v3021
  v3022.toNat
def k0_dev135 (d0 : Dev nD) : Nat :=
  let c0_i32_3554 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3553 : BitVec 32 := 1#32
  let v3089 : BitVec 32 := Scalar.muli v33 c1_i32_3553
  let v3090 : BitVec 32 := Scalar.addi c0_i32_3554 v3089
  v3090.toNat
def k0_dev136 (d0 : Dev nD) : Nat :=
  let c0_i32_3557 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3556 : BitVec 32 := 1#32
  let v3091 : BitVec 32 := Scalar.muli v19 c1_i32_3556
  let v3092 : BitVec 32 := Scalar.addi c0_i32_3557 v3091
  v3092.toNat
def k0_dev137 (d0 : Dev nD) : Nat :=
  let c0_i32_3569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3568 : BitVec 32 := 1#32
  let v3093 : BitVec 32 := Scalar.muli v19 c1_i32_3568
  let v3094 : BitVec 32 := Scalar.addi c0_i32_3569 v3093
  v3094.toNat
def k0_dev138 (d0 : Dev nD) : Nat :=
  let c0_i32_3581 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3580 : BitVec 32 := 1#32
  let v3103 : BitVec 32 := Scalar.muli v33 c1_i32_3580
  let v3104 : BitVec 32 := Scalar.addi c0_i32_3581 v3103
  v3104.toNat
def k0_dev139 (d0 : Dev nD) : Nat :=
  let c0_i32_3656 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3655 : BitVec 32 := 1#32
  let v3171 : BitVec 32 := Scalar.muli v33 c1_i32_3655
  let v3172 : BitVec 32 := Scalar.addi c0_i32_3656 v3171
  v3172.toNat
def k0_dev140 (d0 : Dev nD) : Nat :=
  let c0_i32_3659 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3658 : BitVec 32 := 1#32
  let v3173 : BitVec 32 := Scalar.muli v19 c1_i32_3658
  let v3174 : BitVec 32 := Scalar.addi c0_i32_3659 v3173
  v3174.toNat
def k0_dev141 (d0 : Dev nD) : Nat :=
  let c0_i32_3671 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3670 : BitVec 32 := 1#32
  let v3175 : BitVec 32 := Scalar.muli v19 c1_i32_3670
  let v3176 : BitVec 32 := Scalar.addi c0_i32_3671 v3175
  v3176.toNat
def k0_dev142 (d0 : Dev nD) : Nat :=
  let c0_i32_3683 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3682 : BitVec 32 := 1#32
  let v3185 : BitVec 32 := Scalar.muli v33 c1_i32_3682
  let v3186 : BitVec 32 := Scalar.addi c0_i32_3683 v3185
  v3186.toNat
def k0_dev143 (d0 : Dev nD) : Nat :=
  let c0_i32_3758 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3757 : BitVec 32 := 1#32
  let v3253 : BitVec 32 := Scalar.muli v33 c1_i32_3757
  let v3254 : BitVec 32 := Scalar.addi c0_i32_3758 v3253
  v3254.toNat
def k0_dev144 (d0 : Dev nD) : Nat :=
  let c0_i32_3761 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3760 : BitVec 32 := 1#32
  let v3255 : BitVec 32 := Scalar.muli v19 c1_i32_3760
  let v3256 : BitVec 32 := Scalar.addi c0_i32_3761 v3255
  v3256.toNat
def k0_dev145 (d0 : Dev nD) : Nat :=
  let c0_i32_3773 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3772 : BitVec 32 := 1#32
  let v3257 : BitVec 32 := Scalar.muli v19 c1_i32_3772
  let v3258 : BitVec 32 := Scalar.addi c0_i32_3773 v3257
  v3258.toNat
def k0_dev146 (d0 : Dev nD) : Nat :=
  let c0_i32_3785 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3784 : BitVec 32 := 1#32
  let v3267 : BitVec 32 := Scalar.muli v33 c1_i32_3784
  let v3268 : BitVec 32 := Scalar.addi c0_i32_3785 v3267
  v3268.toNat
def k0_dev147 (d0 : Dev nD) : Nat :=
  let c0_i32_3880 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3879 : BitVec 32 := 1#32
  let v3365 : BitVec 32 := Scalar.muli v33 c1_i32_3879
  let v3366 : BitVec 32 := Scalar.addi c0_i32_3880 v3365
  v3366.toNat
def k0_dev148 (d0 : Dev nD) : Nat :=
  let c0_i32_3883 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3882 : BitVec 32 := 1#32
  let v3367 : BitVec 32 := Scalar.muli v19 c1_i32_3882
  let v3368 : BitVec 32 := Scalar.addi c0_i32_3883 v3367
  v3368.toNat
def k0_dev149 (d0 : Dev nD) : Nat :=
  let c0_i32_3895 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3894 : BitVec 32 := 1#32
  let v3369 : BitVec 32 := Scalar.muli v19 c1_i32_3894
  let v3370 : BitVec 32 := Scalar.addi c0_i32_3895 v3369
  v3370.toNat
def k0_dev150 (d0 : Dev nD) : Nat :=
  let c0_i32_3907 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3906 : BitVec 32 := 1#32
  let v3379 : BitVec 32 := Scalar.muli v33 c1_i32_3906
  let v3380 : BitVec 32 := Scalar.addi c0_i32_3907 v3379
  v3380.toNat
def k0_dev151 (d0 : Dev nD) : Nat :=
  let c0_i32_3982 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_3981 : BitVec 32 := 1#32
  let v3447 : BitVec 32 := Scalar.muli v33 c1_i32_3981
  let v3448 : BitVec 32 := Scalar.addi c0_i32_3982 v3447
  v3448.toNat
def k0_dev152 (d0 : Dev nD) : Nat :=
  let c0_i32_3985 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3984 : BitVec 32 := 1#32
  let v3449 : BitVec 32 := Scalar.muli v19 c1_i32_3984
  let v3450 : BitVec 32 := Scalar.addi c0_i32_3985 v3449
  v3450.toNat
def k0_dev153 (d0 : Dev nD) : Nat :=
  let c0_i32_3997 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3996 : BitVec 32 := 1#32
  let v3451 : BitVec 32 := Scalar.muli v19 c1_i32_3996
  let v3452 : BitVec 32 := Scalar.addi c0_i32_3997 v3451
  v3452.toNat
def k0_dev154 (d0 : Dev nD) : Nat :=
  let c0_i32_4009 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4008 : BitVec 32 := 1#32
  let v3461 : BitVec 32 := Scalar.muli v33 c1_i32_4008
  let v3462 : BitVec 32 := Scalar.addi c0_i32_4009 v3461
  v3462.toNat
def k0_dev155 (d0 : Dev nD) : Nat :=
  let c0_i32_4084 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4083 : BitVec 32 := 1#32
  let v3529 : BitVec 32 := Scalar.muli v33 c1_i32_4083
  let v3530 : BitVec 32 := Scalar.addi c0_i32_4084 v3529
  v3530.toNat
def k0_dev156 (d0 : Dev nD) : Nat :=
  let c0_i32_4087 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4086 : BitVec 32 := 1#32
  let v3531 : BitVec 32 := Scalar.muli v19 c1_i32_4086
  let v3532 : BitVec 32 := Scalar.addi c0_i32_4087 v3531
  v3532.toNat
def k0_dev157 (d0 : Dev nD) : Nat :=
  let c0_i32_4099 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4098 : BitVec 32 := 1#32
  let v3533 : BitVec 32 := Scalar.muli v19 c1_i32_4098
  let v3534 : BitVec 32 := Scalar.addi c0_i32_4099 v3533
  v3534.toNat
def k0_dev158 (d0 : Dev nD) : Nat :=
  let c0_i32_4111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4110 : BitVec 32 := 1#32
  let v3543 : BitVec 32 := Scalar.muli v33 c1_i32_4110
  let v3544 : BitVec 32 := Scalar.addi c0_i32_4111 v3543
  v3544.toNat
def k0_dev159 (d0 : Dev nD) : Nat :=
  let c0_i32_4186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4185 : BitVec 32 := 1#32
  let v3611 : BitVec 32 := Scalar.muli v33 c1_i32_4185
  let v3612 : BitVec 32 := Scalar.addi c0_i32_4186 v3611
  v3612.toNat
def k0_dev160 (d0 : Dev nD) : Nat :=
  let c0_i32_4189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4188 : BitVec 32 := 1#32
  let v3613 : BitVec 32 := Scalar.muli v19 c1_i32_4188
  let v3614 : BitVec 32 := Scalar.addi c0_i32_4189 v3613
  v3614.toNat
def k0_dev161 (d0 : Dev nD) : Nat :=
  let c0_i32_4201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4200 : BitVec 32 := 1#32
  let v3615 : BitVec 32 := Scalar.muli v19 c1_i32_4200
  let v3616 : BitVec 32 := Scalar.addi c0_i32_4201 v3615
  v3616.toNat
def k0_dev162 (d0 : Dev nD) : Nat :=
  let c0_i32_4213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4212 : BitVec 32 := 1#32
  let v3625 : BitVec 32 := Scalar.muli v33 c1_i32_4212
  let v3626 : BitVec 32 := Scalar.addi c0_i32_4213 v3625
  v3626.toNat
def k0_dev163 (d0 : Dev nD) : Nat :=
  let c0_i32_4288 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4287 : BitVec 32 := 1#32
  let v3693 : BitVec 32 := Scalar.muli v33 c1_i32_4287
  let v3694 : BitVec 32 := Scalar.addi c0_i32_4288 v3693
  v3694.toNat
def k0_dev164 (d0 : Dev nD) : Nat :=
  let c0_i32_4291 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4290 : BitVec 32 := 1#32
  let v3695 : BitVec 32 := Scalar.muli v19 c1_i32_4290
  let v3696 : BitVec 32 := Scalar.addi c0_i32_4291 v3695
  v3696.toNat
def k0_dev165 (d0 : Dev nD) : Nat :=
  let c0_i32_4303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4302 : BitVec 32 := 1#32
  let v3697 : BitVec 32 := Scalar.muli v19 c1_i32_4302
  let v3698 : BitVec 32 := Scalar.addi c0_i32_4303 v3697
  v3698.toNat
def k0_dev166 (d0 : Dev nD) : Nat :=
  let c0_i32_4315 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4314 : BitVec 32 := 1#32
  let v3707 : BitVec 32 := Scalar.muli v33 c1_i32_4314
  let v3708 : BitVec 32 := Scalar.addi c0_i32_4315 v3707
  v3708.toNat
def k0_dev167 (d0 : Dev nD) : Nat :=
  let c0_i32_4390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4389 : BitVec 32 := 1#32
  let v3775 : BitVec 32 := Scalar.muli v33 c1_i32_4389
  let v3776 : BitVec 32 := Scalar.addi c0_i32_4390 v3775
  v3776.toNat
def k0_dev168 (d0 : Dev nD) : Nat :=
  let c0_i32_4393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4392 : BitVec 32 := 1#32
  let v3777 : BitVec 32 := Scalar.muli v19 c1_i32_4392
  let v3778 : BitVec 32 := Scalar.addi c0_i32_4393 v3777
  v3778.toNat
def k0_dev169 (d0 : Dev nD) : Nat :=
  let c0_i32_4405 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4404 : BitVec 32 := 1#32
  let v3779 : BitVec 32 := Scalar.muli v19 c1_i32_4404
  let v3780 : BitVec 32 := Scalar.addi c0_i32_4405 v3779
  v3780.toNat
def k0_dev170 (d0 : Dev nD) : Nat :=
  let c0_i32_4417 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4416 : BitVec 32 := 1#32
  let v3789 : BitVec 32 := Scalar.muli v33 c1_i32_4416
  let v3790 : BitVec 32 := Scalar.addi c0_i32_4417 v3789
  v3790.toNat
def k0_dev171 (d0 : Dev nD) : Nat :=
  let c0_i32_4492 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4491 : BitVec 32 := 1#32
  let v3857 : BitVec 32 := Scalar.muli v33 c1_i32_4491
  let v3858 : BitVec 32 := Scalar.addi c0_i32_4492 v3857
  v3858.toNat
def k0_dev172 (d0 : Dev nD) : Nat :=
  let c0_i32_4495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4494 : BitVec 32 := 1#32
  let v3859 : BitVec 32 := Scalar.muli v19 c1_i32_4494
  let v3860 : BitVec 32 := Scalar.addi c0_i32_4495 v3859
  v3860.toNat
def k0_dev173 (d0 : Dev nD) : Nat :=
  let c0_i32_4507 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4506 : BitVec 32 := 1#32
  let v3861 : BitVec 32 := Scalar.muli v19 c1_i32_4506
  let v3862 : BitVec 32 := Scalar.addi c0_i32_4507 v3861
  v3862.toNat
def k0_dev174 (d0 : Dev nD) : Nat :=
  let c0_i32_4519 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4518 : BitVec 32 := 1#32
  let v3871 : BitVec 32 := Scalar.muli v33 c1_i32_4518
  let v3872 : BitVec 32 := Scalar.addi c0_i32_4519 v3871
  v3872.toNat
def k0_dev175 (d0 : Dev nD) : Nat :=
  let c0_i32_4594 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4593 : BitVec 32 := 1#32
  let v3939 : BitVec 32 := Scalar.muli v33 c1_i32_4593
  let v3940 : BitVec 32 := Scalar.addi c0_i32_4594 v3939
  v3940.toNat
def k0_dev176 (d0 : Dev nD) : Nat :=
  let c0_i32_4597 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4596 : BitVec 32 := 1#32
  let v3941 : BitVec 32 := Scalar.muli v19 c1_i32_4596
  let v3942 : BitVec 32 := Scalar.addi c0_i32_4597 v3941
  v3942.toNat
def k0_dev177 (d0 : Dev nD) : Nat :=
  let c0_i32_4609 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4608 : BitVec 32 := 1#32
  let v3943 : BitVec 32 := Scalar.muli v19 c1_i32_4608
  let v3944 : BitVec 32 := Scalar.addi c0_i32_4609 v3943
  v3944.toNat
def k0_dev178 (d0 : Dev nD) : Nat :=
  let c0_i32_4621 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4620 : BitVec 32 := 1#32
  let v3953 : BitVec 32 := Scalar.muli v33 c1_i32_4620
  let v3954 : BitVec 32 := Scalar.addi c0_i32_4621 v3953
  v3954.toNat
def k0_dev179 (d0 : Dev nD) : Nat :=
  let c0_i32_4716 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4715 : BitVec 32 := 1#32
  let v4051 : BitVec 32 := Scalar.muli v33 c1_i32_4715
  let v4052 : BitVec 32 := Scalar.addi c0_i32_4716 v4051
  v4052.toNat
def k0_dev180 (d0 : Dev nD) : Nat :=
  let c0_i32_4719 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4718 : BitVec 32 := 1#32
  let v4053 : BitVec 32 := Scalar.muli v19 c1_i32_4718
  let v4054 : BitVec 32 := Scalar.addi c0_i32_4719 v4053
  v4054.toNat
def k0_dev181 (d0 : Dev nD) : Nat :=
  let c0_i32_4731 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4730 : BitVec 32 := 1#32
  let v4055 : BitVec 32 := Scalar.muli v19 c1_i32_4730
  let v4056 : BitVec 32 := Scalar.addi c0_i32_4731 v4055
  v4056.toNat
def k0_dev182 (d0 : Dev nD) : Nat :=
  let c0_i32_4743 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4742 : BitVec 32 := 1#32
  let v4065 : BitVec 32 := Scalar.muli v33 c1_i32_4742
  let v4066 : BitVec 32 := Scalar.addi c0_i32_4743 v4065
  v4066.toNat
def k0_dev183 (d0 : Dev nD) : Nat :=
  let c0_i32_4818 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4817 : BitVec 32 := 1#32
  let v4133 : BitVec 32 := Scalar.muli v33 c1_i32_4817
  let v4134 : BitVec 32 := Scalar.addi c0_i32_4818 v4133
  v4134.toNat
def k0_dev184 (d0 : Dev nD) : Nat :=
  let c0_i32_4821 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4820 : BitVec 32 := 1#32
  let v4135 : BitVec 32 := Scalar.muli v19 c1_i32_4820
  let v4136 : BitVec 32 := Scalar.addi c0_i32_4821 v4135
  v4136.toNat
def k0_dev185 (d0 : Dev nD) : Nat :=
  let c0_i32_4833 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4832 : BitVec 32 := 1#32
  let v4137 : BitVec 32 := Scalar.muli v19 c1_i32_4832
  let v4138 : BitVec 32 := Scalar.addi c0_i32_4833 v4137
  v4138.toNat
def k0_dev186 (d0 : Dev nD) : Nat :=
  let c0_i32_4845 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4844 : BitVec 32 := 1#32
  let v4147 : BitVec 32 := Scalar.muli v33 c1_i32_4844
  let v4148 : BitVec 32 := Scalar.addi c0_i32_4845 v4147
  v4148.toNat
def k0_dev187 (d0 : Dev nD) : Nat :=
  let c0_i32_4920 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4919 : BitVec 32 := 1#32
  let v4215 : BitVec 32 := Scalar.muli v33 c1_i32_4919
  let v4216 : BitVec 32 := Scalar.addi c0_i32_4920 v4215
  v4216.toNat
def k0_dev188 (d0 : Dev nD) : Nat :=
  let c0_i32_4923 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4922 : BitVec 32 := 1#32
  let v4217 : BitVec 32 := Scalar.muli v19 c1_i32_4922
  let v4218 : BitVec 32 := Scalar.addi c0_i32_4923 v4217
  v4218.toNat
def k0_dev189 (d0 : Dev nD) : Nat :=
  let c0_i32_4935 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_4934 : BitVec 32 := 1#32
  let v4219 : BitVec 32 := Scalar.muli v19 c1_i32_4934
  let v4220 : BitVec 32 := Scalar.addi c0_i32_4935 v4219
  v4220.toNat
def k0_dev190 (d0 : Dev nD) : Nat :=
  let c0_i32_4947 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_4946 : BitVec 32 := 1#32
  let v4229 : BitVec 32 := Scalar.muli v33 c1_i32_4946
  let v4230 : BitVec 32 := Scalar.addi c0_i32_4947 v4229
  v4230.toNat
def k0_dev191 (d0 : Dev nD) : Nat :=
  let c0_i32_5022 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5021 : BitVec 32 := 1#32
  let v4297 : BitVec 32 := Scalar.muli v33 c1_i32_5021
  let v4298 : BitVec 32 := Scalar.addi c0_i32_5022 v4297
  v4298.toNat
def k0_dev192 (d0 : Dev nD) : Nat :=
  let c0_i32_5025 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5024 : BitVec 32 := 1#32
  let v4299 : BitVec 32 := Scalar.muli v19 c1_i32_5024
  let v4300 : BitVec 32 := Scalar.addi c0_i32_5025 v4299
  v4300.toNat
def k0_dev193 (d0 : Dev nD) : Nat :=
  let c0_i32_5037 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5036 : BitVec 32 := 1#32
  let v4301 : BitVec 32 := Scalar.muli v19 c1_i32_5036
  let v4302 : BitVec 32 := Scalar.addi c0_i32_5037 v4301
  v4302.toNat
def k0_dev194 (d0 : Dev nD) : Nat :=
  let c0_i32_5049 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5048 : BitVec 32 := 1#32
  let v4311 : BitVec 32 := Scalar.muli v33 c1_i32_5048
  let v4312 : BitVec 32 := Scalar.addi c0_i32_5049 v4311
  v4312.toNat
def k0_dev195 (d0 : Dev nD) : Nat :=
  let c0_i32_5124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5123 : BitVec 32 := 1#32
  let v4379 : BitVec 32 := Scalar.muli v33 c1_i32_5123
  let v4380 : BitVec 32 := Scalar.addi c0_i32_5124 v4379
  v4380.toNat
def k0_dev196 (d0 : Dev nD) : Nat :=
  let c0_i32_5127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5126 : BitVec 32 := 1#32
  let v4381 : BitVec 32 := Scalar.muli v19 c1_i32_5126
  let v4382 : BitVec 32 := Scalar.addi c0_i32_5127 v4381
  v4382.toNat
def k0_dev197 (d0 : Dev nD) : Nat :=
  let c0_i32_5139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5138 : BitVec 32 := 1#32
  let v4383 : BitVec 32 := Scalar.muli v19 c1_i32_5138
  let v4384 : BitVec 32 := Scalar.addi c0_i32_5139 v4383
  v4384.toNat
def k0_dev198 (d0 : Dev nD) : Nat :=
  let c0_i32_5151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5150 : BitVec 32 := 1#32
  let v4393 : BitVec 32 := Scalar.muli v33 c1_i32_5150
  let v4394 : BitVec 32 := Scalar.addi c0_i32_5151 v4393
  v4394.toNat
def k0_dev199 (d0 : Dev nD) : Nat :=
  let c0_i32_5226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5225 : BitVec 32 := 1#32
  let v4461 : BitVec 32 := Scalar.muli v33 c1_i32_5225
  let v4462 : BitVec 32 := Scalar.addi c0_i32_5226 v4461
  v4462.toNat
def k0_dev200 (d0 : Dev nD) : Nat :=
  let c0_i32_5229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5228 : BitVec 32 := 1#32
  let v4463 : BitVec 32 := Scalar.muli v19 c1_i32_5228
  let v4464 : BitVec 32 := Scalar.addi c0_i32_5229 v4463
  v4464.toNat
def k0_dev201 (d0 : Dev nD) : Nat :=
  let c0_i32_5241 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5240 : BitVec 32 := 1#32
  let v4465 : BitVec 32 := Scalar.muli v19 c1_i32_5240
  let v4466 : BitVec 32 := Scalar.addi c0_i32_5241 v4465
  v4466.toNat
def k0_dev202 (d0 : Dev nD) : Nat :=
  let c0_i32_5253 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5252 : BitVec 32 := 1#32
  let v4475 : BitVec 32 := Scalar.muli v33 c1_i32_5252
  let v4476 : BitVec 32 := Scalar.addi c0_i32_5253 v4475
  v4476.toNat
def k0_dev203 (d0 : Dev nD) : Nat :=
  let c0_i32_5328 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5327 : BitVec 32 := 1#32
  let v4543 : BitVec 32 := Scalar.muli v33 c1_i32_5327
  let v4544 : BitVec 32 := Scalar.addi c0_i32_5328 v4543
  v4544.toNat
def k0_dev204 (d0 : Dev nD) : Nat :=
  let c0_i32_5331 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5330 : BitVec 32 := 1#32
  let v4545 : BitVec 32 := Scalar.muli v19 c1_i32_5330
  let v4546 : BitVec 32 := Scalar.addi c0_i32_5331 v4545
  v4546.toNat
def k0_dev205 (d0 : Dev nD) : Nat :=
  let c0_i32_5343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5342 : BitVec 32 := 1#32
  let v4547 : BitVec 32 := Scalar.muli v19 c1_i32_5342
  let v4548 : BitVec 32 := Scalar.addi c0_i32_5343 v4547
  v4548.toNat
def k0_dev206 (d0 : Dev nD) : Nat :=
  let c0_i32_5355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5354 : BitVec 32 := 1#32
  let v4557 : BitVec 32 := Scalar.muli v33 c1_i32_5354
  let v4558 : BitVec 32 := Scalar.addi c0_i32_5355 v4557
  v4558.toNat
def k0_dev207 (d0 : Dev nD) : Nat :=
  let c0_i32_5430 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5429 : BitVec 32 := 1#32
  let v4625 : BitVec 32 := Scalar.muli v33 c1_i32_5429
  let v4626 : BitVec 32 := Scalar.addi c0_i32_5430 v4625
  v4626.toNat
def k0_dev208 (d0 : Dev nD) : Nat :=
  let c0_i32_5433 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5432 : BitVec 32 := 1#32
  let v4627 : BitVec 32 := Scalar.muli v19 c1_i32_5432
  let v4628 : BitVec 32 := Scalar.addi c0_i32_5433 v4627
  v4628.toNat
def k0_dev209 (d0 : Dev nD) : Nat :=
  let c0_i32_5445 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_5444 : BitVec 32 := 1#32
  let v4629 : BitVec 32 := Scalar.muli v19 c1_i32_5444
  let v4630 : BitVec 32 := Scalar.addi c0_i32_5445 v4629
  v4630.toNat
def k0_dev210 (d0 : Dev nD) : Nat :=
  let c0_i32_5457 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_5456 : BitVec 32 := 1#32
  let v4639 : BitVec 32 := Scalar.muli v33 c1_i32_5456
  let v4640 : BitVec 32 := Scalar.addi c0_i32_5457 v4639
  v4640.toNat
def k0_dev211 (d0 : Dev nD) : Nat :=
  let c0_i32_5996 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5975 : BitVec 32 := 4#32
  let c0_i32_5976 : BitVec 32 := 0#32
  let v5097 : BitVec 1 := Scalar.cmpi .eq c4_i32_5975 c0_i32_5976
  let c1_i32_5977 : BitVec 32 := 1#32
  let v5098 : BitVec 32 := Scalar.select v5097 c1_i32_5977 c4_i32_5975
  let v5099 : BitVec 32 := Scalar.remsi v2 v5098
  let c0_i32_5979 : BitVec 32 := 0#32
  let v5101 : BitVec 1 := Scalar.cmpi .slt v5099 c0_i32_5979
  let c0_i32_5980 : BitVec 32 := 0#32
  let v5102 : BitVec 1 := Scalar.cmpi .slt v5098 c0_i32_5980
  let v5103 : BitVec 1 := Scalar.xori v5101 v5102
  let c0_i32_5978 : BitVec 32 := 0#32
  let v5100 : BitVec 1 := Scalar.cmpi .ne v5099 c0_i32_5978
  let v5104 : BitVec 1 := Scalar.andi v5103 v5100
  let v5105 : BitVec 32 := Scalar.addi v5099 v5098
  let v5106 : BitVec 32 := Scalar.select v5104 v5105 v5099
  let v5107 : BitVec 32 := Scalar.subi v2 v5106
  let c1_i32_5981 : BitVec 32 := 1#32
  let v5108 : BitVec 32 := Scalar.xori v5106 c1_i32_5981
  let v5109 : BitVec 32 := Scalar.addi v5107 v5108
  let c1_i32_5995 : BitVec 32 := 1#32
  let v5127 : BitVec 32 := Scalar.muli v5109 c1_i32_5995
  let v5128 : BitVec 32 := Scalar.addi c0_i32_5996 v5127
  v5128.toNat
def k0_dev212 (d0 : Dev nD) : Nat :=
  let c0_i32_6023 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5975 : BitVec 32 := 4#32
  let c0_i32_5976 : BitVec 32 := 0#32
  let v5097 : BitVec 1 := Scalar.cmpi .eq c4_i32_5975 c0_i32_5976
  let c1_i32_5977 : BitVec 32 := 1#32
  let v5098 : BitVec 32 := Scalar.select v5097 c1_i32_5977 c4_i32_5975
  let v5099 : BitVec 32 := Scalar.remsi v2 v5098
  let c0_i32_5979 : BitVec 32 := 0#32
  let v5101 : BitVec 1 := Scalar.cmpi .slt v5099 c0_i32_5979
  let c0_i32_5980 : BitVec 32 := 0#32
  let v5102 : BitVec 1 := Scalar.cmpi .slt v5098 c0_i32_5980
  let v5103 : BitVec 1 := Scalar.xori v5101 v5102
  let c0_i32_5978 : BitVec 32 := 0#32
  let v5100 : BitVec 1 := Scalar.cmpi .ne v5099 c0_i32_5978
  let v5104 : BitVec 1 := Scalar.andi v5103 v5100
  let v5105 : BitVec 32 := Scalar.addi v5099 v5098
  let v5106 : BitVec 32 := Scalar.select v5104 v5105 v5099
  let v5107 : BitVec 32 := Scalar.subi v2 v5106
  let c3_i32_5982 : BitVec 32 := 3#32
  let v5110 : BitVec 32 := Scalar.subi c3_i32_5982 v5106
  let v5111 : BitVec 32 := Scalar.addi v5107 v5110
  let c1_i32_6022 : BitVec 32 := 1#32
  let v5152 : BitVec 32 := Scalar.muli v5111 c1_i32_6022
  let v5153 : BitVec 32 := Scalar.addi c0_i32_6023 v5152
  v5153.toNat
def k0_dev213 (d0 : Dev nD) : Nat :=
  let c0_i32_6050 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5983 : BitVec 32 := 4#32
  let v5112 : BitVec 32 := Scalar.addi v2 c4_i32_5983
  let c8_i32_5984 : BitVec 32 := 8#32
  let c0_i32_5985 : BitVec 32 := 0#32
  let v5113 : BitVec 1 := Scalar.cmpi .eq c8_i32_5984 c0_i32_5985
  let c1_i32_5986 : BitVec 32 := 1#32
  let v5114 : BitVec 32 := Scalar.select v5113 c1_i32_5986 c8_i32_5984
  let v5115 : BitVec 32 := Scalar.remsi v5112 v5114
  let c0_i32_5988 : BitVec 32 := 0#32
  let v5117 : BitVec 1 := Scalar.cmpi .slt v5115 c0_i32_5988
  let c0_i32_5989 : BitVec 32 := 0#32
  let v5118 : BitVec 1 := Scalar.cmpi .slt v5114 c0_i32_5989
  let v5119 : BitVec 1 := Scalar.xori v5117 v5118
  let c0_i32_5987 : BitVec 32 := 0#32
  let v5116 : BitVec 1 := Scalar.cmpi .ne v5115 c0_i32_5987
  let v5120 : BitVec 1 := Scalar.andi v5119 v5116
  let v5121 : BitVec 32 := Scalar.addi v5115 v5114
  let v5122 : BitVec 32 := Scalar.select v5120 v5121 v5115
  let c1_i32_6049 : BitVec 32 := 1#32
  let v5177 : BitVec 32 := Scalar.muli v5122 c1_i32_6049
  let v5178 : BitVec 32 := Scalar.addi c0_i32_6050 v5177
  v5178.toNat
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .bf16⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .f32⟩
  | .hbm, ⟨25, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩

abbrev nD : Nat := 1
abbrev τ : Topo := Topo.v7x

variable {F : FTy → Type} [FloatOps F]
-- ==== Proof.KernelIdeal.Program.lean ====
/- The kernel's body as a program over the phases of its ring.

   Device `d` stands on a ring of eight and keeps two buffers, one per direction. Send `j = 8 s + sc` of a
   direction (`s < 7` the step, `sc < 8` the stripe) copies stripe `(j + 8) % 16` of the sender's buffer into
   stripe `j % 16` of the receiver's: slot `j % 16 / 8`, columns `512 * (j % 8)`. The functions below write the
   printed body as: the barrier, eight first sends, the device's own rows of the product, forty-eight phases that
   each wait for a stripe, add to it and pass it on, the last eight waits, the maximum exchanged over three
   rounds, and the sixteen blocks scaled. -/
module

public import proofs.«01_k».proof.Proof.Gen.KernelIdeal.Skeleton
public import Idealize.ShloMosaic.Lib.Pipeline.Regions
public import Idealize.ShloMosaic.Lib.Tactic

@[expose] public section

noncomputable section

namespace Cert.KernelIdeal.Ring

open Idealize.ShloMosaic Idealize.ShloMosaic.TcCoe Idealize.SL.Sem
open Cert.KernelIdeal Cert.KernelIdeal.Gen

variable {F : FTy → Type} [FloatOps F]

/-- The programs the body is made of. -/
abbrev P (F : FTy → Type) := Prog (TpuEff nD τ sig (Elt F) Λ₀ .tc) PUnit

/-! ## The memrefs, rectangles and semaphores -/

/-- The staged operands and result. -/
abbrev xM : Memref sig .tc .vmem S4096x512 .bf16 := Memref.whole cc0_stg0_0
abbrev wM : Memref sig .tc .vmem S512x8192 .bf16 := Memref.whole cc0_stg1_0
abbrev oM : Memref sig .tc .vmem S512x8192 .f32 := Memref.whole cc0_stg2_0
/-- The running maximum, and the three rows its partners fill. -/
abbrev myM : Memref sig .tc .vmem S1x128 .f32 := Memref.whole cc0_scratch8
abbrev rxM : Memref sig .tc .vmem S3x1x128 .f32 := Memref.whole cc0_scratch9

/-- The two directions' buffers: `false` sends to the right, `true` to the left. -/
def buf : Bool → Memref sig .tc .vmem S2x512x4096 .bf16
  | false => Memref.whole cc0_scratch0
  | true => Memref.whole cc0_scratch1

theorem buf_whole : ∀ sd, (buf sd).IsWhole
  | false => Memref.isWhole_whole _
  | true => Memref.isWhole_whole _

theorem stripe_inb (q : ℕ) : ∀ a, (![q % 16 / 8, 0, 512 * (q % 8)] : Fin 3 → Nat) a + S1x512x512.size a ≤ S2x512x4096.size a := by
  intro a; fin_cases a <;> simp [Shape.size] <;> omega

/-- The rectangle of stripe `q` (modulo sixteen). -/
def stripeR (q : ℕ) : Rect S2x512x4096 := Rect.unit (s := S2x512x4096) ![q % 16 / 8, 0, 512 * (q % 8)] S1x512x512.size (stripe_inb q)

theorem col_inb (b : ℕ) : ∀ a, (![0, 512 * (b % 16)] : Fin 2 → Nat) a + S512x512.size a ≤ S512x8192.size a := by
  intro a; fin_cases a <;> simp [Shape.size] <;> omega

/-- Column block `b`. -/
def colR (b : ℕ) : Rect S512x8192 := Rect.unit (s := S512x8192) ![0, 512 * (b % 16)] S512x512.size (col_inb b)

/-- The 512 rows of the left operand that device `d` multiplies at step `s`. -/
def rowOff (sd : Bool) (d : Dev nD) (s : ℕ) : Fin 2 → ℕ :=
  match sd with
  | false => k0_off1 d (BitVec.ofNat 32 (s % 7))
  | true => k0_off2 d (BitVec.ofNat 32 (s % 7))

theorem row_inb (sd : Bool) (d : Dev nD) (s : ℕ) : ∀ a, rowOff sd d s a + S512x512.size a ≤ S4096x512.size a :=
  match sd with
  | false => k0_off1_inb d ⟨s % 7, Nat.mod_lt _ (by decide)⟩
  | true => k0_off2_inb d ⟨s % 7, Nat.mod_lt _ (by decide)⟩

def rowR (sd : Bool) (d : Dev nD) (s : ℕ) : Rect S4096x512 :=
  Rect.unit (s := S4096x512) (rowOff sd d s) S512x512.size (row_inb sd d s)

/-- The device's own rows. -/
def ownR (d : Dev nD) : Rect S4096x512 := Rect.unit (s := S4096x512) (k0_off3 d) S512x512.size (k0_off3_inb d)

/-- Stripe `q` as the copies name it. -/
def stripe (sd : Bool) (q : ℕ) : Memref sig .tc .vmem S512x512 .bf16 :=
  ((buf sd).slice (stripeR q) (fun _ => rfl)).squeeze S512x512 squeezes_S1x512x512_S512x512

theorem sem_inb (q : ℕ) : ∀ a, (![q % 16 / 8, q % 8] : Fin 2 → Nat) a + S1x1.size a ≤ S2x8.size a := by
  intro a; fin_cases a <;> simp [Shape.size] <;> omega

/-- Element `q` (modulo sixteen) of an array of semaphores. -/
def semAt (a : DmaSems sig S2x8) (q : ℕ) : DmaSem sig :=
  ((a.slice (Rect.unit (s := S2x8) ![q % 16 / 8, q % 8] S1x1.size (sem_inb q))).squeeze S_ squeezes_S1x1_S_).sem

/-- The arrays of send and receive semaphores, and the credits. -/
def ssems : Bool → DmaSems sig S2x8
  | false => cc0_scratch2
  | true => cc0_scratch4
def rsems : Bool → DmaSems sig S2x8
  | false => cc0_scratch3
  | true => cc0_scratch5
def crd : Bool → Sem sig
  | false => cc0_scratch6.sem
  | true => cc0_scratch7.sem

/-- The device the direction sends to, as the kernel computes it, and the one it receives from. -/
def toDev (sd : Bool) (d : Dev nD) : Dev nD :=
  match sd with
  | false => ⟨k0_dev3 d, k0_dev3_lt d⟩
  | true => ⟨k0_dev4 d, k0_dev4_lt d⟩
def fromDev (sd : Bool) (d : Dev nD) : Dev nD :=
  match sd with
  | false => ⟨k0_dev1 d, k0_dev1_lt d⟩
  | true => ⟨k0_dev2 d, k0_dev2_lt d⟩

theorem rows_packed (q : ℕ) : (stripeR q).PackedRows (EltTy.packing .bf16) := by
  have h : ∀ q : Fin 16, (stripeR q.1).PackedRows (EltTy.packing .bf16) := by decide
  have e : stripeR q = stripeR (q % 16) := by
    simp only [stripeR, Nat.mod_mod, Nat.mod_mod_of_dvd q (by decide : 8 ∣ 16)]
  rw [e]; exact h ⟨q % 16, Nat.mod_lt _ (by decide)⟩

theorem rows_words (q : ℕ) : (stripeR q).WholeWords (EltTy.packing .bf16) := by
  have h : ∀ q : Fin 16, (stripeR q.1).WholeWords (EltTy.packing .bf16) := by decide
  have e : stripeR q = stripeR (q % 16) := by
    simp only [stripeR, Nat.mod_mod, Nat.mod_mod_of_dvd q (by decide : 8 ∣ 16)]
  rw [e]; exact h ⟨q % 16, Nat.mod_lt _ (by decide)⟩

theorem stripe_words (sd : Bool) (q : ℕ) : (stripe sd q).view.WordExact :=
  ((buf_whole sd).wordExact_slice rfl _ (rows_words q)).reshape _ _

/-! ## The values stored -/

/-- A product of two blocks. -/
def dotB (x w : Vec F S512x512 .bf16) : FVec F S512x512 .f32 :=
  matmul dot_S512x512_S512x512_S512x512_1_0_0_1_n_n none (shapeCast S512x512 x shapeCasts_S512x512_S512x512)
    (shapeCast S512x512 w shapeCasts_S512x512_S512x512) (constant S512x512 .f32 0x00000000#32)

/-- The first stripe of a direction: a product alone. -/
def seedV (x w : Vec F S512x512 .bf16) : FVec F S1x512x512 .bf16 :=
  shapeCast S1x512x512 (truncf .bf16 (dotB x w) bitsLt_bf16_f32) shapeCasts_S512x512_S1x512x512

/-- A received stripe with the device's own product added. -/
def accV (b : Vec F S1x512x512 .bf16) (x w : Vec F S512x512 .bf16) : FVec F S1x512x512 .bf16 :=
  shapeCast S1x512x512
    (truncf .bf16 (addf (extf .f32 (shapeCast S512x512 b shapeCasts_S1x512x512_S512x512) bitsLt_bf16_f32) (dotB x w)) bitsLt_bf16_f32)
    shapeCasts_S512x512_S1x512x512

/-- The last stripe added to the device's own product, its negative part dropped. -/
def finV (o : Vec F S512x512 .f32) (b : Vec F S1x512x512 .bf16) : FVec F S512x512 .f32 :=
  maximumf (addf (shapeCast S512x512 o shapeCasts_S512x512_S512x512)
      (extf .f32 (shapeCast S512x512 b shapeCasts_S1x512x512_S512x512) bitsLt_bf16_f32))
    (broadcast S512x512 (Scalar.ofBits .f32 0x00000000#32))

/-- The larger of a number and a block's maximum. -/
def maxV (a : F .f32) (v : FVec F S512x512 .f32) : F .f32 :=
  Scalar.maximumf a (extractAt ![0, 0, 0]
    (shapeCast S1x1x1 (multiReduction .maximumf [1, 2] S1 (shapeCast S1x512x512 v shapeCasts_S512x512_S1x512x512) 0xFF800000#32
      reduces_S1x512x512_S1 (.inl rfl) rfl) shapeCasts_S1_S1x1x1) inpos_S1x1x1_p0_0_0)

/-- A number in every lane. -/
def lanesV (a : F .f32) : FVec F S1x128 .f32 :=
  shapeCast S1x128 (broadcast S1x128 a) shapeCasts_S1x128_S1x128

/-- The lanewise maximum with a received row. -/
def exV (a : Vec F S1x128 .f32) (b : Vec F S1x1x128 .f32) : FVec F S1x128 .f32 :=
  shapeCast S1x128 (maximumf a (shapeCast S1x128 b shapeCasts_S1x1x128_S1x128)) shapeCasts_S1x128_S1x128

/-! ## The pieces of the body -/

section Pieces

variable (d : Dev nD)

/-- Waits for send `j`'s stripe. -/
def recvK (sd : Bool) (j : ℕ) (rest : P F) : P F :=
  .op (.waitDma2 (semAt (rsems sd) j) (stripe sd (j + 8)) (stripe sd j) (stripe_words sd (j + 8)) (stripe_words sd j)) fun _ => rest

/-- Waits for send `j` to have left. -/
def sentK (sd : Bool) (j : ℕ) (rest : P F) : P F :=
  .op (.waitDma2 (semAt (ssems sd) j) (stripe sd j) (stripe sd (j + 8)) (stripe_words sd j) (stripe_words sd (j + 8))) fun _ => rest

/-- Send `j`. -/
def sendK (sd : Bool) (j : ℕ) (rest : P F) : P F :=
  .op (.enqueueDma (stripe sd (j + 8)) (.remote (Dev.tc (toDev sd d)) (stripe sd j) (.dma (semAt (ssems sd) j))) (.dma (semAt (rsems sd) j))
    (stripe_words sd (j + 8)) (stripe_words sd j) ⟨⟨rfl, Or.inl rfl⟩, trivial⟩) fun _ => rest

/-- Stores stripe `q`. -/
def putK (sd : Bool) (q : ℕ) (v : FVec F S1x512x512 .bf16) (rest : P F) : P F :=
  .op (.load (buf sd) (stripeR q).toLoadRect (View.loadsAt_vmem h_S1x512x512)) fun _ =>
  .op (.store (buf sd) (stripeR q) v Finset.univ
    (View.stores_vmem h_S1x512x512 ((buf_whole sd).storeExact_slice rfl _ (rows_packed q)) (fun _ => rfl)) (.inl rfl)) fun _ => rest

/-- The column block of a direction's stripe. -/
def colOf (sd : Bool) (q : ℕ) : ℕ := match sd with | false => q % 8 | true => 8 + q % 8

/-- Computes the first stripe `sc` of a direction. -/
def seedK (sd : Bool) (sc : ℕ) (rest : P F) : P F :=
  .op (.load xM (rowR sd d 0).toLoadRect (View.loadsAt_vmem h_S512x512)) fun x =>
  .op (.load wM (colR (colOf sd sc)).toLoadRect (View.loadsAt_vmem h_S512x512)) fun w =>
  putK sd (sc + 8) (seedV x w) rest

/-- Adds the device's product to received stripe `k`. -/
def accK (sd : Bool) (k : ℕ) (rest : P F) : P F :=
  .op (.load (buf sd) (stripeR k).toLoadRect (View.loadsAt_vmem h_S1x512x512)) fun b =>
  .op (.load xM (rowR sd d ((k + 8) / 8)).toLoadRect (View.loadsAt_vmem h_S512x512)) fun x =>
  .op (.load wM (colR (colOf sd k)).toLoadRect (View.loadsAt_vmem h_S512x512)) fun w =>
  putK sd k (accV b x w) rest

/-- Tells the device a direction receives from that a stripe is free again. -/
def giveK (sd : Bool) (rest : P F) : P F :=
  .op (.semSignal (fromDev sd d, .tc) (crd sd) (1#32 : BitVec 32).toInt) fun _ => rest

/-- Waits for a credit. -/
def takeK (sd : Bool) (rest : P F) : P F :=
  .op (.semWait (crd sd) (1#32 : BitVec 32).toInt) fun _ => rest

/-- The eight first sends, from the `n`th last on. -/
def seeds : ℕ → P F → P F
  | 0, rest => rest
  | n + 1, rest => seedK d false (7 - n) (seedK d true (7 - n) (sendK d false (7 - n) (sendK d true (7 - n) (seeds n rest))))

/-- The device's own product, a block of columns at a time. -/
def owns : ℕ → P F → P F
  | 0, rest => rest
  | n + 1, rest =>
    .op (.load xM (ownR d).toLoadRect (View.loadsAt_vmem h_S512x512)) fun x =>
    .op (.load wM (colR (15 - n)).toLoadRect (View.loadsAt_vmem h_S512x512)) fun w =>
    .op (.load oM (colR (15 - n)).toLoadRect (View.loadsAt_vmem h_S512x512)) fun _ =>
    .op (.store oM (colR (15 - n)) (dotB x w) Finset.univ (View.stores_vmem_bits_univ h_S512x512 rfl) (.inl rfl)) fun _ =>
    owns n rest

/-- Phase `k`. -/
def phaseK (k : ℕ) (rest : P F) : P F :=
  recvK false k (accK d false k (recvK true k (accK d true k (sentK false k (sentK true k
    (giveK d false (giveK d true (takeK false (takeK true (sendK d false (k + 8) (sendK d true (k + 8) rest)))))))))))

def phases : ℕ → P F → P F
  | 0, rest => rest
  | n + 1, rest => phaseK d (47 - n) (phases n rest)

/-- Receives the last stripe of column block `sc` of a direction and adds it to the device's own. -/
def finK (sd : Bool) (sc : ℕ) (a : F .f32) (rest : F .f32 → P F) : P F :=
  recvK sd (48 + sc) <|
  .op (.load oM (colR (colOf sd sc)).toLoadRect (View.loadsAt_vmem h_S512x512)) fun o =>
  .op (.load (buf sd) (stripeR sc).toLoadRect (View.loadsAt_vmem h_S1x512x512)) fun b =>
  .op (.load oM (colR (colOf sd sc)).toLoadRect (View.loadsAt_vmem h_S512x512)) fun _ =>
  .op (.store oM (colR (colOf sd sc)) (finV o b) Finset.univ (View.stores_vmem_bits_univ h_S512x512 rfl) (.inl rfl)) fun _ =>
  rest (maxV a (finV o b))

def fins : ℕ → F .f32 → (F .f32 → P F) → P F
  | 0, a, rest => rest a
  | n + 1, a, rest => finK false (7 - n) a fun a => finK true (7 - n) a fun a => fins n a rest

def sents : ℕ → P F → P F
  | 0, rest => rest
  | n + 1, rest => sentK false (55 - n) (sentK true (55 - n) (sents n rest))

/-! ### The exchange of the maximum -/

theorem rx_inb (h : ℕ) : ∀ a, (![h % 3, 0, 0] : Fin 3 → Nat) a + S1x1x128.size a ≤ S3x1x128.size a := by
  intro a; fin_cases a <;> simp [Shape.size] <;> omega

def rxR (h : ℕ) : Rect S3x1x128 := Rect.unit (s := S3x1x128) ![h % 3, 0, 0] S1x1x128.size (rx_inb h)
def rowAll : Rect S1x128 := Rect.unit (s := S1x128) ![0, 0] S1x128.size inb_S1x128_S1x128_0_0

/-- Row `h` as the copies name it. -/
def rx (h : ℕ) : Memref sig .tc .vmem S1x128 .f32 :=
  (rxM.slice (rxR h) (fun _ => rfl)).squeeze S1x128 squeezes_S1x1x128_S1x128

theorem ax_inb (h : ℕ) : ∀ a, (![h % 3] : Fin 1 → Nat) a + S1.size a ≤ S3.size a := by
  intro a; fin_cases a; simp [Shape.size]; omega

def axAt (a : DmaSems sig S3) (h : ℕ) : DmaSem sig :=
  ((a.slice (Rect.unit (s := S3) ![h % 3] S1.size (ax_inb h))).squeeze S_ squeezes_S1_S_).sem

/-- The partner of round `h`. -/
def partner (h : ℕ) : Dev nD :=
  match h with
  | 0 => ⟨k0_dev211 d, k0_dev211_lt d⟩
  | 1 => ⟨k0_dev212 d, k0_dev212_lt d⟩
  | _ => ⟨k0_dev213 d, k0_dev213_lt d⟩

theorem my_words : (myM).view.WordExact := (Memref.isWhole_whole cc0_scratch8).wordExact
theorem rx_words (h : ℕ) : (rx h).view.WordExact := (View.wordExact_bits rfl).reshape _ _

/-- Stores the running maximum. -/
def maxPutK (v : FVec F S1x128 .f32) (rest : P F) : P F :=
  .op (.load myM rowAll.toLoadRect (View.loadsAt_vmem h_S1x128)) fun _ =>
  .op (.store myM rowAll v Finset.univ (View.stores_vmem_bits_univ h_S1x128 rfl) (.inl rfl)) fun _ => rest

/-- Round `h`: the running maximum goes to the partner's row `h`, the partner's comes into the device's own. -/
def exK (h : ℕ) (rest : P F) : P F :=
  .op (.enqueueDma myM (.remote (Dev.tc (partner d h)) (rx h) (.dma (axAt cc0_scratch10 h))) (.dma (axAt cc0_scratch11 h))
    my_words (rx_words h) ⟨⟨rfl, Or.inl rfl⟩, trivial⟩) fun _ =>
  .op (.waitDma2 (axAt cc0_scratch10 h) (rx h) myM (rx_words h) my_words) fun _ =>
  .op (.waitDma2 (axAt cc0_scratch11 h) myM (rx h) my_words (rx_words h)) fun _ =>
  .op (.load myM rowAll.toLoadRect (View.loadsAt_vmem h_S1x128)) fun a =>
  .op (.load rxM (rxR h).toLoadRect (View.loadsAt_vmem h_S1x1x128)) fun b =>
  maxPutK (exV a b) rest

/-! ### The scaling -/

/-- One block scaled: rounded in units of the maximum's 127th part. -/
def quantV (s i : F .f32) (v : Vec F S512x512 .f32) : FVec F S512x512 .f32 := k0_pay1 s i v

def quants (s i : F .f32) : ℕ → P F
  | 0 => .ret ⟨⟩
  | n + 1 =>
    .op (.load oM (colR (15 - n)).toLoadRect (View.loadsAt_vmem h_S512x512)) fun v =>
    .op (.load oM (colR (15 - n)).toLoadRect (View.loadsAt_vmem h_S512x512)) fun _ =>
    .op (.store oM (colR (15 - n)) (quantV s i v) Finset.univ (View.stores_vmem_bits_univ h_S512x512 rfl) (.inl rfl)) fun _ =>
    quants s i n

def one1 : Rect S1x128 := Rect.unit (s := S1x128) ![0, 0] S1x1.size inb_S1x128_S1x1_0_0

def scaleK : P F :=
  .op (.load myM one1.toLoadRect (View.loadsAt_vmem h_S1x1)) fun a =>
  .op (.load myM one1.toLoadRect (View.loadsAt_vmem h_S1x1)) fun b =>
  quants (k0_pay221 a) (k0_pay222 b) 16

/-- Everything behind the barrier. -/
def mainK : P F :=
  seeds d 8 <| owns d 16 <| phases d 48 <| fins 8 (Scalar.ofBits .f32 0x00000000#32) fun a => sents 8 <|
  maxPutK (lanesV a) <| exK d 0 <| exK d 1 <| exK d 2 scaleK

/-- The barrier semaphore. -/
def barS : Sem sig := (SemArray.scalar (sig.barrier 0 rfl) : Sems sig S_).sem

def bodyK : P F :=
  .op (.semSignal (fromDev false d, .tc) barS (1#32 : BitVec 32).toInt) fun _ =>
  .op (.semSignal (fromDev true d, .tc) barS (1#32 : BitVec 32).toInt) fun _ =>
  .op (.semWait barS (2#32 : BitVec 32).toInt) fun _ =>
  mainK d

end Pieces

set_option maxRecDepth 65536 in
/-- The printed body is the program above. -/
theorem body_eq :
    (cc0_body (F := F) xM (Memref.isWhole_whole _) wM (Memref.isWhole_whole _) oM (Memref.isWhole_whole _) (Memref.whole cc0_scratch0) (Memref.isWhole_whole _)
        (Memref.whole cc0_scratch1) (Memref.isWhole_whole _) cc0_scratch2 cc0_scratch3 cc0_scratch4 cc0_scratch5 cc0_scratch6 cc0_scratch7
        (Memref.whole cc0_scratch8) (Memref.isWhole_whole _) (Memref.whole cc0_scratch9) (Memref.isWhole_whole _) cc0_scratch10 cc0_scratch11
      : P F)
      = .op .deviceId fun d => bodyK d := by
  rw [cc0_body_eq_skeleton]
  chain_rfl

end Cert.KernelIdeal.Ring

end
-- ==== Proof.KernelIdeal.Values.lean ====
/- What the ring computes: the contents of every stripe as it is sent, of every block of the result, and of the
   running maximum after each exchange, as functions of the devices' staged operands. -/
module

public import proofs.«01_k».proof.Proof.KernelIdeal.Program
public import Idealize.ShloMosaic.Lib.ValueIdxCore
public import Idealize.ShloMosaic.Lib.Exec.Geometry

@[expose] public section

noncomputable section

namespace Cert.KernelIdeal.Ring

open Idealize.ShloMosaic Idealize.ShloMosaic.TcCoe Idealize.SL.Sem
open Cert.KernelIdeal Cert.KernelIdeal.Gen

variable {F : FTy → Type} [FloatOps F]

/-! ## The ring -/

theorem from_to (sd : Bool) (d : Dev nD) : fromDev sd (toDev sd d) = d := by revert sd d; decide
theorem to_from (sd : Bool) (d : Dev nD) : toDev sd (fromDev sd d) = d := by revert sd d; decide
theorem partner_partner (h : Fin 3) (d : Dev nD) : partner (partner d h.1) h.1 = d := by revert h d; decide

/-- The device `i` steps up the ring. -/
def upN (sd : Bool) (i : ℕ) (d : Dev nD) : Dev nD := (fromDev sd)^[i] d

theorem upN_succ (sd : Bool) (i : ℕ) (d : Dev nD) : upN sd (i + 1) d = upN sd i (fromDev sd d) := rfl

/-- Every device stands within seven steps up. -/
theorem upN_onto (d e : Dev nD) : ∃ i : Fin 8, upN false i.1 d = e := by revert d e; decide

/-! ## Periods -/

theorem stripeR_mod (q : ℕ) : stripeR q = stripeR (q % 16) := by
  simp only [stripeR, Nat.mod_mod, Nat.mod_mod_of_dvd q (by decide : 8 ∣ 16)]

theorem stripe_mod (sd : Bool) (q : ℕ) : stripe sd q = stripe sd (q % 16) := by
  have h (o o' : Fin 3 → ℕ) (e : o = o') (p : ∀ a, o a + S1x512x512.size a ≤ S2x512x4096.size a) (p' : ∀ a, o' a + S1x512x512.size a ≤ S2x512x4096.size a) :
      ((buf sd).slice (Rect.unit (s := S2x512x4096) o S1x512x512.size p) (fun _ => rfl)).squeeze S512x512 squeezes_S1x512x512_S512x512
        = ((buf sd).slice (Rect.unit (s := S2x512x4096) o' S1x512x512.size p') (fun _ => rfl)).squeeze S512x512 squeezes_S1x512x512_S512x512 := by
    subst e; rfl
  exact h _ _ (by rw [Nat.mod_mod, Nat.mod_mod_of_dvd q (by decide : 8 ∣ 16)]) _ _

theorem semAt_mod (a : DmaSems sig S2x8) (q : ℕ) : semAt a q = semAt a (q % 16) := by
  have h (o o' : Fin 2 → ℕ) (e : o = o') (p : ∀ a, o a + S1x1.size a ≤ S2x8.size a) (p' : ∀ a, o' a + S1x1.size a ≤ S2x8.size a) :
      ((a.slice (Rect.unit (s := S2x8) o S1x1.size p)).squeeze S_ squeezes_S1x1_S_).sem
        = ((a.slice (Rect.unit (s := S2x8) o' S1x1.size p')).squeeze S_ squeezes_S1x1_S_).sem := by
    subst e; rfl
  exact h _ _ (by rw [Nat.mod_mod, Nat.mod_mod_of_dvd q (by decide : 8 ∣ 16)]) _ _

theorem stripe_congr (sd : Bool) {q q' : ℕ} (h : q % 16 = q' % 16) : stripe sd q = stripe sd q' := by
  rw [stripe_mod, h, ← stripe_mod]
theorem semAt_congr (a : DmaSems sig S2x8) {q q' : ℕ} (h : q % 16 = q' % 16) : semAt a q = semAt a q' := by
  rw [semAt_mod, h, ← semAt_mod]

theorem colOf_mod (sd : Bool) (q : ℕ) : colOf sd q = colOf sd (q % 8) := by
  cases sd <;> simp only [colOf, Nat.mod_mod]

/-! ## Values -/

/-- A staged left operand, a staged right operand, a staged result. -/
abbrev XC (F : FTy → Type) := (cc0_stg0_0 : Ref sig .tc).ty.Contents (Elt F)
abbrev YC (F : FTy → Type) := (cc0_stg1_0 : Ref sig .tc).ty.Contents (Elt F)
abbrev OC (F : FTy → Type) := (cc0_stg2_0 : Ref sig .tc).ty.Contents (Elt F)

/-- A first stripe, and a received stripe with a product added, before they are laid out in the buffer. -/
def seedU (x w : Vec F S512x512 .bf16) : FVec F S512x512 .bf16 := truncf .bf16 (dotB x w) bitsLt_bf16_f32
def accU (u : FVec F S512x512 .bf16) (x w : Vec F S512x512 .bf16) : FVec F S512x512 .bf16 :=
  truncf .bf16 (addf (extf .f32 u bitsLt_bf16_f32) (dotB x w)) bitsLt_bf16_f32
def finU (o : Vec F S512x512 .f32) (u : FVec F S512x512 .bf16) : FVec F S512x512 .f32 :=
  maximumf (addf (shapeCast S512x512 o shapeCasts_S512x512_S512x512) (extf .f32 u bitsLt_bf16_f32))
    (broadcast S512x512 (Scalar.ofBits .f32 0x00000000#32))
def exU (a u : FVec F S1x128 .f32) : FVec F S1x128 .f32 :=
  shapeCast S1x128 (maximumf a u) shapeCasts_S1x128_S1x128

/-- The rows of a left operand and the columns of a right operand that a step multiplies. -/
def rowsOf (x : XC F) (sd : Bool) (d : Dev nD) (s : ℕ) : Vec F S512x512 .bf16 := (xM).view.readAt (Elt F) (rowR sd d s).toLoadRect x
def ownOf (x : XC F) (d : Dev nD) : Vec F S512x512 .bf16 := (xM).view.readAt (Elt F) (ownR d).toLoadRect x
def colsOf (w : YC F) (b : ℕ) : Vec F S512x512 .bf16 := (wM).view.readAt (Elt F) (colR b).toLoadRect w
def blockOf (o : OC F) (b : ℕ) : Vec F S512x512 .f32 := (oM).view.readAt (Elt F) (colR b).toLoadRect o

section

variable (X : Dev nD → XC F) (Y : Dev nD → YC F)

/-- Stripe `sc` as device `d` sends it at step `s`. -/
def acc (sd : Bool) (sc : ℕ) : ℕ → Dev nD → FVec F S512x512 .bf16
  | 0, d => seedU (rowsOf (X d) sd d 0) (colsOf (Y d) (colOf sd sc))
  | s + 1, d => accU (acc sd sc s (fromDev sd d)) (rowsOf (X d) sd d (s + 1)) (colsOf (Y d) (colOf sd sc))

/-- Send `j` of device `d`. -/
def sent (sd : Bool) (j : ℕ) (d : Dev nD) : FVec F S512x512 .bf16 := acc X Y sd (j % 8) (j / 8) d

theorem sent_seed (sd : Bool) (j : ℕ) (hj : j < 8) (d : Dev nD) :
    sent X Y sd j d = seedU (rowsOf (X d) sd d 0) (colsOf (Y d) (colOf sd j)) := by
  unfold sent; rw [Nat.div_eq_of_lt hj, Nat.mod_eq_of_lt hj, acc]

theorem sent_step (sd : Bool) (k : ℕ) (d : Dev nD) :
    sent X Y sd (k + 8) d = accU (sent X Y sd k (fromDev sd d)) (rowsOf (X d) sd d ((k + 8) / 8)) (colsOf (Y d) (colOf sd k)) := by
  unfold sent
  rw [show (k + 8) % 8 = k % 8 by omega, show (k + 8) / 8 = k / 8 + 1 by omega, acc, ← colOf_mod]

/-- The device's own product, a column block at a time. -/
def ownB (d : Dev nD) (b : ℕ) : FVec F S512x512 .f32 := dotB (ownOf (X d) d) (colsOf (Y d) b)

/-- Column block `b` of the sum over all devices, its negative part dropped. -/
def sumB (d : Dev nD) (sd : Bool) (sc : ℕ) : FVec F S512x512 .f32 :=
  finU (ownB X Y d (colOf sd sc)) (sent X Y sd (48 + sc) (fromDev sd d))

/-- The running maximum over the last blocks, from the `n`th last stripe on. -/
def maxN (d : Dev nD) : ℕ → F .f32 → F .f32
  | 0, a => a
  | n + 1, a => maxN d n (maxV (maxV a (sumB X Y d false (7 - n))) (sumB X Y d true (7 - n)))

/-- The running maximum after `h` exchanges. -/
def amx : ℕ → Dev nD → FVec F S1x128 .f32
  | 0, d => lanesV (maxN X Y d 8 (Scalar.ofBits .f32 0x00000000#32))
  | h + 1, d => exU (amx h d) (amx h (partner d h))

/-- The side and stripe a column block belongs to. -/
def sumAt (d : Dev nD) (b : ℕ) : FVec F S512x512 .f32 := sumB X Y d (decide (8 ≤ b)) (b % 8)

/-- The first lane of the final maximum. -/
def lane (v : FVec F S1x128 .f32) : Vec F S1x1 .f32 := (myM).view.readAt (Elt F) one1.toLoadRect v

/-- Column block `b` of the result. -/
def resB (d : Dev nD) (b : ℕ) : FVec F S512x512 .f32 :=
  quantV (k0_pay221 (lane (amx X Y 3 d))) (k0_pay222 (lane (amx X Y 3 d))) (sumAt X Y d b)

end

/-! ## Reading back -/

theorem cast_cast {s t : Shape} {α : Type} (h : s.ShapeCasts t) (h' : t.ShapeCasts s) (x : s.Idx → α) :
    shapeCast s (shapeCast t x h) h' = x :=
  funext fun i => congrArg x ((Shape.reshapeEquiv_reshapeEquiv _ _ _).trans (Shape.reshapeEquiv_self _ _))

theorem colR_off (b : ℕ) : (colR b).off 1 = 512 * (b % 16) := rfl
theorem colR_size (b : ℕ) : (colR b).size 1 = 512 := rfl
theorem colR_stride (b : ℕ) : (colR b).stride 1 = 1 := rfl

theorem colR_disjoint {b b' : ℕ} (h : b % 16 ≠ b' % 16) : Disjoint (colR b).toLoadRect.set (colR b').toLoadRect.set := by
  refine LoadRect.disjoint_of_separated (colR b).toLoadRect (colR b').toLoadRect (1 : Fin 2) ?_
  show (512 = 0 ∨ 512 * (b % 16) + 1 * (512 - 1) < 512 * (b' % 16)) ∨ (512 = 0 ∨ 512 * (b' % 16) + 1 * (512 - 1) < 512 * (b % 16))
  omega

theorem block_write_same (o : OC F) (b : ℕ) (v : FVec F S512x512 .f32) :
    blockOf ((oM.access (colR b)).write (Elt F) o v Finset.univ) b = v := by
  unfold blockOf
  rw [View.readAt_rect]
  exact View.read_write_univ _ _

theorem block_write_other (o : OC F) {b b' : ℕ} (h : b % 16 ≠ b' % 16) (v : FVec F S512x512 .f32) :
    blockOf ((oM.access (colR b)).write (Elt F) o v Finset.univ) b' = blockOf o b' := by
  unfold blockOf
  rw [View.readAt_rect, View.readAt_rect]
  refine View.read_slice_write_slice_of_disjoint _ _ _ _ _ ?_
  exact View.disjoint_of_boxes oM.view (colR b').toLoadRect (colR b).toLoadRect (by rw [View.set_slice]; exact fun _ hx => hx)
    (show ((oM).view.slice (colR b)).set ⊆ _ by rw [View.set_slice]; exact fun _ hx => hx) (1 : Fin 2) (by
    show (512 = 0 ∨ 512 * (b' % 16) + 1 * (512 - 1) < 512 * (b % 16)) ∨ (512 = 0 ∨ 512 * (b % 16) + 1 * (512 - 1) < 512 * (b' % 16))
    omega)

/-- The contents with given column blocks. -/
def outC (g : ℕ → Vec F S512x512 .f32) : OC F := fun (i : S512x8192.Idx) =>
  g ((i 1).val / 512) (ValueIdx.ix2 (n0 := 512) (n1 := 512) ⟨(i 0).val, (i 0).isLt⟩ ⟨(i 1).val % 512, Nat.mod_lt _ (by decide)⟩)

theorem outC_eq (o : OC F) (g : ℕ → Vec F S512x512 .f32) (h : ∀ b < 16, blockOf o b = g b) : o = outC g := by
  refine funext fun (i : S512x8192.Idx) => ?_
  have hi : (i 1).val < 8192 := (i 1).isLt
  unfold outC
  rw [← h ((i 1).val / 512) (by omega)]
  unfold blockOf
  refine Eq.trans ?_ (View.readAt_apply _ _ _).symm
  refine congrArg o (funext fun a => Fin.ext ?_)
  match a with
  | ⟨0, _⟩ => show (i 0).val = 0 + 1 * (i 0).val; omega
  | ⟨1, _⟩ => show (i 1).val = 512 * ((i 1).val / 512 % 16) + 1 * ((i 1).val % 512); omega

/-! ## Stripes -/

theorem stripe_read (sd : Bool) (q : ℕ) (f : (buf sd).view.ty.Contents (Elt F)) :
    (stripe sd q).view.read (Elt F) f
      = shapeCast S512x512 ((buf sd).view.readAt (Elt F) (stripeR q).toLoadRect f) shapeCasts_S1x512x512_S512x512 := rfl

theorem stripe_set (sd : Bool) (q : ℕ) : (stripe sd q).view.set = ((buf sd).access (stripeR q)).set :=
  Memref.set_view_squeeze ((buf sd).slice (stripeR q) (fun _ => rfl)) squeezes_S1x512x512_S512x512

/-- A stripe stored laid out reads as it was. -/
theorem stripe_write (sd : Bool) (q : ℕ) (f : (buf sd).view.ty.Contents (Elt F)) (u : FVec F S512x512 .bf16) :
    (stripe sd q).view.read (Elt F) (((buf sd).access (stripeR q)).write (Elt F) f (shapeCast S1x512x512 u shapeCasts_S512x512_S1x512x512) Finset.univ) = u := by
  refine Eq.trans (stripe_read sd q _) ?_
  rw [View.readAt_rect]
  refine Eq.trans (congrArg (fun v => shapeCast S512x512 v shapeCasts_S1x512x512_S512x512) (View.read_write_univ _ _)) ?_
  exact cast_cast _ _ _

theorem stripe_nonempty (sd : Bool) (q : ℕ) : (stripe sd q).view.set.Nonempty :=
  ⟨_, (stripe sd q).view.emb_mem_set (Shape.Idx.first (by decide))⟩

theorem rx_read (h : ℕ) (f : (rxM).view.ty.Contents (Elt F)) :
    (rx h).view.read (Elt F) f = shapeCast S1x128 ((rxM).view.readAt (Elt F) (rxR h).toLoadRect f) shapeCasts_S1x1x128_S1x128 := rfl

theorem rx_set (h : ℕ) : (rx h).view.set = ((rxM).access (rxR h)).set :=
  Memref.set_view_squeeze (rxM.slice (rxR h) (fun _ => rfl)) squeezes_S1x1x128_S1x128

theorem rx_nonempty (h : ℕ) : (rx h).view.set.Nonempty :=
  ⟨_, (rx h).view.emb_mem_set (Shape.Idx.first (by decide))⟩

theorem my_read (f : (myM).view.ty.Contents (Elt F)) : (myM).view.readAt (Elt F) rowAll.toLoadRect f = f :=
  Memref.readAt_unit_zero (Elt F) cc0_scratch8 (funext fun a => by fin_cases a <;> rfl) _ f

theorem my_write (f w : (myM).view.ty.Contents (Elt F)) : ((myM).access rowAll).write (Elt F) f w Finset.univ = w :=
  Memref.write_access_unit_zero_univ (Elt F) cc0_scratch8 (funext fun a => by fin_cases a <;> rfl) _ f w

end Cert.KernelIdeal.Ring

end
-- ==== Proof.KernelIdeal.Schedule.lean ====
/- Who signals whom on the ring, and what each signal hands over.

   Every device has these cells. The barrier: a signal from either neighbour, handing the neighbour's first eight
   stripes of the buffer the device sends into. Per direction sixteen send and sixteen receive semaphores: send `j`
   is round `j / 16` of number `j % 16`; a landing hands the receiver the stripe with its contents, and that the
   devices it came through have put their maximum's rows up for their partners; a departure hands the sender its
   stripe back. Per direction a credit semaphore with forty-eight units: unit `k` tells the sender that the receiver
   has released the stripe that send `k + 8` may overwrite. The units may land in any order, so a stripe waits in an
   invariant (a key of the release library) and unit `k` carries the facts of all releases up to `k`. Per exchange of
   the maximum a send and a receive semaphore. -/
module

public import proofs.«01_k».proof.Proof.KernelIdeal.Values
public import Idealize.ShloMosaic.Lib.Release
public import Mathlib.Tactic.DeriveFintype
public import Idealize.ShloMosaic.Lib.Pipeline.SiteBlocks
public import Idealize.ShloMosaic.Lib.Pipeline.Launch
public import Idealize.ShloMosaic.Lib.Pipeline.Kit

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

/-! ## The cells -/

inductive Cell where
  | bar
  | crd (sd : Bool)
  | ss (sd : Bool) (q : Fin 16)
  | rs (sd : Bool) (q : Fin 16)
  | sa (h : Fin 3)
  | ra (h : Fin 3)
deriving DecidableEq, Fintype

def csem : Cell → SemLoc sig
  | .bar => .reg barS
  | .crd sd => .reg (crd sd)
  | .ss sd q => .dma (semAt (ssems sd) q.1)
  | .rs sd q => .dma (semAt (rsems sd) q.1)
  | .sa h => .dma (axAt cc0_scratch10 h.1)
  | .ra h => .dma (axAt cc0_scratch11 h.1)

theorem csem_injective : Function.Injective csem := by decide +kernel

def cellOfSem (sm : SemLoc sig) : Option Cell :=
  if h : ∃ k, csem k = sm then some h.choose else none

theorem cellOfSem_csem (k : Cell) : cellOfSem (csem k) = some k := by
  have h : ∃ k', csem k' = csem k := ⟨k, rfl⟩
  unfold cellOfSem
  rw [dif_pos h]
  exact congrArg some (csem_injective h.choose_spec)

abbrev at' (d : Dev nD) (k : Cell) : GSem nD τ sig := ((d : Thread nD τ), csem k)

/-- Number `j` modulo sixteen. -/
def q16 (j : ℕ) : Fin 16 := ⟨j % 16, Nat.mod_lt _ (by decide)⟩

abbrev rc (d : Dev nD) (sd : Bool) (j : ℕ) : GSem nD τ sig := at' d (.rs sd (q16 j))
abbrev sc (d : Dev nD) (sd : Bool) (j : ℕ) : GSem nD τ sig := at' d (.ss sd (q16 j))
abbrev cc (d : Dev nD) (sd : Bool) : GSem nD τ sig := at' d (.crd sd)

theorem csem_rs (sd : Bool) (j : ℕ) : csem (.rs sd (q16 j)) = .dma (semAt (rsems sd) j) :=
  congrArg SemLoc.dma (semAt_congr _ (Nat.mod_mod _ _))
theorem csem_ss (sd : Bool) (j : ℕ) : csem (.ss sd (q16 j)) = .dma (semAt (ssems sd) j) :=
  congrArg SemLoc.dma (semAt_congr _ (Nat.mod_mod _ _))

theorem q16_add (j : ℕ) : q16 (j + 16) = q16 j := Fin.ext (by simp [q16])

/-! ## The resources -/

/-- What waits in an invariant for its next writer: the stripe a device frees in phase `k`, a row of its partners' maxima. -/
inductive Key where
  | st (d : Dev nD) (sd : Bool) (k : Fin 48)
  | ax (d : Dev nD) (h : Fin 3)
deriving DecidableEq, Fintype

abbrev UB : Type := URounds (GSem nD τ sig) ℕ
abbrev US : Type := USlots Key
abbrev UU : Type := UR sig nD τ × (UB × US)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × US)).trans embR
abbrev ES : Emb US (MT nD τ sig ℕ (Elt F) ℕ UU ℕ) := (Emb.inr : Emb US (UB × US)).trans embR

/-- Stripe `q` of device `d`, at any contents. -/
def slotS (d : Dev nD) (sd : Bool) (q : ℕ) : sProp 𝕄 := slot ((stripe sd q).view.loc (d : Thread nD τ)) (stripe sd q).view.set
/-- Stripe `q` of device `d` at the contents `u`. -/
def stripeAt (d : Dev nD) (sd : Bool) (q : ℕ) (u : FVec F S512x512 .bf16) : sProp 𝕄 :=
  iprop(∃ f : Buf (Elt F) ((stripe sd q).view.loc (d : Thread nD τ)), ⌜(stripe sd q).view.read (Elt F) f = u⌝
    ∗ ((stripe sd q).view.loc (d : Thread nD τ) ↦[(stripe sd q).view.set]{fullShare} f))
/-- Row `h` of device `d`'s partners' maxima. -/
def slotX (d : Dev nD) (h : ℕ) : sProp 𝕄 := slot ((rx h).view.loc (d : Thread nD τ)) (rx h).view.set
def rxAt (d : Dev nD) (h : ℕ) (u : FVec F S1x128 .f32) : sProp 𝕄 :=
  iprop(∃ f : Buf (Elt F) ((rx h).view.loc (d : Thread nD τ)), ⌜(rx h).view.read (Elt F) f = u⌝
    ∗ ((rx h).view.loc (d : Thread nD τ) ↦[(rx h).view.set]{fullShare} f))
/-- Device `d`'s running maximum. -/
def myAt (d : Dev nD) (u : FVec F S1x128 .f32) : sProp 𝕄 :=
  iprop((myM).view.loc (d : Thread nD τ) ↦[(myM).view.set]{fullShare} u)

theorem slotS_congr (d : Dev nD) (sd : Bool) {q q' : ℕ} (h : q % 16 = q' % 16) : (slotS d sd q : sProp 𝕄) = slotS d sd q' := by
  unfold slotS; rw [stripe_congr sd h]
theorem stripeAt_congr (d : Dev nD) (sd : Bool) {q q' : ℕ} (h : q % 16 = q' % 16) (u : FVec F S512x512 .bf16) :
    (stripeAt d sd q u : sProp 𝕄) = stripeAt d sd q' u := by
  unfold stripeAt; rw [stripe_congr sd h]
theorem stripeAt_slot (d : Dev nD) (sd : Bool) (q : ℕ) (u : FVec F S512x512 .bf16) : (stripeAt d sd q u : sProp 𝕄) ⊢ slotS d sd q := by
  unfold stripeAt slotS slot
  iintro ⟨%f, -, H⟩
  iexists f; iexact H

/-- The slot a key stands for. -/
def slotOf : Key → sProp 𝕄
  | .st d sd k => slotS d sd (k.1 + 8)
  | .ax d h => slotX d h.1

/-- Device `d` has released its stripe of phase `k` and has reached the round of its landing. -/
def freed (d : Dev nD) (sd : Bool) (k : ℕ) : sProp 𝕄 :=
  if h : k < 48 then iprop(released ES (.st d sd ⟨k, h⟩) 1 ∗ reached ER (rc d sd (k + 8)) ((k + 8) / 16)) else iprop(emp)
/-- Device `d` has put its three rows up. -/
def ready (d : Dev nD) : sProp 𝕄 := bigSep Finset.univ fun h : Fin 3 => released ES (.ax d h) 1
/-- The facts of the releases up to `k`. -/
def freedTo (d : Dev nD) (sd : Bool) (n : ℕ) : sProp 𝕄 := bigSep (Finset.range n) fun k => freed d sd k
/-- The rows put up by the devices from `d` to `n - 1` steps up. -/
def readyTo (d : Dev nD) (sd : Bool) (n : ℕ) : sProp 𝕄 := bigSep (Finset.range n) fun i => ready (upN sd i d)

instance freed_persistent (d : Dev nD) (sd : Bool) (k : ℕ) : BI.Persistent (freed (F := F) d sd k) := by unfold freed; split <;> infer_instance
instance ready_persistent (d : Dev nD) : BI.Persistent (ready (F := F) d) := by unfold ready; infer_instance
instance freedTo_persistent (d : Dev nD) (sd : Bool) (n : ℕ) : BI.Persistent (freedTo (F := F) d sd n) := by unfold freedTo; infer_instance
instance readyTo_persistent (d : Dev nD) (sd : Bool) (n : ℕ) : BI.Persistent (readyTo (F := F) d sd n) := by unfold readyTo; infer_instance

instance slotS_storable (d : Dev nD) (sd : Bool) (q : ℕ) : BI.Storable (upEmb : UEmb _ 𝕄) (slotS (F := F) d sd q) := by unfold slotS; infer_instance
instance slotX_storable (d : Dev nD) (h : ℕ) : BI.Storable (upEmb : UEmb _ 𝕄) (slotX (F := F) d h) := by unfold slotX; infer_instance
instance stripeAt_storable (d : Dev nD) (sd : Bool) (q : ℕ) (u : FVec F S512x512 .bf16) : BI.Storable (upEmb : UEmb _ 𝕄) (stripeAt d sd q u) := by unfold stripeAt; infer_instance
instance rxAt_storable (d : Dev nD) (h : ℕ) (u : FVec F S1x128 .f32) : BI.Storable (upEmb : UEmb _ 𝕄) (rxAt d h u) := by unfold rxAt; infer_instance
instance myAt_storable (d : Dev nD) (u : FVec F S1x128 .f32) : BI.Storable (upEmb : UEmb _ 𝕄) (myAt d u) := by unfold myAt; infer_instance
instance slotOf_storable (k : Key) : BI.Storable (upEmb : UEmb _ 𝕄) (slotOf (F := F) k) := by cases k <;> (unfold slotOf; infer_instance)
instance freed_storable (d : Dev nD) (sd : Bool) (k : ℕ) : BI.Storable (upEmb : UEmb _ 𝕄) (freed (F := F) d sd k) := by unfold freed; split <;> infer_instance
instance ready_storable (d : Dev nD) : BI.Storable (upEmb : UEmb _ 𝕄) (ready (F := F) d) := by unfold ready; infer_instance
instance freedTo_storable (d : Dev nD) (sd : Bool) (n : ℕ) : BI.Storable (upEmb : UEmb _ 𝕄) (freedTo (F := F) d sd n) := by unfold freedTo; infer_instance
instance readyTo_storable (d : Dev nD) (sd : Bool) (n : ℕ) : BI.Storable (upEmb : UEmb _ 𝕄) (readyTo (F := F) d sd n) := by unfold readyTo; infer_instance

theorem slotOf_excl (k : Key) : iprop(slotOf (F := F) k ∗ slotOf k) ⊢ (False : sProp 𝕄) := by
  cases k <;> (unfold slotOf)
  · unfold slotS; exact slot_slot_false (stripe_nonempty _ _)
  · unfold slotX; exact slot_slot_false (rx_nonempty _)

/-! ## The schedule -/

/-- The units of a stripe's copy and of a maximum's copy. -/
def NS : ℕ := (stripe false 0).view.dmaCredit
def NX : ℕ := (myM).view.dmaCredit

theorem NS_eq (sd : Bool) (q : ℕ) : (stripe sd q).view.dmaCredit = NS := by cases sd <;> rfl
theorem NX_eq (h : ℕ) : (rx h).view.dmaCredit = NX := rfl
theorem NS_pos : 0 < NS := View.dmaCredit_pos _ (by decide)
theorem NX_pos : 0 < NX := View.dmaCredit_pos _ (by decide)

def dutyOf : Cell → ℕ → Finset ℕ
  | .bar, r => if r = 0 then {0, 1} else ∅
  | .crd _, r => if r = 0 then Finset.range 48 else ∅
  | .ss _ q, r => if 16 * r + q.1 < 56 then {0} else ∅
  | .rs _ q, r => if 16 * r + q.1 < 56 then {0} else ∅
  | .sa _, r => if r = 0 then {0} else ∅
  | .ra _, r => if r = 0 then {0} else ∅

def unitsOf : Cell → ℕ
  | .bar => 1
  | .crd _ => 1
  | .ss _ _ => NS
  | .rs _ _ => NS
  | .sa _ => NX
  | .ra _ => NX

section

variable (X : Dev nD → XC F) (Y : Dev nD → YC F)

/-- What a neighbour's signal hands over at the barrier: its first eight stripes. -/
def barPay (d : Dev nD) (sd : Bool) : sProp 𝕄 := bigSep (Finset.range 8) fun q => slotS (toDev sd d) sd q

def payOf (d : Dev nD) : Cell → ℕ → ℕ → sProp 𝕄
  | .bar, _, i => barPay d (decide (i = 1))
  | .crd sd, _, i => freedTo (toDev sd d) sd (i + 1)
  | .ss sd q, r, _ => slotS d sd (16 * r + q.1 + 8)
  | .rs sd q, r, _ => iprop(stripeAt d sd (16 * r + q.1) (sent X Y sd (16 * r + q.1) (fromDev sd d))
      ∗ readyTo (fromDev sd d) sd ((16 * r + q.1) / 8 + 1))
  | .sa h, _, _ => myAt d (amx X Y h.1 d)
  | .ra h, _, _ => rxAt d h.1 (amx X Y h.1 (partner d h.1))

instance payOf_storable (d : Dev nD) (k : Cell) (r i : ℕ) : BI.Storable (upEmb : UEmb _ 𝕄) (payOf X Y d k r i) := by
  cases k <;> (unfold payOf; try unfold barPay) <;> infer_instance

def ringRd : Rounds.Schedule (GSem nD τ sig) ℕ 𝕄 where
  duties g r := ((cellOfSem g.2).map fun k => dutyOf k r).getD ∅
  unitless _ := False
  amount g _ _ := ((cellOfSem g.2).map unitsOf).getD 1
  payload g r i := ((cellOfSem g.2).map fun k => payOf X Y g.1.1 k r i).getD iprop(emp)
  amount_pos g _ _ _ := by
    cases cellOfSem g.2 with
    | none => exact Nat.one_pos
    | some k => cases k <;> first | exact Nat.one_pos | exact NS_pos | exact NX_pos

instance ringRd_payload_storable (g : GSem nD τ sig) (r i : ℕ) :
    BI.Storable (upEmb : UEmb _ 𝕄) ((ringRd X Y).payload g r i) := by
  show BI.Storable upEmb (((cellOfSem g.2).map fun k => payOf X Y g.1.1 k r i).getD iprop(emp))
  cases cellOfSem g.2 <;> (simp only [Option.map_none, Option.map_some, Option.getD_none, Option.getD_some]; infer_instance)

variable (d : Dev nD) (k : Cell)

theorem duties_at (r : ℕ) : (ringRd X Y).duties (at' d k) r = dutyOf k r := by
  dsimp only [ringRd]; rw [cellOfSem_csem]; rfl
theorem amount_at (r i : ℕ) : (ringRd X Y).amount (at' d k) r i = unitsOf k := by
  dsimp only [ringRd]; rw [cellOfSem_csem]; rfl
theorem payload_at (r i : ℕ) : (ringRd X Y).payload (at' d k) r i = payOf X Y d k r i := by
  dsimp only [ringRd]; rw [cellOfSem_csem]; rfl
theorem expect_at (r : ℕ) : (ringRd X Y).expect (at' d k) r = (dutyOf k r).card * unitsOf k := by
  unfold Schedule.expect Schedule.amountOf
  rw [duties_at, Finset.sum_congr rfl fun i _ => amount_at X Y d k r i, Finset.sum_const, smul_eq_mul]

theorem idx_eq (j : ℕ) : 16 * (j / 16) + (q16 j).1 = j := by simp only [q16]; omega

theorem duty_rs (sd : Bool) {j : ℕ} (hj : j < 56) : dutyOf (.rs sd (q16 j)) (j / 16) = {0} := by
  unfold dutyOf; dsimp only; rw [idx_eq, if_pos hj]
theorem duty_ss (sd : Bool) {j : ℕ} (hj : j < 56) : dutyOf (.ss sd (q16 j)) (j / 16) = {0} := by
  unfold dutyOf; dsimp only; rw [idx_eq, if_pos hj]
theorem duty_rs_late (sd : Bool) {j : ℕ} (hj : 56 ≤ j) (r : ℕ) (hr : j / 16 ≤ r) : dutyOf (.rs sd (q16 j)) r = ∅ := by
  unfold dutyOf; dsimp only; rw [if_neg (by simp only [q16]; omega)]
theorem duty_ss_late (sd : Bool) {j : ℕ} (hj : 56 ≤ j) (r : ℕ) (hr : j / 16 ≤ r) : dutyOf (.ss sd (q16 j)) r = ∅ := by
  unfold dutyOf; dsimp only; rw [if_neg (by simp only [q16]; omega)]

/-- What send `j` hands its receiver. -/
def landed (sd : Bool) (j : ℕ) : sProp 𝕄 :=
  iprop(stripeAt d sd j (sent X Y sd j (fromDev sd d)) ∗ readyTo (fromDev sd d) sd (j / 8 + 1))

theorem pay_rs (sd : Bool) (j i : ℕ) : (ringRd X Y).payload (rc d sd j) (j / 16) i = landed X Y d sd j := by
  rw [payload_at]; unfold payOf landed; dsimp only; rw [idx_eq]
theorem pay_ss (sd : Bool) (j i : ℕ) : (ringRd X Y).payload (sc d sd j) (j / 16) i = slotS d sd (j + 8) := by
  rw [payload_at]; unfold payOf; dsimp only; rw [idx_eq]
theorem pay_crd (sd : Bool) (r i : ℕ) : (ringRd X Y).payload (cc d sd) r i = freedTo (toDev sd d) sd (i + 1) := by
  rw [payload_at]; rfl

end

end Cert.KernelIdeal.Ring

end
-- ==== Proof.KernelIdeal.Steps.lean ====
/- The steps of the ring: what each piece of the body needs and what it leaves, on any device and at any stripe. -/
module

public import proofs.«01_k».proof.Proof.KernelIdeal.Schedule

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.SiteBlocks (L lv mem_L' mayWait_of)

variable {F : FTy → Type} [FloatOps F]

local notation "𝕄" => MT nD τ sig ℕ (Elt F) ℕ UU ℕ

/-! ## What a device owes -/

/-- The number of levels. -/
abbrev NL : ℕ := 300

/-- Everything owed lies at level `n` or above. -/
def Over (n : ℕ) (O : CellTallies nD τ sig ℕ) : Prop := ∀ g i, 0 < O g i → g.1.2 = .tc ∧ n ≤ i ∧ i < NL

theorem over_zero (n : ℕ) : Over n 0 := fun _ _ h => absurd h (Nat.lt_irrefl 0)
theorem over_add {n : ℕ} {O O' : CellTallies nD τ sig ℕ} (h : Over n O) (h' : Over n O') : Over n (O + O') := fun g i hg => by
  rw [Pi.add_apply, Finsupp.add_apply] at hg
  rcases Nat.add_pos_iff_pos_or_pos.mp hg with hg | hg
  exacts [h g i hg, h' g i hg]
theorem over_sum {n : ℕ} {α : Type} (s : Finset α) (O : α → CellTallies nD τ sig ℕ) (h : ∀ a ∈ s, Over n (O a)) : Over n (∑ a ∈ s, O a) := by
  classical
  induction s using Finset.induction_on with
  | empty => rw [Finset.sum_empty]; exact over_zero n
  | insert a s ha ih =>
    rw [Finset.sum_insert ha]
    exact over_add (h a (Finset.mem_insert_self _ _)) (ih fun b hb => h b (Finset.mem_insert_of_mem hb))
theorem over_tally {n i : ℕ} (d : Dev nD) (k : Cell) (u : ℕ) (h : n ≤ i) (h' : i < NL) : Over n (tallyAt (at' d k) i u) := fun g j hg => by
  rw [tallyAt_apply] at hg
  by_cases e : g = at' d k ∧ j = i
  · obtain ⟨rfl, rfl⟩ := e; exact ⟨rfl, h, h'⟩
  · rw [if_neg e] at hg; exact absurd hg (Nat.lt_irrefl 0)
theorem over_mono {n n' : ℕ} {O : CellTallies nD τ sig ℕ} (h : n' ≤ n) (hO : Over n O) : Over n' O := fun g i hg =>
  ⟨(hO g i hg).1, h.trans (hO g i hg).2.1, (hO g i hg).2.2⟩

theorem may_wait (c : Dev nD) (sm : SemLoc sig) {i : ℕ} (hi : i < NL) {O : CellTallies nD τ sig ℕ} (hO : Over (i + 1) O) :
    (levAts (L NL) lv : sProp 𝕄) ⊢ MayWait (c : Thread nD τ) sm i O :=
  mayWait_of hi c sm O fun g k h => ⟨mem_L' (hO g k h).1 (hO g k h).2.2, (hO g k h).2.1⟩

/-- The row cell of round `h` of a partner. -/
abbrev xc (d : Dev nD) (h : ℕ) : GSem nD τ sig := at' d (.ra ⟨h % 3, Nat.mod_lt _ (by decide)⟩)

def dueR (c : Dev nD) (sd : Bool) (j : ℕ) : CellTallies nD τ sig ℕ := tallyAt (rc (toDev sd c) sd j) (2 + 2 * j) NS
def dueC (c : Dev nD) (sd : Bool) (k : ℕ) : CellTallies nD τ sig ℕ := tallyAt (cc (fromDev sd c) sd) (3 + 2 * k) 1
def dueX (c : Dev nD) (h : ℕ) : CellTallies nD τ sig ℕ := tallyAt (xc (partner c (h % 3)) h) (200 + h) NX
def dueB (c : Dev nD) (sd : Bool) : CellTallies nD τ sig ℕ := tallyAt (at' (fromDev sd c) .bar) 1 1

/-- Owed from exchange `h` on, from phase `k` on, from first send `n` on, at the start. -/
def oweX (c : Dev nD) (h : ℕ) : CellTallies nD τ sig ℕ := ∑ i ∈ Finset.Ico h 3, dueX c i
def oweP (c : Dev nD) (k : ℕ) : CellTallies nD τ sig ℕ :=
  (∑ i ∈ Finset.Ico k 48, (dueR c true (i + 8) + dueR c false (i + 8) + dueC c true i + dueC c false i)) + oweX c 0
def oweS (c : Dev nD) (n : ℕ) : CellTallies nD τ sig ℕ :=
  (∑ j ∈ Finset.Ico n 8, (dueR c true j + dueR c false j)) + oweP c 0
def oweAll (c : Dev nD) : CellTallies nD τ sig ℕ := oweS c 0 + dueB c true + dueB c false

theorem over_X (c : Dev nD) (h : ℕ) : Over (200 + h) (oweX c h) :=
  over_sum _ _ fun i hi => by
    rw [Finset.mem_Ico] at hi
    exact over_tally _ _ _ (by omega) (by simp only [NL]; omega)
theorem over_P (c : Dev nD) (k : ℕ) : Over (min (3 + 2 * k) 200) (oweP c k) := by
  refine over_add (over_sum _ _ fun i hi => ?_) (over_mono (by omega) (over_X c 0))
  rw [Finset.mem_Ico] at hi
  exact over_add (over_add (over_add (over_tally _ _ _ (by omega) (by simp only [NL]; omega)) (over_tally _ _ _ (by omega) (by simp only [NL]; omega)))
    (over_tally _ _ _ (by omega) (by simp only [NL]; omega))) (over_tally _ _ _ (by omega) (by simp only [NL]; omega))
theorem over_S (c : Dev nD) (n : ℕ) : Over 2 (oweS c n) := by
  refine over_add (over_sum _ _ fun i hi => ?_) (over_mono (by omega) (over_P c 0))
  rw [Finset.mem_Ico] at hi
  exact over_add (over_tally _ _ _ (by omega) (by simp only [NL]; omega)) (over_tally _ _ _ (by omega) (by simp only [NL]; omega))

theorem Ico_bot {k n : ℕ} (h : k < n) : Finset.Ico k n = insert k (Finset.Ico (k + 1) n) := by
  ext i; rw [Finset.mem_insert, Finset.mem_Ico, Finset.mem_Ico]; omega
theorem notMem_Ico_bot (k n : ℕ) : k ∉ Finset.Ico (k + 1) n := fun h => by
  rw [Finset.mem_Ico] at h; omega
theorem sum_bot {k n : ℕ} (h : k < n) (O : ℕ → CellTallies nD τ sig ℕ) : ∑ i ∈ Finset.Ico k n, O i = O k + ∑ i ∈ Finset.Ico (k + 1) n, O i := by
  rw [Ico_bot h, Finset.sum_insert (notMem_Ico_bot k n)]

theorem oweX_step (c : Dev nD) {h : ℕ} (hh : h < 3) : oweX c h = oweX c (h + 1) + dueX c h := by
  unfold oweX; rw [sum_bot hh, add_comm]
theorem oweP_step (c : Dev nD) {k : ℕ} (hk : k < 48) :
    oweP c k = oweP c (k + 1) + dueR c true (k + 8) + dueR c false (k + 8) + dueC c true k + dueC c false k := by
  unfold oweP; rw [sum_bot hk]; abel
theorem oweP_end (c : Dev nD) : oweP c 48 = oweX c 0 := by
  unfold oweP; rw [Finset.Ico_self, Finset.sum_empty, zero_add]
theorem oweS_step (c : Dev nD) {n : ℕ} (hn : n < 8) : oweS c n = oweS c (n + 1) + dueR c true n + dueR c false n := by
  unfold oweS; rw [sum_bot hn]; abel
theorem oweS_end (c : Dev nD) : oweS c 8 = oweP c 0 := by
  unfold oweS; rw [Finset.Ico_self, Finset.sum_empty, zero_add]

/-! ## The context -/

abbrev 𝒱₀ : Variants := Variants.none

abbrev Post (F : FTy → Type) [FloatOps F] := PUnit.{1} → sProp (MT nD τ sig ℕ (Elt F) ℕ UU ℕ)

/-- The weakest precondition of a program on device `c`. -/
abbrev run (c : Dev nD) (p : P F) (Q : Post F) : sProp 𝕄 := wp frame (wpE (defs₀ (F := F)) 𝒱₀ (c : Thread nD τ) none) Set.univ p Q

section

variable (X : Dev nD → XC F) (Y : Dev nD → YC F) (K : Dev nD × Cell → ℕ) (KS : Key → ℕ)

/-- The invariants of all cells and slots, that every cell has reached its first round, and the levels. -/
def ctx : sProp 𝕄 :=
  iprop((bigSep Finset.univ fun x : Dev nD × Cell => cellInv ER (ringRd X Y) (K x) (at' x.1 x.2))
    ∗ (bigSep Finset.univ fun k : Key => slotInv ES (KS k) k (slotOf (F := F) k))
    ∗ (bigSep Finset.univ fun x : Dev nD × Cell => reached ER (at' x.1 x.2) 0) ∗ levAts (L NL) lv)

instance ctx_persistent : BI.Persistent (ctx X Y K KS) := by unfold ctx; infer_instance

theorem ctx_cell (d : Dev nD) (k : Cell) : ctx X Y K KS ⊢ cellInv ER (ringRd X Y) (K (d, k)) (at' d k) := by
  have h : (bigSep Finset.univ fun x : Dev nD × Cell => (cellInv ER (ringRd X Y) (K x) (at' x.1 x.2) : sProp 𝕄)) ⊢ cellInv ER (ringRd X Y) (K (d, k)) (at' d k) :=
    bigSep_elim (Finset.mem_univ (d, k))
  unfold ctx
  iintro ⟨H, -⟩
  iapply h; iexact H
theorem ctx_slot (k : Key) : ctx X Y K KS ⊢ slotInv ES (KS k) k (slotOf (F := F) k) := by
  have h : (bigSep Finset.univ fun k : Key => (slotInv ES (KS k) k (slotOf (F := F) k) : sProp 𝕄)) ⊢ slotInv ES (KS k) k (slotOf (F := F) k) :=
    bigSep_elim (Finset.mem_univ k)
  unfold ctx
  iintro ⟨-, H, -⟩
  iapply h; iexact H
theorem ctx_reached (d : Dev nD) (k : Cell) : ctx X Y K KS ⊢ reached ER (at' d k) 0 := by
  have h : (bigSep Finset.univ fun x : Dev nD × Cell => (reached ER (at' x.1 x.2) 0 : sProp 𝕄)) ⊢ reached ER (at' d k) 0 :=
    bigSep_elim (Finset.mem_univ (d, k))
  unfold ctx
  iintro ⟨-, -, H, -⟩
  iapply h; iexact H
theorem ctx_lev : ctx X Y K KS ⊢ levAts (L NL) lv := by
  unfold ctx
  iintro ⟨-, -, -, H⟩
  iexact H

/-- Device `c` owes `O`. -/
def ow (c : Dev nD) (O : CellTallies nD τ sig ℕ) : sProp 𝕄 := iprop(∃ W, owes (c : Thread nD τ) O W)

variable (c : Dev nD)

/-! ## Waits -/

theorem hpay' {Rd : Rounds.Schedule (GSem nD τ sig) ℕ 𝕄} {g : GSem nD τ sig} {r : ℕ} {T : sProp 𝕄} (h : Rd.duties g r = {0}) (h' : Rd.payload g r 0 = T) :
    (bigSep (Rd.duties g r \ ∅) fun i => Rd.payload g r i) = T := by
  rw [h, Finset.sdiff_empty, bigSep_singleton, h']

/-- A wait for a copy whose round has one duty. -/
theorem wait_step {Q : Post F} (k : Cell) {a : DmaSem sig} (ha : csem k = .dma a) {sh sh' : Shape} {e e' : EltTy} {src : Memref sig .tc .vmem sh' e'} {dst : Memref sig .tc .vmem sh e}
    {hs : src.view.WordExact} {hd : dst.view.WordExact} (hn : dst.view.dmaCredit = unitsOf k) {r : ℕ} (hr : dutyOf k r = {0}) {i : ℕ} (hi : i < NL)
    {O : CellTallies nD τ sig ℕ} (hO : Over (i + 1) O) {rest : PUnit → P F} :
    iprop(ctx X Y K KS ∗ atPos ER (at' c k) r ∅ 0 ∗ cred (tallyAt (at' c k) i (unitsOf k)) ∗ ow (F := F) c O)
      ⊢ iprop(((ow c O ∗ atPos ER (at' c k) (r + 1) ∅ 0 ∗ reached ER (at' c k) (r + 1) ∗ payOf X Y c k r 0) -∗ run c (rest ⟨⟩) Q)
          -∗ run c (.op (.waitDma2 a src dst hs hd) rest) Q) := by
  have hexp := expect_at X Y c k r
  have hdut := duties_at X Y c k r
  have hpay := payload_at X Y c k r 0
  rw [hr, Finset.card_singleton, Nat.one_mul] at hexp
  rw [hr] at hdut
  have hg : (at' c k) = ((c : Thread nD τ), SemLoc.dma a) := congrArg (fun s => ((c : Thread nD τ), s)) ha
  iintro ⟨#Hc, Hat, Hcr, Ho⟩ Hk
  ihave Hinv := (ctx_cell X Y K KS c k) $$ Hc
  ihave Hlv := (ctx_lev X Y K KS) $$ Hc
  rw [hg] at hexp hdut hpay
  rw [hg, ← hn]
  rw [← hn] at hexp
  unfold ow
  icases Ho with ⟨%W, HO⟩
  iapply (Rounds.wp_wait_rest_token 𝒱₀ ER (ringRd X Y) (c : Thread nD τ) none (κ := K (c, k))
      (wpE_waitDma2_eq 𝒱₀ (c : Thread nD τ) none Set.univ) (Set.mem_univ _) i (O := O) (W := W) (R := r) (m := 0) (T := ∅)
      (by rw [Nat.zero_add, hexp])) $$ [Hcr HO Hat]
  · isplitr; · iexact Hinv
    isplitl [Hcr]; · iexact Hcr
    isplitl [HO]; · iexact HO
    isplitr; · iapply (may_wait c (.dma a) hi hO); iexact Hlv
    iexact Hat
  iintro ⟨HO, Hat, Hre, Hp⟩
  iapply Hk
  isplitl [HO]; · iexists _; iexact HO
  isplitl [Hat]; · iexact Hat
  isplitl [Hre]; · iexact Hre
  iapply (Entails.of_eq (hpay' hdut hpay)); iexact Hp

/-- A device's place at the receive and send semaphore of number `j`, and what it may take there. -/
def posR (sd : Bool) (j : ℕ) : sProp 𝕄 := iprop(atPos ER (rc c sd j) (j / 16) ∅ 0 ∗ reached ER (rc c sd j) (j / 16))
def posS (sd : Bool) (j : ℕ) : sProp 𝕄 := iprop(atPos ER (sc c sd j) (j / 16) ∅ 0 ∗ reached ER (sc c sd j) (j / 16))
def crR (sd : Bool) (j : ℕ) : sProp 𝕄 := cred (tallyAt (rc c sd j) (2 + 2 * j) NS)
def crS (sd : Bool) (j : ℕ) : sProp 𝕄 := cred (tallyAt (sc c sd j) 0 NS)
def crC (sd : Bool) (k : ℕ) : sProp 𝕄 := cred (tallyAt (cc c sd) (3 + 2 * k) 1)

theorem posR_next (sd : Bool) (j : ℕ) :
    iprop(atPos ER (rc c sd j) (j / 16 + 1) ∅ 0 ∗ reached ER (rc c sd j) (j / 16 + 1)) = (posR c sd (j + 16) : sProp 𝕄) := by
  have e : rc c sd (j + 16) = rc c sd j := congrArg (fun q => at' c (.rs sd q)) (q16_add j)
  unfold posR; rw [Nat.add_div_right j (by decide : 0 < 16), e]
theorem posS_next (sd : Bool) (j : ℕ) :
    iprop(atPos ER (sc c sd j) (j / 16 + 1) ∅ 0 ∗ reached ER (sc c sd j) (j / 16 + 1)) = (posS c sd (j + 16) : sProp 𝕄) := by
  have e : sc c sd (j + 16) = sc c sd j := congrArg (fun q => at' c (.ss sd q)) (q16_add j)
  unfold posS; rw [Nat.add_div_right j (by decide : 0 < 16), e]

theorem recv_step {Q : Post F} (sd : Bool) {j : ℕ} (hj : j < 56) {O : CellTallies nD τ sig ℕ} (hO : Over (3 + 2 * j) O) {rest : P F} :
    iprop(ctx X Y K KS ∗ posR c sd j ∗ crR c sd j ∗ ow (F := F) c O)
      ⊢ iprop(((ow c O ∗ posR c sd (j + 16) ∗ landed X Y c sd j) -∗ run c rest Q) -∗ run c (recvK sd j rest) Q) := by
  have hp : payOf X Y c (.rs sd (q16 j)) (j / 16) 0 = landed X Y c sd j := (payload_at X Y c _ _ 0).symm.trans (pay_rs X Y c sd j 0)
  unfold recvK crR
  rw [← posR_next]
  iintro ⟨#Hc, Hpos, Hcr, Ho⟩ Hk
  unfold posR
  icases Hpos with ⟨Hat, -⟩
  iapply (wait_step X Y K KS c (.rs sd (q16 j)) (csem_rs sd j) (NS_eq sd j) (r := j / 16) (duty_rs sd hj) (i := 2 + 2 * j)
    (by simp only [NL]; omega) (by rw [show 2 + 2 * j + 1 = 3 + 2 * j by omega]; exact hO)) $$ [Hat Hcr Ho]
  · isplitr; · iexact Hc
    isplitl [Hat]; · iexact Hat
    isplitl [Hcr]; · iexact Hcr
    iexact Ho
  iintro ⟨Ho, Hat, Hre, Hp⟩
  iapply Hk
  isplitl [Ho]; · iexact Ho
  isplitl [Hat Hre]
  · isplitl [Hat]; · iexact Hat
    iexact Hre
  iapply (Entails.of_eq hp); iexact Hp

theorem left_step {Q : Post F} (sd : Bool) {j : ℕ} (hj : j < 56) {O : CellTallies nD τ sig ℕ} (hO : Over 1 O) {rest : P F} :
    iprop(ctx X Y K KS ∗ posS c sd j ∗ crS c sd j ∗ ow (F := F) c O)
      ⊢ iprop(((ow c O ∗ posS c sd (j + 16) ∗ slotS c sd (j + 8)) -∗ run c rest Q) -∗ run c (sentK sd j rest) Q) := by
  have hp : payOf X Y c (.ss sd (q16 j)) (j / 16) 0 = slotS c sd (j + 8) := (payload_at X Y c _ _ 0).symm.trans (pay_ss X Y c sd j 0)
  unfold sentK crS
  rw [← posS_next]
  iintro ⟨#Hc, Hpos, Hcr, Ho⟩ Hk
  unfold posS
  icases Hpos with ⟨Hat, -⟩
  iapply (wait_step X Y K KS c (.ss sd (q16 j)) (csem_ss sd j) (NS_eq sd (j + 8)) (r := j / 16) (duty_ss sd hj) (i := 0)
    (by simp only [NL]; omega) hO) $$ [Hat Hcr Ho]
  · isplitr; · iexact Hc
    isplitl [Hat]; · iexact Hat
    isplitl [Hcr]; · iexact Hcr
    iexact Ho
  iintro ⟨Ho, Hat, Hre, Hp⟩
  iapply Hk
  isplitl [Ho]; · iexact Ho
  isplitl [Hat Hre]
  · isplitl [Hat]; · iexact Hat
    iexact Hre
  iapply (Entails.of_eq hp); iexact Hp

/-! ## Sends -/

/-- The tokens of send `j`. -/
def tokS (sd : Bool) (j : ℕ) : sProp 𝕄 :=
  iprop(dutyTok ER (rc (toDev sd c) sd j) (j / 16) 0 ∗ dutyTok ER (sc c sd j) (j / 16) 0)

theorem send_step {Q : Post F} (sd : Bool) {j : ℕ} (hj : j < 56) (O : CellTallies nD τ sig ℕ) {rest : P F} :
    iprop(ctx X Y K KS ∗ reached ER (rc (toDev sd c) sd j) (j / 16) ∗ reached ER (sc c sd j) (j / 16) ∗ tokS c sd j
        ∗ stripeAt c sd (j + 8) (sent X Y sd j c) ∗ slotS (toDev sd c) sd j ∗ readyTo c sd (j / 8 + 1) ∗ ow (F := F) c (O + dueR c sd j))
      ⊢ iprop(((ow c O ∗ crS c sd j) -∗ run c rest Q) -∗ run c (sendK c sd j rest) Q) := by
  have e1 : sc c sd j = ((c : Thread nD τ), SemLoc.dma (semAt (ssems sd) j)) := congrArg (fun s => ((c : Thread nD τ), s)) (csem_ss sd j)
  have e2 : rc (toDev sd c) sd j = ((toDev sd c : Thread nD τ), SemLoc.dma (semAt (rsems sd) j)) :=
    congrArg (fun s => ((toDev sd c : Thread nD τ), s)) (csem_rs sd j)
  have d1 : (ringRd X Y).duties (sc c sd j) (j / 16) = {0} := (duties_at X Y c (.ss sd (q16 j)) (j / 16)).trans (duty_ss sd hj)
  have d2 : (ringRd X Y).duties (rc (toDev sd c) sd j) (j / 16) = {0} := (duties_at X Y (toDev sd c) (.rs sd (q16 j)) (j / 16)).trans (duty_rs sd hj)
  have a1 : (ringRd X Y).amount (sc c sd j) (j / 16) 0 = NS := amount_at X Y c (.ss sd (q16 j)) (j / 16) 0
  have a2 : (ringRd X Y).amount (rc (toDev sd c) sd j) (j / 16) 0 = NS := amount_at X Y (toDev sd c) (.rs sd (q16 j)) (j / 16) 0
  have p1 := pay_ss X Y c sd j 0
  have p2 := pay_rs X Y (toDev sd c) sd j 0
  rw [e1] at d1 a1 p1
  rw [e2] at d2 a2 p2
  unfold sendK tokS ow crS dueR stripeAt slotS slot
  iintro ⟨#Hc, #Hr2, #Hr1, ⟨Ht2, Ht1⟩, ⟨%fs, %hfs, Hs⟩, ⟨%fd, Hd⟩, #Hrd, ⟨%W, HO⟩⟩ Hk
  ihave Hi1 := (ctx_cell X Y K KS c (.ss sd (q16 j))) $$ Hc
  ihave Hi2 := (ctx_cell X Y K KS (toDev sd c) (.rs sd (q16 j))) $$ Hc
  rw [e1, e2]
  have h1 : ((stripe sd (j + 8)).view.loc (c : Thread nD τ) ↦[(stripe sd (j + 8)).view.set]{fullShare} fs)
      ⊢ (ringRd X Y).payload ((c : Thread nD τ), SemLoc.dma (semAt (ssems sd) j)) (j / 16) 0 := by
    rw [p1]; unfold slotS slot; iintro H; iexists fs; iexact H
  have h2 : iprop(((stripe sd j).view.loc (toDev sd c : Thread nD τ) ↦[(stripe sd j).view.set]{fullShare}
        ((stripe sd j).view.write (Elt F) fd ((stripe sd (j + 8)).view.read (Elt F) fs) Finset.univ)) ∗ readyTo c sd (j / 8 + 1))
      ⊢ (ringRd X Y).payload ((toDev sd c : Thread nD τ), SemLoc.dma (semAt (rsems sd) j)) (j / 16) 0 := by
    rw [p2]; unfold landed stripeAt
    rw [from_to, hfs]
    iintro ⟨H, Hr⟩
    isplitl [H]
    · iexists ((stripe sd j).view.write (Elt F) fd (sent X Y sd j c) Finset.univ)
      isplitr
      · ipureintro
        exact View.read_write_univ (v := (stripe sd j).view) fd (sent X Y sd j c)
      · iexact H
    · iexact Hr
  iapply (Rounds.wp_send_pointsTo_with 𝒱₀ ER (ringRd X Y) (c : Thread nD τ) none (c' := (toDev sd c : Thread nD τ)) (src := stripe sd (j + 8)) (dst := stripe sd j)
      (sS := .dma (semAt (ssems sd) j)) (sem := .dma (semAt (rsems sd) j)) (fs := fs) (fd := fd)
      (κ₁ := K (c, .ss sd (q16 j))) (κ₂ := K (toDev sd c, .rs sd (q16 j)))
      (F := readyTo c sd (j / 8 + 1)) (r₁ := j / 16) (r₂ := j / 16) (d₁ := 0) (d₂ := 0)
      (by rw [d1]; exact Finset.mem_singleton_self 0) (by rw [d2]; exact Finset.mem_singleton_self 0)
      (2 + 2 * j) 0 NS (NS_eq sd j) a1 a2 O rfl (W := W) h1 h2) $$ [Hs Hd HO Ht1 Ht2]
  · isplitr; · iapply (Entails.of_eq (congrArg (cellInv ER (ringRd X Y) (K (c, .ss sd (q16 j)))) e1)); iexact Hi1
    isplitr; · iapply (Entails.of_eq (congrArg (cellInv ER (ringRd X Y) (K (toDev sd c, .rs sd (q16 j)))) e2)); iexact Hi2
    isplitl [Hs]; · iexact Hs
    isplitl [Hd]
    · isplitl [Hd]; · iexact Hd
      iexact Hrd
    isplitl [HO]; · iexact HO
    isplitl [Ht1]; · iexact Ht1
    isplitr; · iexact Hr1
    isplitl [Ht2]; · iexact Ht2
    iexact Hr2
  iintro ⟨Hcr, HO⟩
  iapply Hk
  isplitl [HO]; · iexists _; iexact HO
  iexact Hcr

/-! ## Loads and stores -/

/-- The staged operands, whole. -/
def xAt : sProp 𝕄 := iprop((xM).view.loc (c : Thread nD τ) ↦{fullShare} X c)
def wAt : sProp 𝕄 := iprop((wM).view.loc (c : Thread nD τ) ↦{fullShare} Y c)
/-- The result's staging buffer, its blocks given. -/
def oAt (g : ℕ → Vec F S512x512 .f32) : sProp 𝕄 :=
  iprop(∃ f : OC F, ⌜∀ b < 16, blockOf f b = g b⌝ ∗ ((oM).view.loc (c : Thread nD τ) ↦{fullShare} f))

theorem oAt_congr {g g' : ℕ → Vec F S512x512 .f32} (h : ∀ b < 16, g b = g' b) : (oAt c g : sProp 𝕄) ⊢ oAt c g' := by
  unfold oAt
  iintro ⟨%f, %hf, H⟩
  iexists f
  isplitr
  · ipureintro; exact fun b hb => (hf b hb).trans (h b hb)
  · iexact H

theorem x_load {Q : Post F} {r : LoadRect S4096x512} {hl : (xM).view.LoadsAt r} {k : (r.shape.Idx → Elt F .bf16) → P F} :
    xAt X c ⊢ iprop((xAt X c -∗ run c (k ((xM).view.readAt (Elt F) r (X c))) Q) -∗ run c (.op (.load xM r hl) k) Q) := by
  unfold xAt
  exact wp_load 𝒱₀ (c : Thread nD τ) none Set.univ (m := xM) (Finset.subset_univ _)
theorem w_load {Q : Post F} {r : LoadRect S512x8192} {hl : (wM).view.LoadsAt r} {k : (r.shape.Idx → Elt F .bf16) → P F} :
    wAt Y c ⊢ iprop((wAt Y c -∗ run c (k ((wM).view.readAt (Elt F) r (Y c))) Q) -∗ run c (.op (.load wM r hl) k) Q) := by
  unfold wAt
  exact wp_load 𝒱₀ (c : Thread nD τ) none Set.univ (m := wM) (Finset.subset_univ _)
theorem o_load {Q : Post F} {g : ℕ → Vec F S512x512 .f32} {b : ℕ} (hb : b < 16) {hl : (oM).view.LoadsAt (colR b).toLoadRect} {k : Vec F S512x512 .f32 → P F} :
    oAt c g ⊢ iprop((oAt c g -∗ run c (k (g b)) Q) -∗ run c (.op (.load oM (colR b).toLoadRect hl) k) Q) := by
  unfold oAt
  iintro ⟨%f, %hf, H⟩ Hk
  iapply (wp_load 𝒱₀ (c : Thread nD τ) none Set.univ (m := oM) (Finset.subset_univ _)) $$ H
  iintro H
  have e : (oM).view.readAt (Elt F) (colR b).toLoadRect f = g b := hf b hb
  rw [e]
  iapply Hk
  iexists f
  isplitr
  · ipureintro; exact hf
  · iexact H
theorem o_store {Q : Post F} {g : ℕ → Vec F S512x512 .f32} {b : ℕ} (hb : b < 16) {v : FVec F S512x512 .f32} {hx : ((oM).access (colR b)).Stores Finset.univ} {hm}
    {k : PUnit → P F} :
    oAt c g ⊢ iprop((oAt c (Function.update g b v) -∗ run c (k ⟨⟩) Q) -∗ run c (.op (.store oM (colR b) v Finset.univ hx hm) k) Q) := by
  unfold oAt
  iintro ⟨%f, %hf, H⟩ Hk
  iapply (wp_store 𝒱₀ (c : Thread nD τ) none Set.univ (m := oM) (r := colR b) (Mk := Finset.univ) (Finset.subset_univ _)) $$ H
  iintro H
  iapply Hk
  iexists (((oM).access (colR b)).write (Elt F) f v Finset.univ)
  isplitr
  · ipureintro
    intro b' hb'
    by_cases e : b' = b
    · subst e; rw [Function.update_self]; exact block_write_same f b' v
    · rw [Function.update_of_ne e]
      exact (block_write_other f (by omega) v).trans (hf b' hb')
  · iexact H

theorem stripe_load {Q : Post F} (sd : Bool) (q : ℕ) (f : (buf sd).view.ty.Contents (Elt F)) {hl : (buf sd).view.LoadsAt (stripeR q).toLoadRect} {k : Vec F S1x512x512 .bf16 → P F} :
    ((stripe sd q).view.loc (c : Thread nD τ) ↦[(stripe sd q).view.set]{fullShare} f : sProp 𝕄)
      ⊢ iprop((((stripe sd q).view.loc (c : Thread nD τ) ↦[(stripe sd q).view.set]{fullShare} f) -∗ run c (k (((buf sd).access (stripeR q)).read (Elt F) f)) Q)
        -∗ run c (.op (.load (buf sd) (stripeR q).toLoadRect hl) k) Q) :=
  wp_load_rect 𝒱₀ (c : Thread nD τ) none Set.univ (m := buf sd) (r := stripeR q) (S := (stripe sd q).view.set) (q := fullShare) (f := f) (stripe_set sd q).ge
theorem stripe_store {Q : Post F} (sd : Bool) (q : ℕ) (f : (buf sd).view.ty.Contents (Elt F)) {v : FVec F S1x512x512 .bf16} {hx : ((buf sd).access (stripeR q)).Stores Finset.univ} {hm}
    {k : PUnit → P F} :
    ((stripe sd q).view.loc (c : Thread nD τ) ↦[(stripe sd q).view.set]{fullShare} f : sProp 𝕄)
      ⊢ iprop((((stripe sd q).view.loc (c : Thread nD τ) ↦[(stripe sd q).view.set]{fullShare} (((buf sd).access (stripeR q)).write (Elt F) f v Finset.univ)) -∗ run c (k ⟨⟩) Q)
        -∗ run c (.op (.store (buf sd) (stripeR q) v Finset.univ hx hm) k) Q) :=
  wp_store 𝒱₀ (c : Thread nD τ) none Set.univ (m := buf sd) (r := stripeR q) (Mk := Finset.univ) (S := (stripe sd q).view.set) (f := f) (stripe_set sd q).ge

theorem put_step {Q : Post F} (sd : Bool) (q : ℕ) (u : FVec F S512x512 .bf16) {rest : P F} :
    slotS c sd q ⊢ iprop((stripeAt c sd q u -∗ run c rest Q)
      -∗ run c (putK sd q (shapeCast S1x512x512 u shapeCasts_S512x512_S1x512x512) rest) Q) := by
  unfold slotS slot putK stripeAt
  iintro ⟨%f, H⟩ Hk
  iapply (stripe_load c sd q f) $$ H
  iintro H
  iapply (stripe_store c sd q f) $$ H
  iintro H
  iapply Hk
  iexists _
  isplitr
  · ipureintro; exact stripe_write sd q f u
  · iexact H

theorem seed_step {Q : Post F} (sd : Bool) {j : ℕ} (hj : j < 8) {rest : P F} :
    iprop(slotS c sd (j + 8) ∗ xAt X c ∗ wAt Y c)
      ⊢ iprop(((stripeAt c sd (j + 8) (sent X Y sd j c) ∗ xAt X c ∗ wAt Y c) -∗ run c rest Q) -∗ run c (seedK c sd j rest) Q) := by
  rw [sent_seed X Y sd j hj]
  unfold seedK
  iintro ⟨Hs, Hx, Hw⟩ Hk
  iapply (x_load X c) $$ Hx
  iintro Hx
  iapply (w_load Y c) $$ Hw
  iintro Hw
  iapply (put_step c sd (j + 8) (seedU (rowsOf (X c) sd c 0) (colsOf (Y c) (colOf sd j)))) $$ Hs
  iintro Hs
  iapply Hk
  isplitl [Hs]; · iexact Hs
  isplitl [Hx]; · iexact Hx
  iexact Hw

theorem acc_step {Q : Post F} (sd : Bool) (k : ℕ) {rest : P F} :
    iprop(stripeAt c sd k (sent X Y sd k (fromDev sd c)) ∗ xAt X c ∗ wAt Y c)
      ⊢ iprop(((stripeAt c sd (k + 16) (sent X Y sd (k + 8) c) ∗ xAt X c ∗ wAt Y c) -∗ run c rest Q) -∗ run c (accK c sd k rest) Q) := by
  rw [sent_step X Y sd k, stripeAt_congr c sd (show (k + 16) % 16 = k % 16 by omega)]
  unfold accK
  iintro ⟨Hs, Hx, Hw⟩ Hk
  conv => arg 1; unfold stripeAt
  icases Hs with ⟨%f, %hf, Hs⟩
  iapply (stripe_load c sd k f) $$ Hs
  iintro Hs
  iapply (x_load X c) $$ Hx
  iintro Hx
  iapply (w_load Y c) $$ Hw
  iintro Hw
  have e : accV (((buf sd).access (stripeR k)).read (Elt F) f) (rowsOf (X c) sd c ((k + 8) / 8)) (colsOf (Y c) (colOf sd k))
      = shapeCast S1x512x512 (accU (sent X Y sd k (fromDev sd c)) (rowsOf (X c) sd c ((k + 8) / 8)) (colsOf (Y c) (colOf sd k))) shapeCasts_S512x512_S1x512x512 := by
    rw [← hf]; rfl
  have st := put_step c sd k (accU (sent X Y sd k (fromDev sd c)) (rowsOf (X c) sd c ((k + 8) / 8)) (colsOf (Y c) (colOf sd k))) (rest := rest) (Q := Q)
  rw [← e] at st
  iapply st $$ [Hs]
  · unfold slotS slot; iexists _; iexact Hs
  iintro Hs
  iapply Hk
  isplitl [Hs]; · unfold stripeAt; iexact Hs
  isplitl [Hx]; · iexact Hx
  iexact Hw

end

end Cert.KernelIdeal.Ring

end
-- ==== Proof.KernelIdeal.Credits.lean ====
/- The steps of the credits and of the exchange of the maximum. -/
module

public import proofs.«01_k».proof.Proof.KernelIdeal.Steps

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.SiteBlocks (L lv)

variable {F : FTy → Type} [FloatOps F]

local notation "𝕄" => MT nD τ sig ℕ (Elt F) ℕ UU ℕ

section

variable (X : Dev nD → XC F) (Y : Dev nD → YC F) (K : Dev nD × Cell → ℕ) (KS : Key → ℕ) (c : Dev nD)

/-- One member's fact read off, the members kept. -/
theorem peek {A : ℕ → sProp 𝕄} {R : sProp 𝕄} {S : Finset ℕ} {j : ℕ} (hj : j ∈ S) (h : A j ⊢ iprop(A j ∗ R)) : bigSep S A ⊢ iprop(bigSep S A ∗ R) := by
  rw [bigSep_erase hj]
  show iprop(A j ∗ bigSep (S.erase j) A) ⊢ iprop((A j ∗ bigSep (S.erase j) A) ∗ R)
  iintro ⟨H, Hr⟩
  ihave H' := h $$ H
  icases H' with ⟨H, HR⟩
  isplitr [HR]
  · isplitl [H]; · iexact H
    iexact Hr
  · iexact HR

theorem freedTo_succ (d : Dev nD) (sd : Bool) (k : ℕ) : (freedTo (F := F) d sd (k + 1)) = iprop(freed d sd k ∗ freedTo d sd k) := by
  unfold freedTo; rw [Finset.range_add_one, bigSep_insert Finset.notMem_range_self]; rfl
theorem freedTo_at (d : Dev nD) (sd : Bool) {k n : ℕ} (h : k < n) : (freedTo (F := F) d sd n) ⊢ freed d sd k := by
  unfold freedTo; exact bigSep_elim (Finset.mem_range.mpr h)
theorem freed_eq (d : Dev nD) (sd : Bool) {k : ℕ} (hk : k < 48) :
    (freed (F := F) d sd k) = iprop(released ES (.st d sd ⟨k, hk⟩) 1 ∗ reached ER (rc d sd (k + 8)) ((k + 8) / 16)) := by
  unfold freed; rw [dif_pos hk]

/-- What a device holds of its credits after taking `k`. -/
def credSt (sd : Bool) (k : ℕ) : sProp 𝕄 :=
  iprop(∃ T : Finset ℕ, ⌜T ⊆ Finset.range 48 ∧ k + (Finset.range 48 \ T).card ≤ 48⌝ ∗ atPos ER (cc c sd) 0 T k
    ∗ bigSep T fun i => freedTo (toDev sd c) sd (i + 1))

/-- What a device holds for its stripe of phase `k` and for its neighbours'. -/
def keyS (sd : Bool) (k : ℕ) : sProp 𝕄 :=
  if h : k < 48 then iprop(readerAt ES (.st c sd ⟨k, h⟩) 0 ∗ writeTok ES (.st (toDev sd c) sd ⟨k, h⟩) 1) else iprop(emp)

theorem keyS_eq (sd : Bool) {k : ℕ} (hk : k < 48) :
    (keyS c sd k : sProp 𝕄) = iprop(readerAt ES (.st c sd ⟨k, hk⟩) 0 ∗ writeTok ES (.st (toDev sd c) sd ⟨k, hk⟩) 1) := by
  unfold keyS; rw [dif_pos hk]

theorem give_step {Q : Post F} (sd : Bool) {k : ℕ} (hk : k < 48) (O : CellTallies nD τ sig ℕ) {rest : P F} :
    iprop(ctx X Y K KS ∗ slotS c sd (k + 8) ∗ readerAt ES (.st c sd ⟨k, hk⟩) 0 ∗ freedTo c sd k ∗ reached ER (rc c sd (k + 8)) ((k + 8) / 16)
        ∗ dutyTok ER (cc (fromDev sd c) sd) 0 k ∗ ow (F := F) c (O + dueC c sd k))
      ⊢ iprop(((ow c O ∗ freedTo c sd (k + 1)) -∗ run c rest Q) -∗ run c (giveK c sd rest) Q) := by
  have hd : k ∈ (ringRd X Y).duties (cc (fromDev sd c) sd) 0 := by
    rw [duties_at]; unfold dutyOf; dsimp only; rw [if_pos rfl]; exact Finset.mem_range.mpr hk
  have ha := amount_at X Y (fromDev sd c) (.crd sd) 0 k
  have hp : (ringRd X Y).payload ((fromDev sd c : Thread nD τ), SemLoc.reg (crd sd)) 0 k = freedTo (toDev sd (fromDev sd c)) sd (k + 1) :=
    pay_crd X Y (fromDev sd c) sd 0 k
  rw [to_from] at hp
  unfold giveK
  rw [freedTo_succ, freed_eq c sd hk]
  iintro ⟨#Hc, Hs, Hr, #Hf, #Hre, Ht, Ho⟩ Hk
  ihave Hsl := (ctx_slot X Y K KS (.st c sd ⟨k, hk⟩)) $$ Hc
  imod (slot_release ES (Set.mem_univ (KS (.st c sd ⟨k, hk⟩))) (slotOf_excl (F := F) (.st c sd ⟨k, hk⟩)) 0) $$ [Hr Hs] with ⟨-, #Hrel⟩
  · isplitr; · iexact Hsl
    isplitl [Hr]; · iexact Hr
    unfold slotOf; iexact Hs
  ihave Hi := (ctx_cell X Y K KS (fromDev sd c) (.crd sd)) $$ Hc
  ihave Hz := (ctx_reached X Y K KS (fromDev sd c) (.crd sd)) $$ Hc
  unfold ow dueC
  icases Ho with ⟨%W, HO⟩
  iapply (Rounds.wp_signal 𝒱₀ ER (ringRd X Y) (c : Thread nD τ) none (dst := (fromDev sd c : Thread nD τ)) (sem := crd sd) (κ := K (fromDev sd c, .crd sd)) (r := 0) (d := k)
      hd ha (3 + 2 * k) O rfl (W := W)) $$ [HO Ht]
  · isplitr; · iexact Hi
    isplitl [HO]; · iexact HO
    isplitl [Ht]; · iexact Ht
    isplitr
    · iapply (Entails.of_eq hp.symm)
      rw [freedTo_succ, freed_eq c sd hk]
      isplitr
      · isplitr; · iexact Hrel
        iexact Hre
      iexact Hf
    iexact Hz
  iintro HO
  iapply Hk
  isplitl [HO]; · iexists _; iexact HO
  isplitr
  · isplitr; · iexact Hrel
    iexact Hre
  iexact Hf

theorem take_step {Q : Post F} (sd : Bool) {k : ℕ} (hk : k < 48) {O : CellTallies nD τ sig ℕ} (hO : Over (4 + 2 * k) O) {rest : P F} :
    iprop(ctx X Y K KS ∗ credSt c sd k ∗ crC c sd k ∗ ow (F := F) c O)
      ⊢ iprop(((ow c O ∗ credSt c sd (k + 1) ∗ freed (toDev sd c) sd k) -∗ run c rest Q) -∗ run c (takeK sd rest) Q) := by
  have hdu' : (ringRd X Y).duties ((c : Thread nD τ), SemLoc.reg (crd sd)) 0 = Finset.range 48 := (duties_at X Y c (.crd sd) 0).trans (by
    unfold dutyOf; dsimp only; rw [if_pos rfl])
  have hex' : (ringRd X Y).expect ((c : Thread nD τ), SemLoc.reg (crd sd)) 0 = 48 := (expect_at X Y c (.crd sd) 0).trans (by
    unfold dutyOf unitsOf; dsimp only; rw [if_pos rfl, Finset.card_range])
  unfold takeK ow
  iintro ⟨#Hc, Hst, Hcr, ⟨%W, HO⟩⟩ Hk
  conv => arg 1; unfold credSt
  icases Hst with ⟨%T, %hT, Hat, Hp⟩
  ihave Hi := (ctx_cell X Y K KS c (.crd sd)) $$ Hc
  ihave Hlv := (ctx_lev X Y K KS) $$ Hc
  unfold crC
  iapply (Rounds.wp_wait 𝒱₀ ER (ringRd X Y) (c : Thread nD τ) none (κ := K (c, .crd sd)) (sm := .reg (crd sd)) (k' := 1)
      (wpE_semWait_eq 𝒱₀ (c : Thread nD τ) none Set.univ) (Set.mem_univ _) (cr := Finsupp.single (3 + 2 * k) 1) (O := O) (W := W)
      {(SemLoc.reg (crd sd), 3 + 2 * k)} (R := 0) (m := k) (T := T) (Util.total_single _ _) (image_single_subset _ _ _)) $$ [Hcr HO Hat]
  · isplitr; · iexact Hi
    isplitl [Hcr]; · iexact Hcr
    isplitl [HO]; · iexact HO
    isplitr
    · iapply (may_wait c (.reg (crd sd)) (i := 3 + 2 * k) (by simp only [NL]; omega) (by rw [show 3 + 2 * k + 1 = 4 + 2 * k by omega]; exact hO))
      iexact Hlv
    iexact Hat
  iintro %S ⟨%hS, HO, Hat, Hn⟩
  obtain ⟨i, hi, hki⟩ : ∃ i ∈ S, k ≤ i := by
    by_contra hne
    have hsub : Finset.Ico k 48 ⊆ Finset.range 48 \ S := fun i hi => by
      rw [Finset.mem_Ico] at hi
      exact Finset.mem_sdiff.mpr ⟨Finset.mem_range.mpr hi.2, fun h => hne ⟨i, h, hi.1⟩⟩
    have h1 := Finset.card_le_card hsub
    have h2 := hS.2.2
    rw [hdu', hex'] at h2
    rw [Nat.card_Ico] at h1
    omega
  have hn : (bigSep (S \ T) fun d => (ringRd X Y).payload ((c : Thread nD τ), SemLoc.reg (crd sd)) 0 d)
      = (bigSep (S \ T) fun i => freedTo (toDev sd c) sd (i + 1) : sProp 𝕄) := bigSep_congr fun i _ => pay_crd X Y c sd 0 i
  have hj : iprop((bigSep T fun i => freedTo (toDev sd c) sd (i + 1)) ∗ bigSep (S \ T) fun i => freedTo (toDev sd c) sd (i + 1))
      = (bigSep S fun i => freedTo (toDev sd c) sd (i + 1) : sProp 𝕄) := (bigSep_sdiff_split hS.1).symm
  ihave Hn := (Entails.of_eq hn) $$ Hn
  ihave Hall := (Entails.of_eq hj) $$ [Hp Hn]
  · isplitl [Hp]; · iexact Hp
    iexact Hn
  ihave Hall := (peek (R := freed (toDev sd c) sd k) hi (by
    iintro #H
    isplitr; · iexact H
    iapply (freedTo_at (toDev sd c) sd (Nat.lt_succ_of_le hki)); iexact H)) $$ Hall
  icases Hall with ⟨Hall, Hf⟩
  iapply Hk
  isplitl [HO]; · iexists _; iexact HO
  isplitr [Hf]
  · iexists S
    isplitr
    · ipureintro
      exact ⟨hdu' ▸ hS.2.1, by have := hS.2.2; rw [hdu', hex'] at this; exact this⟩
    isplitl [Hat]; · iexact Hat
    iexact Hall
  · iexact Hf

/-! ## The exchange of the maximum -/

theorem myAt_eq (u : (myM).view.ty.Contents (Elt F)) : (myAt c u : sProp 𝕄) = iprop((myM).view.loc (c : Thread nD τ) ↦{fullShare} u) := by
  have h : ∀ S : Finset (Idx ((myM).view.loc (c : Thread nD τ))), S = Finset.univ →
      ((myM).view.loc (c : Thread nD τ) ↦[S]{fullShare} u : sProp 𝕄) = iprop((myM).view.loc (c : Thread nD τ) ↦{fullShare} u) := fun S e => by rw [e]
  exact h _ (View.set_whole cc0_scratch8)

theorem my_load {Q : Post F} (u : (myM).view.ty.Contents (Elt F)) {r : LoadRect S1x128} {hl : (myM).view.LoadsAt r} {k : (r.shape.Idx → Elt F .f32) → P F} :
    (myAt c u : sProp 𝕄) ⊢ iprop((myAt c u -∗ run c (k ((myM).view.readAt (Elt F) r u)) Q) -∗ run c (.op (.load myM r hl) k) Q) := by
  rw [myAt_eq]
  exact wp_load 𝒱₀ (c : Thread nD τ) none Set.univ (m := myM) (Finset.subset_univ _)

theorem my_store {Q : Post F} (u : (myM).view.ty.Contents (Elt F)) {v : FVec F S1x128 .f32} {hx : ((myM).access rowAll).Stores Finset.univ} {hm} {k : PUnit → P F} :
    (myAt c u : sProp 𝕄) ⊢ iprop((myAt c (((myM).access rowAll).write (Elt F) u v Finset.univ) -∗ run c (k ⟨⟩) Q)
      -∗ run c (.op (.store myM rowAll v Finset.univ hx hm) k) Q) := by
  rw [myAt_eq, myAt_eq]
  exact wp_store 𝒱₀ (c : Thread nD τ) none Set.univ (m := myM) (r := rowAll) (Mk := Finset.univ) (Finset.subset_univ _)

theorem maxPut_step {Q : Post F} (u v : FVec F S1x128 .f32) {rest : P F} :
    (myAt c u : sProp 𝕄) ⊢ iprop((myAt c v -∗ run c rest Q) -∗ run c (maxPutK v rest) Q) := by
  unfold maxPutK
  iintro H Hk
  iapply (my_load c u) $$ H
  iintro H
  iapply (my_store c u) $$ H
  iintro H
  iapply Hk
  iapply (Entails.of_eq (congrArg (myAt c) (my_write u v))); iexact H

theorem rx_load {Q : Post F} (h : ℕ) (f : (rxM).view.ty.Contents (Elt F)) {hl : (rxM).view.LoadsAt (rxR h).toLoadRect} {k : Vec F S1x1x128 .f32 → P F} :
    ((rx h).view.loc (c : Thread nD τ) ↦[(rx h).view.set]{fullShare} f : sProp 𝕄)
      ⊢ iprop((((rx h).view.loc (c : Thread nD τ) ↦[(rx h).view.set]{fullShare} f) -∗ run c (k (((rxM).access (rxR h)).read (Elt F) f)) Q)
        -∗ run c (.op (.load rxM (rxR h).toLoadRect hl) k) Q) :=
  wp_load_rect 𝒱₀ (c : Thread nD τ) none Set.univ (m := rxM) (r := rxR h) (S := (rx h).view.set) (q := fullShare) (f := f) (rx_set h).ge

theorem dueX_eq (h : Fin 3) : dueX c h.1 = tallyAt (at' (partner c h.1) (.ra h)) (200 + h.1) NX := by
  fin_cases h <;> rfl

/-- What round `h` of the exchange takes, and what it leaves. -/
def exSt (h : Fin 3) : sProp 𝕄 :=
  iprop(atPos ER (at' c (.sa h)) 0 ∅ 0 ∗ atPos ER (at' c (.ra h)) 0 ∅ 0 ∗ dutyTok ER (at' (partner c h.1) (.ra h)) 0 0 ∗ dutyTok ER (at' c (.sa h)) 0 0
    ∗ writeTok ES (.ax (partner c h.1) h) 1 ∗ cred (tallyAt (at' c (.ra h)) (200 + h.1) NX))
def exEnd (h : Fin 3) : sProp 𝕄 :=
  iprop(atPos ER (at' c (.sa h)) 1 ∅ 0 ∗ atPos ER (at' c (.ra h)) 1 ∅ 0 ∗ slotX c h.1)

theorem ex_step {Q : Post F} (h : Fin 3) {rest : P F} :
    iprop(ctx X Y K KS ∗ exSt c h ∗ ready (partner c h.1) ∗ myAt c (amx X Y h.1 c) ∗ ow (F := F) c (oweX c h.1))
      ⊢ iprop(((ow c (oweX c (h.1 + 1)) ∗ exEnd c h ∗ myAt c (amx X Y (h.1 + 1) c)) -∗ run c rest Q) -∗ run c (exK c h.1 rest) Q) := by
  have d1 : (ringRd X Y).duties (at' c (.sa h)) 0 = {0} := duties_at X Y c (.sa h) 0
  have d2 : (ringRd X Y).duties (at' (partner c h.1) (.ra h)) 0 = {0} := duties_at X Y (partner c h.1) (.ra h) 0
  have a1 : (ringRd X Y).amount (at' c (.sa h)) 0 0 = NX := amount_at X Y c (.sa h) 0 0
  have a2 : (ringRd X Y).amount (at' (partner c h.1) (.ra h)) 0 0 = NX := amount_at X Y (partner c h.1) (.ra h) 0 0
  have p1 : (ringRd X Y).payload (at' c (.sa h)) 0 0 = myAt c (amx X Y h.1 c) := payload_at X Y c (.sa h) 0 0
  have p2 : (ringRd X Y).payload (at' (partner c h.1) (.ra h)) 0 0 = rxAt (partner c h.1) h.1 (amx X Y h.1 (partner (partner c h.1) h.1)) :=
    payload_at X Y (partner c h.1) (.ra h) 0 0
  rw [partner_partner] at p2
  have el : (ready (F := F) (partner c h.1)) ⊢ released ES (.ax (partner c h.1) h) 1 := by unfold ready; exact bigSep_elim (Finset.mem_univ h)
  have e1 : at' c (.sa h) = ((c : Thread nD τ), SemLoc.dma (axAt cc0_scratch10 h.1)) := rfl
  have e2 : at' (partner c h.1) (.ra h) = ((partner c h.1 : Thread nD τ), SemLoc.dma (axAt cc0_scratch11 h.1)) := rfl
  rw [oweX_step c h.2, dueX_eq]
  unfold exK exSt exEnd
  iintro ⟨#Hc, ⟨Has, Har, Htr, Hts, Hw, Hcr⟩, #Hrd, Hmy, Ho⟩ Hk
  ihave Hsl := (ctx_slot X Y K KS (.ax (partner c h.1) h)) $$ Hc
  ihave Hrel := el $$ Hrd
  imod (slot_take ES (Set.mem_univ (KS (.ax (partner c h.1) h))) 1) $$ [Hw] with Hd
  · isplitr; · iexact Hsl
    isplitr; · iexact Hrel
    iexact Hw
  unfold slotOf slotX slot ow
  icases Hd with ⟨%fd, Hd⟩
  icases Ho with ⟨%W, HO⟩
  ihave Hi1 := (ctx_cell X Y K KS c (.sa h)) $$ Hc
  ihave Hi2 := (ctx_cell X Y K KS (partner c h.1) (.ra h)) $$ Hc
  ihave Hz1 := (ctx_reached X Y K KS c (.sa h)) $$ Hc
  ihave Hz2 := (ctx_reached X Y K KS (partner c h.1) (.ra h)) $$ Hc
  have h1 : (myAt c (amx X Y h.1 c) : sProp 𝕄) ⊢ (ringRd X Y).payload ((c : Thread nD τ), SemLoc.dma (axAt cc0_scratch10 h.1)) 0 0 := Entails.of_eq p1.symm
  have h2 : iprop((rx h.1).view.loc (partner c h.1 : Thread nD τ) ↦[(rx h.1).view.set]{fullShare}
        ((rx h.1).view.write (Elt F) fd ((myM).view.read (Elt F) (amx X Y h.1 c)) Finset.univ))
      ⊢ (ringRd X Y).payload ((partner c h.1 : Thread nD τ), SemLoc.dma (axAt cc0_scratch11 h.1)) 0 0 := by
    refine BIBase.Entails.trans ?_ (Entails.of_eq p2.symm)
    rw [show (myM).view.read (Elt F) (amx X Y h.1 c) = amx X Y h.1 c from rfl]
    unfold rxAt
    iintro H
    iexists ((rx h.1).view.write (Elt F) fd (amx X Y h.1 c) Finset.univ)
    isplitr
    · ipureintro
      exact View.read_write_univ (v := (rx h.1).view) fd (amx X Y h.1 c)
    · iexact H
  iapply (Rounds.wp_send_pointsTo 𝒱₀ ER (ringRd X Y) (c : Thread nD τ) none (c' := (partner c h.1 : Thread nD τ)) (src := myM) (dst := rx h.1)
      (sS := .dma (axAt cc0_scratch10 h.1)) (sem := .dma (axAt cc0_scratch11 h.1)) (q := fullShare) (fs := amx X Y h.1 c) (fd := fd)
      (κ₁ := K (c, .sa h)) (κ₂ := K (partner c h.1, .ra h)) (r₁ := 0) (r₂ := 0) (d₁ := 0) (d₂ := 0)
      (d1.ge (Finset.mem_singleton_self 0)) (d2.ge (Finset.mem_singleton_self 0))
      (200 + h.1) 0 NX (NX_eq h.1) a1 a2 (oweX c (h.1 + 1)) rfl (W := W) h1 h2) $$ [Hmy Hd HO Hts Htr]
  · isplitr; · iexact Hi1
    isplitr; · iexact Hi2
    isplitl [Hmy]; · unfold myAt; iexact Hmy
    isplitl [Hd]; · iexact Hd
    isplitl [HO]; · iexact HO
    isplitl [Hts]; · iexact Hts
    isplitr; · iexact Hz1
    isplitl [Htr]; · iexact Htr
    iexact Hz2
  iintro ⟨Hcs, HO⟩
  iapply (wait_step X Y K KS c (.sa h) (a := axAt cc0_scratch10 h.1) rfl (dst := myM) rfl (r := 0) rfl (i := 0) (by decide) (O := oweX c (h.1 + 1))
    (over_mono (by omega) (over_X c (h.1 + 1)))) $$ [Has Hcs HO]
  · isplitr; · iexact Hc
    isplitl [Has]; · iexact Has
    isplitl [Hcs]; · iexact Hcs
    unfold ow; iexists _; iexact HO
  iintro ⟨Ho, Has, -, Hmy⟩
  ihave Hmy := (show payOf X Y c (.sa h) 0 0 ⊢ myAt c (amx X Y h.1 c) from Entails.rfl) $$ Hmy
  iapply (wait_step X Y K KS c (.ra h) (a := axAt cc0_scratch11 h.1) rfl (dst := rx h.1) rfl (r := 0) rfl (i := 200 + h.1) (by simp only [NL]; omega) (O := oweX c (h.1 + 1))
    (over_mono (by omega) (over_X c (h.1 + 1)))) $$ [Har Hcr Ho]
  · isplitr; · iexact Hc
    isplitl [Har]; · iexact Har
    isplitl [Hcr]; · iexact Hcr
    iexact Ho
  iintro ⟨Ho, Har, -, Hrx⟩
  ihave Hrx := (show payOf X Y c (.ra h) 0 0 ⊢ rxAt c h.1 (amx X Y h.1 (partner c h.1)) from Entails.rfl) $$ Hrx
  unfold rxAt
  icases Hrx with ⟨%f, %hf, Hrx⟩
  iapply (my_load c (amx X Y h.1 c)) $$ Hmy
  iintro Hmy
  iapply (rx_load c h.1 f) $$ Hrx
  iintro Hrx
  have em : exV ((myM).view.readAt (Elt F) rowAll.toLoadRect (amx X Y h.1 c)) (((rxM).access (rxR h.1)).read (Elt F) f) = amx X Y (h.1 + 1) c := by
    rw [my_read, amx, ← hf]; rfl
  have st := maxPut_step c (amx X Y h.1 c) (amx X Y (h.1 + 1) c) (rest := rest) (Q := Q)
  rw [← em] at st
  iapply st $$ Hmy
  iintro Hmy
  iapply Hk
  isplitl [Ho]; · unfold ow; iexact Ho
  isplitr [Hmy]
  · isplitl [Has]; · iexact Has
    isplitl [Har]; · iexact Har
    iexists f; iexact Hrx
  · iapply (Entails.of_eq (congrArg (myAt c) em)); iexact Hmy

end

end Cert.KernelIdeal.Ring

end
-- ==== Proof.KernelIdeal.Loops.lean ====
/- The loops of the body: first sends, own product, phases, last stripes, last departures, scaling. -/
module

public import proofs.«01_k».proof.Proof.KernelIdeal.Credits

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.SiteBlocks (L lv)

variable {F : FTy → Type} [FloatOps F]

local notation "𝕄" => MT nD τ sig ℕ (Elt F) ℕ UU ℕ

section

variable (X : Dev nD → XC F) (Y : Dev nD → YC F) (K : Dev nD × Cell → ℕ) (KS : Key → ℕ) (c : Dev nD)

theorem ready_one (sd : Bool) : (ready c : sProp 𝕄) ⊢ readyTo c sd 1 := by
  unfold readyTo
  rw [Finset.range_one, bigSep_singleton]
  exact Entails.rfl

theorem readyTo_succ (d : Dev nD) (sd : Bool) (n : ℕ) : iprop(ready d ∗ readyTo (fromDev sd d) sd n) ⊢ (readyTo d sd (n + 1) : sProp 𝕄) := by
  have e : ∀ (d : Dev nD) (n : ℕ), (readyTo d sd (n + 1) : sProp 𝕄) = iprop(ready (upN sd n d) ∗ readyTo d sd n) := fun d n => by
    unfold readyTo; rw [bigSep_range_succ]
  induction n with
  | zero => iintro ⟨#H, -⟩; iapply (ready_one d sd); iexact H
  | succ n ih =>
    rw [e d (n + 1), e (fromDev sd d) n, upN_succ]
    iintro ⟨#H, ⟨#Hu, #Hr⟩⟩
    isplitr; · iexact Hu
    iapply ih
    isplitr; · iexact H
    iexact Hr

/-! ## The first sends -/

/-- What first send `j` takes: its tokens, the device's own stripe to fill, the neighbour's to land in. -/
def seedI (sd : Bool) (j : ℕ) : sProp 𝕄 := iprop(tokS c sd j ∗ slotS c sd (j + 8) ∗ slotS (toDev sd c) sd j)

theorem seedSend_step {Q : Post F} (sd : Bool) {j : ℕ} (hj : j < 8) (O : CellTallies nD τ sig ℕ) {rest : P F} :
    iprop(ctx X Y K KS ∗ ready c ∗ tokS c sd j ∗ stripeAt c sd (j + 8) (sent X Y sd j c) ∗ slotS (toDev sd c) sd j ∗ ow (F := F) c (O + dueR c sd j))
      ⊢ iprop(((ow c O ∗ crS c sd j) -∗ run c rest Q) -∗ run c (sendK c sd j rest) Q) := by
  have st := send_step X Y K KS c sd (j := j) (by omega) O (rest := rest) (Q := Q)
  rw [Nat.div_eq_of_lt (show j < 16 by omega), Nat.div_eq_of_lt hj] at st
  iintro ⟨#Hc, #Hr, Ht, Hs, Hd, Ho⟩
  iapply st
  isplitr; · iexact Hc
  isplitr; · iapply (ctx_reached X Y K KS (toDev sd c) (.rs sd (q16 j))); iexact Hc
  isplitr; · iapply (ctx_reached X Y K KS c (.ss sd (q16 j))); iexact Hc
  isplitl [Ht]; · iexact Ht
  isplitl [Hs]; · iexact Hs
  isplitl [Hd]; · iexact Hd
  isplitr; · iapply (ready_one c sd); iexact Hr
  iexact Ho

def seedSt (sd : Bool) (j : ℕ) : sProp 𝕄 := iprop(bigSep (Finset.Ico j 8) (seedI c sd) ∗ bigSep (Finset.Ico 0 j) (crS c sd))

theorem seedSt_open (sd : Bool) {j : ℕ} (hj : j < 8) :
    (seedSt c sd j : sProp 𝕄) ⊢ iprop(tokS c sd j ∗ slotS c sd (j + 8) ∗ slotS (toDev sd c) sd j ∗ (crS c sd j -∗ seedSt c sd (j + 1))) := by
  unfold seedSt
  rw [bigSep_Ico_succ_bot hj, bigSep_Ico_succ_top (Nat.zero_le j)]
  unfold seedI
  iintro ⟨⟨⟨Ht, Hs, Hd⟩, Hr⟩, Hcr⟩
  isplitl [Ht]; · iexact Ht
  isplitl [Hs]; · iexact Hs
  isplitl [Hd]; · iexact Hd
  iintro H
  isplitl [Hr]; · iexact Hr
  isplitl [H]; · iexact H
  iexact Hcr

theorem seeds_run {Q : Post F} {rest : P F} : ∀ n j, j + n = 8 →
    iprop(ctx X Y K KS ∗ ready c ∗ seedSt c false j ∗ seedSt c true j ∗ xAt X c ∗ wAt Y c ∗ ow (F := F) c (oweS c j))
      ⊢ iprop(((seedSt c false 8 ∗ seedSt c true 8 ∗ xAt X c ∗ wAt Y c ∗ ow c (oweP c 0)) -∗ run c rest Q) -∗ run c (seeds c n rest) Q)
  | 0, j, hj => by
    obtain rfl : j = 8 := by omega
    rw [oweS_end]
    unfold seeds
    iintro ⟨-, -, H⟩ Hk
    iapply Hk; iexact H
  | n + 1, j, hj => by
    rw [oweS_step c (show j < 8 by omega)]
    unfold seeds
    rw [show 7 - n = j by omega]
    iintro ⟨#Hc, #Hr, Ha, Hb, Hx, Hw, Ho⟩ Hk
    ihave Ha := (seedSt_open c false (show j < 8 by omega)) $$ Ha
    ihave Hb := (seedSt_open c true (show j < 8 by omega)) $$ Hb
    icases Ha with ⟨Hta, Hsa, Hda, Hca⟩
    icases Hb with ⟨Htb, Hsb, Hdb, Hcb⟩
    iapply (seed_step X Y c false (show j < 8 by omega)) $$ [Hsa Hx Hw]
    · isplitl [Hsa]; · iexact Hsa
      isplitl [Hx]; · iexact Hx
      iexact Hw
    iintro ⟨Hsa, Hx, Hw⟩
    iapply (seed_step X Y c true (show j < 8 by omega)) $$ [Hsb Hx Hw]
    · isplitl [Hsb]; · iexact Hsb
      isplitl [Hx]; · iexact Hx
      iexact Hw
    iintro ⟨Hsb, Hx, Hw⟩
    iapply (seedSend_step X Y K KS c false (show j < 8 by omega) (oweS c (j + 1) + dueR c true j)) $$ [Hta Hsa Hda Ho]
    · isplitr; · iexact Hc
      isplitr; · iexact Hr
      isplitl [Hta]; · iexact Hta
      isplitl [Hsa]; · iexact Hsa
      isplitl [Hda]; · iexact Hda
      iexact Ho
    iintro ⟨Ho, Hcra⟩
    iapply (seedSend_step X Y K KS c true (show j < 8 by omega) (oweS c (j + 1))) $$ [Htb Hsb Hdb Ho]
    · isplitr; · iexact Hc
      isplitr; · iexact Hr
      isplitl [Htb]; · iexact Htb
      isplitl [Hsb]; · iexact Hsb
      isplitl [Hdb]; · iexact Hdb
      iexact Ho
    iintro ⟨Ho, Hcrb⟩
    iapply (seeds_run n (j + 1) (by omega)) $$ [Hca Hcra Hcb Hcrb Hx Hw Ho]
    · isplitr; · iexact Hc
      isplitr; · iexact Hr
      isplitl [Hca Hcra]; · iapply Hca; iexact Hcra
      isplitl [Hcb Hcrb]; · iapply Hcb; iexact Hcrb
      isplitl [Hx]; · iexact Hx
      isplitl [Hw]; · iexact Hw
      iexact Ho
    iexact Hk

/-! ## The device's own product -/

theorem owns_run {Q : Post F} {rest : P F} (g : ℕ → Vec F S512x512 .f32) : ∀ n b, b + n = 16 →
    iprop(xAt X c ∗ wAt Y c ∗ oAt (F := F) c (fun i => if i < b then ownB X Y c i else g i))
      ⊢ iprop(((xAt X c ∗ wAt Y c ∗ oAt c (ownB X Y c)) -∗ run c rest Q) -∗ run c (owns c n rest) Q)
  | 0, b, hb => by
    obtain rfl : b = 16 := by omega
    unfold owns
    iintro ⟨Hx, Hw, Ho⟩ Hk
    iapply Hk
    isplitl [Hx]; · iexact Hx
    isplitl [Hw]; · iexact Hw
    iapply (oAt_congr c (fun i hi => if_pos hi)); iexact Ho
  | n + 1, b, hb => by
    obtain rfl : b = 15 - n := by omega
    unfold owns
    iintro ⟨Hx, Hw, Ho⟩ Hk
    iapply (x_load X c) $$ Hx
    iintro Hx
    iapply (w_load Y c) $$ Hw
    iintro Hw
    iapply (o_load c (show 15 - n < 16 by omega)) $$ Ho
    iintro Ho
    iapply (o_store c (show 15 - n < 16 by omega)) $$ Ho
    iintro Ho
    iapply (owns_run g n (15 - n + 1) (by omega)) $$ [Hx Hw Ho]
    · isplitl [Hx]; · iexact Hx
      isplitl [Hw]; · iexact Hw
      iapply (oAt_congr c (fun i hi => ?_)) $$ Ho
      by_cases e : i = 15 - n
      · rw [e, Function.update_self, if_pos (Nat.lt_succ_self _)]; rfl
      · rw [Function.update_of_ne e]
        exact if_congr (by omega) rfl rfl
    iexact Hk

/-! ## The phases -/

/-- What phase `k` takes besides the device's places. -/
def phI (sd : Bool) (k : ℕ) : sProp 𝕄 :=
  iprop(keyS c sd k ∗ tokS c sd (k + 8) ∗ dutyTok ER (cc (fromDev sd c) sd) 0 k ∗ crC c sd k)

/-- What a device holds at the start of phase `k`. -/
def phSt (sd : Bool) (k : ℕ) : sProp 𝕄 :=
  iprop(bigSep (Finset.Ico k (k + 16)) (posR c sd) ∗ bigSep (Finset.Ico k (k + 16)) (posS c sd) ∗ bigSep (Finset.Ico k (k + 8)) (crS c sd)
    ∗ bigSep (Finset.Ico k 56) (crR c sd) ∗ bigSep (Finset.Ico k 48) (phI c sd) ∗ credSt c sd k ∗ freedTo c sd k)

theorem phSt_open (sd : Bool) {k : ℕ} (hk : k < 48) :
    (phSt c sd k : sProp 𝕄) ⊢ iprop((posR c sd k ∗ crR c sd k) ∗ (posS c sd k ∗ crS c sd k)
      ∗ (keyS c sd k ∗ tokS c sd (k + 8) ∗ dutyTok ER (cc (fromDev sd c) sd) 0 k ∗ (credSt c sd k ∗ crC c sd k))
      ∗ (reached ER (rc c sd (k + 8)) ((k + 8) / 16) ∗ reached ER (sc c sd (k + 8)) ((k + 8) / 16) ∗ freedTo c sd k)
      ∗ ((posR c sd (k + 16) ∗ posS c sd (k + 16) ∗ crS c sd (k + 8) ∗ credSt c sd (k + 1) ∗ freedTo c sd (k + 1)) -∗ phSt c sd (k + 1))) := by
  have hm : k + 8 ∈ Finset.Ico k (k + 16) := Finset.mem_Ico.mpr ⟨by omega, by omega⟩
  unfold phSt
  iintro ⟨HR, HS, Hcs, Hcr, Hi, Hst, #Hf⟩
  ihave HR := (peek (R := reached ER (rc c sd (k + 8)) ((k + 8) / 16)) hm (by
    unfold posR; iintro ⟨H, #Hr⟩
    isplitl [H]
    · isplitl [H]; · iexact H
      iexact Hr
    · iexact Hr)) $$ HR
  icases HR with ⟨HR, #HrR⟩
  ihave HS := (peek (R := reached ER (sc c sd (k + 8)) ((k + 8) / 16)) hm (by
    unfold posS; iintro ⟨H, #Hr⟩
    isplitl [H]
    · isplitl [H]; · iexact H
      iexact Hr
    · iexact Hr)) $$ HS
  icases HS with ⟨HS, #HrS⟩
  ihave HR := (Entails.of_eq (bigSep_Ico_succ_bot (show k < k + 16 by omega) (posR c sd))) $$ HR
  ihave HS := (Entails.of_eq (bigSep_Ico_succ_bot (show k < k + 16 by omega) (posS c sd))) $$ HS
  ihave Hcs := (Entails.of_eq (bigSep_Ico_succ_bot (show k < k + 8 by omega) (crS c sd))) $$ Hcs
  ihave Hcr := (Entails.of_eq (bigSep_Ico_succ_bot (show k < 56 by omega) (crR c sd))) $$ Hcr
  ihave Hi := (Entails.of_eq (bigSep_Ico_succ_bot hk (phI c sd))) $$ Hi
  icases HR with ⟨HR0, HR⟩
  icases HS with ⟨HS0, HS⟩
  icases Hcs with ⟨Hcs0, Hcs⟩
  icases Hcr with ⟨Hcr0, Hcr⟩
  icases Hi with ⟨Hi0, Hi⟩
  ihave Hi0 := (show phI c sd k ⊢ iprop(keyS c sd k ∗ tokS c sd (k + 8) ∗ dutyTok ER (cc (fromDev sd c) sd) 0 k ∗ crC c sd k) from Entails.rfl) $$ Hi0
  icases Hi0 with ⟨Hk0, Ht0, Hd0, Hc0⟩
  isplitl [HR0 Hcr0]
  · isplitl [HR0]; · iexact HR0
    iexact Hcr0
  isplitl [HS0 Hcs0]
  · isplitl [HS0]; · iexact HS0
    iexact Hcs0
  isplitl [Hk0 Ht0 Hd0 Hst Hc0]
  · isplitl [Hk0]; · iexact Hk0
    isplitl [Ht0]; · iexact Ht0
    isplitl [Hd0]; · iexact Hd0
    isplitl [Hst]; · iexact Hst
    iexact Hc0
  isplitr
  · isplitr; · iexact HrR
    isplitr; · iexact HrS
    iexact Hf
  iintro ⟨HR1, HS1, Hcs1, Hst, #Hf'⟩
  isplitl [HR HR1]
  · iapply (Entails.of_eq (bigSep_Ico_succ_top (show k + 1 ≤ k + 16 by omega) (posR c sd)).symm)
    isplitl [HR1]; · iexact HR1
    iexact HR
  isplitl [HS HS1]
  · iapply (Entails.of_eq (bigSep_Ico_succ_top (show k + 1 ≤ k + 16 by omega) (posS c sd)).symm)
    isplitl [HS1]; · iexact HS1
    iexact HS
  isplitl [Hcs Hcs1]
  · iapply (Entails.of_eq (bigSep_Ico_succ_top (show k + 1 ≤ k + 8 by omega) (crS c sd)).symm)
    isplitl [Hcs1]; · iexact Hcs1
    iexact Hcs
  isplitl [Hcr]; · iexact Hcr
  isplitl [Hi]; · iexact Hi
  isplitl [Hst]; · iexact Hst
  iexact Hf'

/-- The send of phase `k`: into the stripe the neighbour has released. -/
theorem next_step {Q : Post F} (sd : Bool) {k : ℕ} (hk : k < 48) (O : CellTallies nD τ sig ℕ) {rest : P F} :
    iprop(ctx X Y K KS ∗ ready c ∗ readyTo (fromDev sd c) sd (k / 8 + 1) ∗ freed (toDev sd c) sd k ∗ reached ER (sc c sd (k + 8)) ((k + 8) / 16)
        ∗ writeTok ES (.st (toDev sd c) sd ⟨k, hk⟩) 1 ∗ tokS c sd (k + 8) ∗ stripeAt c sd (k + 16) (sent X Y sd (k + 8) c)
        ∗ ow (F := F) c (O + dueR c sd (k + 8)))
      ⊢ iprop(((ow c O ∗ crS c sd (k + 8)) -∗ run c rest Q) -∗ run c (sendK c sd (k + 8) rest) Q) := by
  rw [freed_eq _ sd hk]
  iintro ⟨#Hc, #Hr, #Hru, ⟨#Hrel, #HrR⟩, #HrS, Hw, Ht, Hs, Ho⟩ Hk
  ihave Hsl := (ctx_slot X Y K KS (.st (toDev sd c) sd ⟨k, hk⟩)) $$ Hc
  imod (slot_take ES (Set.mem_univ (KS (.st (toDev sd c) sd ⟨k, hk⟩))) 1) $$ [Hw] with Hd
  · isplitr; · iexact Hsl
    isplitr; · iexact Hrel
    iexact Hw
  unfold slotOf
  iapply (send_step X Y K KS c sd (show k + 8 < 56 by omega) O) $$ [Ht Hs Hd Ho]
  · isplitr; · iexact Hc
    isplitr; · iexact HrR
    isplitr; · iexact HrS
    isplitl [Ht]; · iexact Ht
    isplitl [Hs]; · iexact Hs
    isplitl [Hd]; · iexact Hd
    isplitr
    · rw [show (k + 8) / 8 + 1 = (k / 8 + 1) + 1 by omega]
      iapply (readyTo_succ c sd (k / 8 + 1))
      isplitr; · iexact Hr
      iexact Hru
    iexact Ho
  iexact Hk

theorem phase_step {Q : Post F} {k : ℕ} (hk : k < 48) {rest : P F} :
    iprop(ctx X Y K KS ∗ ready c ∗ phSt c false k ∗ phSt c true k ∗ xAt X c ∗ wAt Y c ∗ ow (F := F) c (oweP c k))
      ⊢ iprop(((phSt c false (k + 1) ∗ phSt c true (k + 1) ∗ xAt X c ∗ wAt Y c ∗ ow c (oweP c (k + 1))) -∗ run c rest Q) -∗ run c (phaseK c k rest) Q) := by
  have hO : Over (3 + 2 * k) (oweP c k) := over_mono (by omega) (over_P c k)
  have hR : ∀ sd, Over (4 + 2 * k) (dueR c sd (k + 8)) := fun sd => over_tally _ _ _ (by omega) (by simp only [NL]; omega)
  have hO' : Over (4 + 2 * k) (oweP c (k + 1) + dueR c true (k + 8) + dueR c false (k + 8)) :=
    over_add (over_add (over_mono (by omega) (over_P c (k + 1))) (hR true)) (hR false)
  unfold phaseK
  iintro ⟨#Hc, #Hr, Ha, Hb, Hx, Hw, Ho⟩ Hk
  ihave Ha := (phSt_open c false hk) $$ Ha
  ihave Hb := (phSt_open c true hk) $$ Hb
  icases Ha with ⟨HRa, HSa, ⟨Hka, Hta, Hda, Hca⟩, ⟨#HrRa, #HrSa, #Hfa⟩, Hcloa⟩
  icases Hb with ⟨HRb, HSb, ⟨Hkb, Htb, Hdb, Hcb⟩, ⟨#HrRb, #HrSb, #Hfb⟩, Hclob⟩
  icases HRa with ⟨HRa, Hcra⟩
  icases HRb with ⟨HRb, Hcrb⟩
  icases HSa with ⟨HSa, Hcsa⟩
  icases HSb with ⟨HSb, Hcsb⟩
  icases Hca with ⟨Hsta, Hca⟩
  icases Hcb with ⟨Hstb, Hcb⟩
  ihave Hka := (Entails.of_eq (keyS_eq c false hk)) $$ Hka
  ihave Hkb := (Entails.of_eq (keyS_eq c true hk)) $$ Hkb
  icases Hka with ⟨Hka, Hwa⟩
  icases Hkb with ⟨Hkb, Hwb⟩
  iapply (recv_step X Y K KS c false (show k < 56 by omega) hO) $$ [HRa Hcra Ho]
  · isplitr; · iexact Hc
    isplitl [HRa]; · iexact HRa
    isplitl [Hcra]; · iexact Hcra
    iexact Ho
  iintro ⟨Ho, HRa, Hla⟩
  ihave Hla := (show landed X Y c false k ⊢ iprop(stripeAt c false k (sent X Y false k (fromDev false c)) ∗ readyTo (fromDev false c) false (k / 8 + 1)) from Entails.rfl) $$ Hla
  icases Hla with ⟨Hla, #Hrua⟩
  iapply (acc_step X Y c false k) $$ [Hla Hx Hw]
  · isplitl [Hla]; · iexact Hla
    isplitl [Hx]; · iexact Hx
    iexact Hw
  iintro ⟨Hla, Hx, Hw⟩
  iapply (recv_step X Y K KS c true (show k < 56 by omega) hO) $$ [HRb Hcrb Ho]
  · isplitr; · iexact Hc
    isplitl [HRb]; · iexact HRb
    isplitl [Hcrb]; · iexact Hcrb
    iexact Ho
  iintro ⟨Ho, HRb, Hlb⟩
  ihave Hlb := (show landed X Y c true k ⊢ iprop(stripeAt c true k (sent X Y true k (fromDev true c)) ∗ readyTo (fromDev true c) true (k / 8 + 1)) from Entails.rfl) $$ Hlb
  icases Hlb with ⟨Hlb, #Hrub⟩
  iapply (acc_step X Y c true k) $$ [Hlb Hx Hw]
  · isplitl [Hlb]; · iexact Hlb
    isplitl [Hx]; · iexact Hx
    iexact Hw
  iintro ⟨Hlb, Hx, Hw⟩
  iapply (left_step X Y K KS c false (show k < 56 by omega) (over_mono (by omega) hO)) $$ [HSa Hcsa Ho]
  · isplitr; · iexact Hc
    isplitl [HSa]; · iexact HSa
    isplitl [Hcsa]; · iexact Hcsa
    iexact Ho
  iintro ⟨Ho, HSa, Hva⟩
  iapply (left_step X Y K KS c true (show k < 56 by omega) (over_mono (by omega) hO)) $$ [HSb Hcsb Ho]
  · isplitr; · iexact Hc
    isplitl [HSb]; · iexact HSb
    isplitl [Hcsb]; · iexact Hcsb
    iexact Ho
  iintro ⟨Ho, HSb, Hvb⟩
  ihave Ho := (Entails.of_eq (congrArg (ow (F := F) c) (oweP_step c hk))) $$ Ho
  iapply (give_step X Y K KS c false hk (oweP c (k + 1) + dueR c true (k + 8) + dueR c false (k + 8) + dueC c true k)) $$ [Hva Hka Hda Ho]
  · isplitr; · iexact Hc
    isplitl [Hva]; · iexact Hva
    isplitl [Hka]; · iexact Hka
    isplitr; · iexact Hfa
    isplitr; · iexact HrRa
    isplitl [Hda]; · iexact Hda
    iexact Ho
  iintro ⟨Ho, #Hfa'⟩
  iapply (give_step X Y K KS c true hk (oweP c (k + 1) + dueR c true (k + 8) + dueR c false (k + 8))) $$ [Hvb Hkb Hdb Ho]
  · isplitr; · iexact Hc
    isplitl [Hvb]; · iexact Hvb
    isplitl [Hkb]; · iexact Hkb
    isplitr; · iexact Hfb
    isplitr; · iexact HrRb
    isplitl [Hdb]; · iexact Hdb
    iexact Ho
  iintro ⟨Ho, #Hfb'⟩
  iapply (take_step X Y K KS c false hk hO') $$ [Hsta Hca Ho]
  · isplitr; · iexact Hc
    isplitl [Hsta]; · iexact Hsta
    isplitl [Hca]; · iexact Hca
    iexact Ho
  iintro ⟨Ho, Hsta, #Hga⟩
  iapply (take_step X Y K KS c true hk hO') $$ [Hstb Hcb Ho]
  · isplitr; · iexact Hc
    isplitl [Hstb]; · iexact Hstb
    isplitl [Hcb]; · iexact Hcb
    iexact Ho
  iintro ⟨Ho, Hstb, #Hgb⟩
  iapply (next_step X Y K KS c false hk (oweP c (k + 1) + dueR c true (k + 8))) $$ [Hwa Hta Hla Ho]
  · isplitr; · iexact Hc
    isplitr; · iexact Hr
    isplitr; · iexact Hrua
    isplitr; · iexact Hga
    isplitr; · iexact HrSa
    isplitl [Hwa]; · iexact Hwa
    isplitl [Hta]; · iexact Hta
    isplitl [Hla]; · iexact Hla
    iexact Ho
  iintro ⟨Ho, Hcsa⟩
  iapply (next_step X Y K KS c true hk (oweP c (k + 1))) $$ [Hwb Htb Hlb Ho]
  · isplitr; · iexact Hc
    isplitr; · iexact Hr
    isplitr; · iexact Hrub
    isplitr; · iexact Hgb
    isplitr; · iexact HrSb
    isplitl [Hwb]; · iexact Hwb
    isplitl [Htb]; · iexact Htb
    isplitl [Hlb]; · iexact Hlb
    iexact Ho
  iintro ⟨Ho, Hcsb⟩
  iapply Hk
  isplitl [Hcloa HRa HSa Hcsa Hsta]
  · iapply Hcloa
    isplitl [HRa]; · iexact HRa
    isplitl [HSa]; · iexact HSa
    isplitl [Hcsa]; · iexact Hcsa
    isplitl [Hsta]; · iexact Hsta
    iexact Hfa'
  isplitl [Hclob HRb HSb Hcsb Hstb]
  · iapply Hclob
    isplitl [HRb]; · iexact HRb
    isplitl [HSb]; · iexact HSb
    isplitl [Hcsb]; · iexact Hcsb
    isplitl [Hstb]; · iexact Hstb
    iexact Hfb'
  isplitl [Hx]; · iexact Hx
  isplitl [Hw]; · iexact Hw
  iexact Ho

theorem phases_run {Q : Post F} {rest : P F} : ∀ n k, k + n = 48 →
    iprop(ctx X Y K KS ∗ ready c ∗ phSt c false k ∗ phSt c true k ∗ xAt X c ∗ wAt Y c ∗ ow (F := F) c (oweP c k))
      ⊢ iprop(((phSt c false 48 ∗ phSt c true 48 ∗ xAt X c ∗ wAt Y c ∗ ow c (oweX c 0)) -∗ run c rest Q) -∗ run c (phases c n rest) Q)
  | 0, k, hk => by
    obtain rfl : k = 48 := by omega
    rw [oweP_end]
    unfold phases
    iintro ⟨-, -, H⟩ Hk
    iapply Hk; iexact H
  | n + 1, k, hk => by
    unfold phases
    rw [show 47 - n = k by omega]
    iintro ⟨#Hc, #Hr, H⟩ Hk
    iapply (phase_step X Y K KS c (show k < 48 by omega)) $$ [H]
    · isplitr; · iexact Hc
      isplitr; · iexact Hr
      iexact H
    iintro H
    iapply (phases_run n (k + 1) (by omega)) $$ [H]
    · isplitr; · iexact Hc
      isplitr; · iexact Hr
      iexact H
    iexact Hk

/-! ## The last stripes -/

/-- What a device holds before last stripe `q`. -/
def finSt (sd : Bool) (q : ℕ) : sProp 𝕄 :=
  iprop(bigSep (Finset.Ico (48 + q) (64 + q)) (posR c sd) ∗ bigSep (Finset.Ico (48 + q) 56) (crR c sd) ∗ bigSep (Finset.Ico 48 (48 + q)) (landed X Y c sd))

theorem finSt_open (sd : Bool) {q : ℕ} (hq : q < 8) :
    finSt X Y c sd q ⊢ iprop(posR c sd (48 + q) ∗ crR c sd (48 + q)
      ∗ ((posR c sd (48 + q + 16) ∗ landed X Y c sd (48 + q)) -∗ finSt X Y c sd (q + 1))) := by
  unfold finSt
  rw [bigSep_Ico_succ_bot (show 48 + q < 64 + q by omega), bigSep_Ico_succ_bot (show 48 + q < 56 by omega), show 64 + (q + 1) = 48 + q + 16 + 1 by omega,
    bigSep_Ico_succ_top (show 48 + (q + 1) ≤ 48 + q + 16 by omega), show 48 + (q + 1) = 48 + q + 1 by omega, bigSep_Ico_succ_top (show 48 ≤ 48 + q by omega),
    show 48 + q + 16 = 64 + q by omega]
  iintro ⟨⟨HR, HRs⟩, ⟨Hc, Hcs⟩, Hl⟩
  isplitl [HR]; · iexact HR
  isplitl [Hc]; · iexact Hc
  iintro ⟨HR, Hn⟩
  isplitl [HR HRs]
  · isplitl [HR]; · iexact HR
    iexact HRs
  isplitl [Hcs]; · iexact Hcs
  isplitl [Hn]; · iexact Hn
  iexact Hl

theorem colOf_lt (sd : Bool) (q : ℕ) : colOf sd q < 16 := by cases sd <;> (unfold colOf; dsimp only; omega)

theorem fin_step {Q : Post F} (sd : Bool) {q : ℕ} (hq : q < 8) (a : F .f32) {g : ℕ → Vec F S512x512 .f32} (hg : g (colOf sd q) = ownB X Y c (colOf sd q))
    {rest : F .f32 → P F} :
    iprop(ctx X Y K KS ∗ finSt X Y c sd q ∗ oAt c g ∗ ow (F := F) c (oweX c 0))
      ⊢ iprop(((finSt X Y c sd (q + 1) ∗ oAt c (Function.update g (colOf sd q) (sumB X Y c sd q)) ∗ ow c (oweX c 0)) -∗ run c (rest (maxV a (sumB X Y c sd q))) Q)
        -∗ run c (finK sd q a rest) Q) := by
  unfold finK
  iintro ⟨#Hc, Hs, Hg, Ho⟩ Hk
  ihave Hs := (finSt_open X Y c sd hq) $$ Hs
  icases Hs with ⟨HR, Hcr, Hclo⟩
  iapply (recv_step X Y K KS c sd (show 48 + q < 56 by omega) (over_mono (by omega) (over_X c 0))) $$ [HR Hcr Ho]
  · isplitr; · iexact Hc
    isplitl [HR]; · iexact HR
    isplitl [Hcr]; · iexact Hcr
    iexact Ho
  iintro ⟨Ho, HR, Hl⟩
  ihave Hl := (show landed X Y c sd (48 + q) ⊢ iprop((∃ f : Buf (Elt F) ((stripe sd q).view.loc (c : Thread nD τ)),
        ⌜(stripe sd q).view.read (Elt F) f = sent X Y sd (48 + q) (fromDev sd c)⌝
        ∗ ((stripe sd q).view.loc (c : Thread nD τ) ↦[(stripe sd q).view.set]{fullShare} f)) ∗ readyTo (fromDev sd c) sd ((48 + q) / 8 + 1)) from by
      unfold landed
      rw [stripeAt_congr c sd (show (48 + q) % 16 = q % 16 by omega)]
      exact Entails.rfl) $$ Hl
  icases Hl with ⟨⟨%f, %hf, Hl⟩, Hrd⟩
  have ef : finV (ownB X Y c (colOf sd q)) (((buf sd).access (stripeR q)).read (Elt F) f) = sumB X Y c sd q := by
    unfold sumB; rw [← hf]; rfl
  iapply (o_load c (colOf_lt sd q)) $$ Hg
  iintro Hg
  iapply (stripe_load c sd q f) $$ Hl
  iintro Hl
  iapply (o_load c (colOf_lt sd q)) $$ Hg
  iintro Hg
  have est : ∀ v w : FVec F S512x512 .f32, v = w → (iprop(oAt c (Function.update g (colOf sd q) v)) ⊢ (oAt c (Function.update g (colOf sd q) w) : sProp 𝕄)) := fun v w e => by
    rw [e]
  have eg : finV (g (colOf sd q)) (((buf sd).access (stripeR q)).read (Elt F) f) = sumB X Y c sd q := by rw [hg]; exact ef
  iapply (o_store c (colOf_lt sd q)) $$ Hg
  iintro Hg
  ihave Hg := (est _ _ eg) $$ Hg
  have er : run c (rest (maxV a (sumB X Y c sd q))) Q ⊢ run c (rest (maxV a (finV (g (colOf sd q)) (((buf sd).access (stripeR q)).read (Elt F) f)))) Q := by
    rw [eg]
  iapply er
  iapply Hk
  isplitl [Hclo HR Hl Hrd]
  · iapply Hclo
    isplitl [HR]; · iexact HR
    unfold landed
    isplitl [Hl]
    · iapply (Entails.of_eq (stripeAt_congr c sd (show q % 16 = (48 + q) % 16 by omega) (sent X Y sd (48 + q) (fromDev sd c))))
      unfold stripeAt
      iexists f
      isplitr
      · ipureintro; exact hf
      · iexact Hl
    · iexact Hrd
  isplitl [Hg]; · iexact Hg
  iexact Ho

/-- The blocks of the result before last stripe `q`. -/
def finG (q : ℕ) (b : ℕ) : Vec F S512x512 .f32 := if b % 8 < q then sumAt X Y c b else ownB X Y c b

theorem finG_next {q : ℕ} (hq : q < 8) (b : ℕ) (hb : b < 16) :
    Function.update (Function.update (finG X Y c q) (colOf false q) (sumB X Y c false q)) (colOf true q) (sumB X Y c true q) b = finG X Y c (q + 1) b := by
  unfold colOf
  dsimp only
  rw [Nat.mod_eq_of_lt hq]
  by_cases h1 : b = 8 + q
  · subst h1
    rw [Function.update_self]
    unfold finG sumAt
    rw [if_pos (by omega), show (8 + q) % 8 = q by omega, decide_eq_true (show 8 ≤ 8 + q by omega)]
  · rw [Function.update_of_ne h1]
    by_cases h2 : b = q
    · subst h2
      rw [Function.update_self]
      unfold finG sumAt
      rw [if_pos (by omega), show b % 8 = b by omega, decide_eq_false (show ¬8 ≤ b by omega)]
    · rw [Function.update_of_ne h2]
      unfold finG
      exact if_congr (by omega) rfl rfl

theorem fins_run {Q : Post F} {rest : F .f32 → P F} : ∀ n q a, q + n = 8 →
    iprop(ctx X Y K KS ∗ finSt X Y c false q ∗ finSt X Y c true q ∗ oAt c (finG X Y c q) ∗ ow (F := F) c (oweX c 0))
      ⊢ iprop(((finSt X Y c false 8 ∗ finSt X Y c true 8 ∗ oAt c (sumAt X Y c) ∗ ow c (oweX c 0)) -∗ run c (rest (maxN X Y c n a)) Q)
        -∗ run c (fins n a rest) Q)
  | 0, q, a, hq => by
    obtain rfl : q = 8 := by omega
    unfold fins maxN
    iintro ⟨-, Ha, Hb, Hg, Ho⟩ Hk
    iapply Hk
    isplitl [Ha]; · iexact Ha
    isplitl [Hb]; · iexact Hb
    isplitl [Hg]
    · iapply (oAt_congr c (fun b _ => if_pos (show b % 8 < 8 from Nat.mod_lt b (by decide)))); iexact Hg
    iexact Ho
  | n + 1, q, a, hq => by
    obtain rfl : q = 7 - n := by omega
    unfold fins maxN
    have h0 : finG X Y c (7 - n) (colOf false (7 - n)) = ownB X Y c (colOf false (7 - n)) := if_neg (by unfold colOf; dsimp only; omega)
    have h1 : Function.update (finG X Y c (7 - n)) (colOf false (7 - n)) (sumB X Y c false (7 - n)) (colOf true (7 - n)) = ownB X Y c (colOf true (7 - n)) := by
      rw [Function.update_of_ne (by unfold colOf; dsimp only; omega)]
      exact if_neg (by unfold colOf; dsimp only; omega)
    iintro ⟨#Hc, Ha, Hb, Hg, Ho⟩ Hk
    iapply (fin_step X Y K KS c false (show 7 - n < 8 by omega) a h0) $$ [Ha Hg Ho]
    · isplitr; · iexact Hc
      isplitl [Ha]; · iexact Ha
      isplitl [Hg]; · iexact Hg
      iexact Ho
    iintro ⟨Ha, Hg, Ho⟩
    iapply (fin_step X Y K KS c true (show 7 - n < 8 by omega) _ h1) $$ [Hb Hg Ho]
    · isplitr; · iexact Hc
      isplitl [Hb]; · iexact Hb
      isplitl [Hg]; · iexact Hg
      iexact Ho
    iintro ⟨Hb, Hg, Ho⟩
    iapply (fins_run n (7 - n + 1) _ (by omega)) $$ [Ha Hb Hg Ho]
    · isplitr; · iexact Hc
      isplitl [Ha]; · iexact Ha
      isplitl [Hb]; · iexact Hb
      isplitl [Hg]
      · iapply (oAt_congr c (finG_next X Y c (show 7 - n < 8 by omega))); iexact Hg
      iexact Ho
    iexact Hk

/-! ## The last departures -/

/-- What a device holds before it waits for the departure of last stripe `q`. -/
def lastSt (sd : Bool) (q : ℕ) : sProp 𝕄 :=
  iprop(bigSep (Finset.Ico (48 + q) (64 + q)) (posS c sd) ∗ bigSep (Finset.Ico (48 + q) 56) (crS c sd) ∗ bigSep (Finset.Ico 48 (48 + q)) (fun j => slotS c sd (j + 8)))

theorem last_step {Q : Post F} (sd : Bool) {q : ℕ} (hq : q < 8) {O : CellTallies nD τ sig ℕ} (hO : Over 1 O) {rest : P F} :
    iprop(ctx X Y K KS ∗ lastSt c sd q ∗ ow (F := F) c O)
      ⊢ iprop(((lastSt c sd (q + 1) ∗ ow c O) -∗ run c rest Q) -∗ run c (sentK sd (48 + q) rest) Q) := by
  unfold lastSt
  rw [bigSep_Ico_succ_bot (show 48 + q < 64 + q by omega), bigSep_Ico_succ_bot (show 48 + q < 56 by omega), show 64 + (q + 1) = 48 + q + 16 + 1 by omega,
    bigSep_Ico_succ_top (show 48 + (q + 1) ≤ 48 + q + 16 by omega), show 48 + (q + 1) = 48 + q + 1 by omega, bigSep_Ico_succ_top (show 48 ≤ 48 + q by omega)]
  iintro ⟨#Hc, ⟨⟨HS, HSs⟩, ⟨Hcr, Hcrs⟩, Hl⟩, Ho⟩ Hk
  iapply (left_step X Y K KS c sd (show 48 + q < 56 by omega) hO) $$ [HS Hcr Ho]
  · isplitr; · iexact Hc
    isplitl [HS]; · iexact HS
    isplitl [Hcr]; · iexact Hcr
    iexact Ho
  iintro ⟨Ho, HS, Hn⟩
  iapply Hk
  isplitr [Ho]
  · isplitl [HS HSs]
    · isplitl [HS]; · iexact HS
      rw [show 48 + q + 16 = 64 + q by omega]
      iexact HSs
    isplitl [Hcrs]; · iexact Hcrs
    isplitl [Hn]; · iexact Hn
    iexact Hl
  · iexact Ho

theorem sents_run {Q : Post F} {O : CellTallies nD τ sig ℕ} (hO : Over 1 O) {rest : P F} : ∀ n q, q + n = 8 →
    iprop(ctx X Y K KS ∗ lastSt c false q ∗ lastSt c true q ∗ ow (F := F) c O)
      ⊢ iprop(((lastSt c false 8 ∗ lastSt c true 8 ∗ ow c O) -∗ run c rest Q) -∗ run c (sents n rest) Q)
  | 0, q, hq => by
    obtain rfl : q = 8 := by omega
    unfold sents
    iintro ⟨-, H⟩ Hk
    iapply Hk; iexact H
  | n + 1, q, hq => by
    unfold sents
    rw [show 55 - n = 48 + q by omega]
    iintro ⟨#Hc, Ha, Hb, Ho⟩ Hk
    iapply (last_step X Y K KS c false (show q < 8 by omega) hO) $$ [Ha Ho]
    · isplitr; · iexact Hc
      isplitl [Ha]; · iexact Ha
      iexact Ho
    iintro ⟨Ha, Ho⟩
    iapply (last_step X Y K KS c true (show q < 8 by omega) hO) $$ [Hb Ho]
    · isplitr; · iexact Hc
      isplitl [Hb]; · iexact Hb
      iexact Ho
    iintro ⟨Hb, Ho⟩
    iapply (sents_run hO n (q + 1) (by omega)) $$ [Ha Hb Ho]
    · isplitr; · iexact Hc
      isplitl [Ha]; · iexact Ha
      isplitl [Hb]; · iexact Hb
      iexact Ho
    iexact Hk

/-! ## The scaling -/

theorem quants_run {Q : Post F} (s i : F .f32) (g : ℕ → Vec F S512x512 .f32) : ∀ n b, b + n = 16 →
    (oAt (F := F) c (fun x => if x < b then quantV s i (g x) else g x))
      ⊢ iprop((oAt c (fun x => quantV s i (g x)) -∗ run c (.ret ⟨⟩) Q) -∗ run c (quants s i n) Q)
  | 0, b, hb => by
    obtain rfl : b = 16 := by omega
    unfold quants
    iintro Ho Hk
    iapply Hk
    iapply (oAt_congr c (fun x hx => if_pos hx)); iexact Ho
  | n + 1, b, hb => by
    obtain rfl : b = 15 - n := by omega
    unfold quants
    iintro Ho Hk
    iapply (o_load c (show 15 - n < 16 by omega)) $$ Ho
    iintro Ho
    iapply (o_load c (show 15 - n < 16 by omega)) $$ Ho
    iintro Ho
    iapply (o_store c (show 15 - n < 16 by omega)) $$ Ho
    iintro Ho
    iapply (quants_run s i g n (15 - n + 1) (by omega)) $$ [Ho]
    · iapply (oAt_congr c (fun x hx => ?_)) $$ Ho
      by_cases e : x = 15 - n
      · rw [e, Function.update_self, if_pos (Nat.lt_succ_self _), if_neg (Nat.lt_irrefl _)]
      · rw [Function.update_of_ne e]
        exact if_congr (by omega) rfl rfl
    iexact Hk

theorem scale_run {Q : Post F} :
    iprop(myAt (F := F) c (amx X Y 3 c) ∗ oAt c (sumAt X Y c))
      ⊢ iprop(((myAt c (amx X Y 3 c) ∗ oAt c (resB X Y c)) -∗ run c (.ret ⟨⟩) Q) -∗ run c scaleK Q) := by
  unfold scaleK
  iintro ⟨Hm, Ho⟩ Hk
  iapply (my_load c (amx X Y 3 c)) $$ Hm
  iintro Hm
  iapply (my_load c (amx X Y 3 c)) $$ Hm
  iintro Hm
  iapply (quants_run c (k0_pay221 (lane (amx X Y 3 c))) (k0_pay222 (lane (amx X Y 3 c))) (sumAt X Y c) 16 0 rfl) $$ [Ho]
  · iapply (oAt_congr c (fun x _ => (if_neg (Nat.not_lt_zero x)).symm)); iexact Ho
  iintro Ho
  iapply Hk
  isplitl [Hm]; · iexact Hm
  iexact Ho

end

end Cert.KernelIdeal.Ring

end
-- ==== Proof.KernelIdeal.Buffers.lean ====
/- The buffers cut into the stripes and rows that the copies name, and put together again. -/
module

public import proofs.«01_k».proof.Proof.KernelIdeal.Loops

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.SiteBlocks (L lv)

variable {F : FTy → Type} [FloatOps F]

local notation "𝕄" => MT nD τ sig ℕ (Elt F) ℕ UU ℕ

/-! ## Cutting a buffer into slots -/

theorem slot_intro {ℓ : Loc nD τ sig} (S : Finset (Idx ℓ)) (f : Buf (Elt F) ℓ) : (ℓ ↦[S]{fullShare} f : sProp 𝕄) ⊢ slot ℓ S := by
  unfold slot
  iintro H
  iexists f; iexact H

/-- A buffer whole, cut into the slots of a partition. -/
theorem whole_slots {ℓ : Loc nD τ sig} {n : ℕ} (S : ℕ → Finset (Idx ℓ)) (hd : ∀ i < n, ∀ j < n, i ≠ j → Disjoint (S i) (S j))
    (hu : ∀ x : Idx ℓ, ∃ i < n, x ∈ S i) :
    iprop(∃ f : Buf (Elt F) ℓ, ℓ ↦{fullShare} f) ⊢ (bigSep (Finset.range n) fun i => slot ℓ (S i) : sProp 𝕄) := by
  have e : (Finset.range n).biUnion S = Finset.univ := Finset.eq_univ_of_forall fun x => by
    obtain ⟨i, hi, hx⟩ := hu x
    exact Finset.mem_biUnion.mpr ⟨i, Finset.mem_range.mpr hi, hx⟩
  iintro ⟨%f, H⟩
  ihave H := (Entails.of_eq ((congrArg (fun s => (ℓ ↦[s]{fullShare} f : sProp 𝕄)) e.symm).trans
    (pointsTo_biUnion (Finset.range n) S fun i hi j hj h => hd i (Finset.mem_range.mp hi) j (Finset.mem_range.mp hj) h))) $$ H
  iapply (show (bigSep (Finset.range n) fun i => (ℓ ↦[S i]{fullShare} f : sProp 𝕄)) ⊢ bigSep (Finset.range n) fun i => slot ℓ (S i) from
    bigSep_mono fun i _ => slot_intro (S i) f)
  iexact H

/-- The slots of a partition, put together. -/
theorem slots_whole {ℓ : Loc nD τ sig} {n : ℕ} [Nonempty (Buf (Elt F) ℓ)] (S : ℕ → Finset (Idx ℓ)) (hd : ∀ i < n, ∀ j < n, i ≠ j → Disjoint (S i) (S j))
    (hu : ∀ x : Idx ℓ, ∃ i < n, x ∈ S i) :
    (bigSep (Finset.range n) fun i => slot ℓ (S i) : sProp 𝕄) ⊢ iprop(∃ f : Buf (Elt F) ℓ, ℓ ↦{fullShare} f) := by
  have e : (Finset.range n).biUnion S = Finset.univ := Finset.eq_univ_of_forall fun x => by
    obtain ⟨i, hi, hx⟩ := hu x
    exact Finset.mem_biUnion.mpr ⟨i, Finset.mem_range.mpr hi, hx⟩
  obtain ⟨f₀⟩ := (inferInstance : Nonempty (Buf (Elt F) ℓ))
  unfold slot
  iintro H
  ihave H := (BI.bigSep_exists_pi (Finset.range n) (fun (i : ℕ) (f : Buf (Elt F) ℓ) => (ℓ ↦[S i]{fullShare} f : sProp 𝕄))) $$ H
  icases H with ⟨%fs, H⟩
  ihave H := (pointsTo_biUnion_join (Finset.range n) S fs f₀
    fun i hi j hj h => hd i (Finset.mem_range.mp hi) j (Finset.mem_range.mp hj) h) $$ H
  icases H with ⟨%g, -, H⟩
  iexists g
  iapply (Entails.of_eq (congrArg (fun s => (ℓ ↦[s]{fullShare} g : sProp 𝕄)) e)); iexact H

theorem mem_stripeR (q : ℕ) (x : S2x512x4096.Idx) : Iff (x ∈ (stripeR q).set) ((x 0).val = q % 16 / 8 ∧ (x 2).val / 512 = q % 8) := by
  have h1 : (x 1).val < 512 := (x 1).isLt
  unfold stripeR
  rw [Rect.mem_set_unit]
  constructor
  · intro h
    have h0 : q % 16 / 8 ≤ (x 0).val ∧ (x 0).val < q % 16 / 8 + 1 := h 0
    have h2 : 512 * (q % 8) ≤ (x 2).val ∧ (x 2).val < 512 * (q % 8) + 512 := h 2
    omega
  · rintro ⟨h0, h2⟩ a
    match a with
    | ⟨0, _⟩ => show q % 16 / 8 ≤ (x 0).val ∧ (x 0).val < q % 16 / 8 + 1; omega
    | ⟨1, _⟩ => show 0 ≤ (x 1).val ∧ (x 1).val < 0 + 512; omega
    | ⟨2, _⟩ => show 512 * (q % 8) ≤ (x 2).val ∧ (x 2).val < 512 * (q % 8) + 512; omega

theorem stripeR_part (i : ℕ) (hi : i < 16) (j : ℕ) (hj : j < 16) (h : i ≠ j) : Disjoint (stripeR i).set (stripeR j).set :=
  Finset.disjoint_left.mpr fun x hx hx' => by
    rw [mem_stripeR] at hx hx'
    omega
theorem stripeR_cover (x : S2x512x4096.Idx) : ∃ i < 16, x ∈ (stripeR i).set := by
  have h0 : (x 0).val < 2 := (x 0).isLt
  have h2 : (x 2).val < 4096 := (x 2).isLt
  refine ⟨8 * (x 0).val + (x 2).val / 512, by omega, ?_⟩
  rw [mem_stripeR]; omega

theorem mem_rxR (q : ℕ) (x : S3x1x128.Idx) : Iff (x ∈ (rxR q).set) ((x 0).val = q % 3) := by
  have h1 : (x 1).val < 1 := (x 1).isLt
  have h2 : (x 2).val < 128 := (x 2).isLt
  unfold rxR
  rw [Rect.mem_set_unit]
  constructor
  · intro h
    have h0 : q % 3 ≤ (x 0).val ∧ (x 0).val < q % 3 + 1 := h 0
    omega
  · rintro h0 a
    match a with
    | ⟨0, _⟩ => show q % 3 ≤ (x 0).val ∧ (x 0).val < q % 3 + 1; omega
    | ⟨1, _⟩ => show 0 ≤ (x 1).val ∧ (x 1).val < 0 + 1; omega
    | ⟨2, _⟩ => show 0 ≤ (x 2).val ∧ (x 2).val < 0 + 128; omega

variable (c : Dev nD)

/-- A direction's buffer at any contents, and the partners' rows. -/
def bufAny (sd : Bool) : sProp 𝕄 := iprop(∃ f : Buf (Elt F) ((buf sd).view.loc (c : Thread nD τ)), ((buf sd).view.loc (c : Thread nD τ)) ↦{fullShare} f)
def rxAny : sProp 𝕄 := iprop(∃ f : Buf (Elt F) ((rxM).view.loc (c : Thread nD τ)), ((rxM).view.loc (c : Thread nD τ)) ↦{fullShare} f)

theorem disjoint_of_eq {α : Type} {A A' B B' : Finset α} (h : A = A') (h' : B = B') (hd : Disjoint A' B') : Disjoint A B := h ▸ h' ▸ hd
theorem mem_of_eq {α : Type} {A A' : Finset α} (h : A = A') {x : α} (hx : x ∈ A') : x ∈ A := h ▸ hx

theorem stripe_set_right (i : ℕ) : (stripe false i).view.set = (stripeR i).set := (stripe_set false i).trans (View.set_slice_whole cc0_scratch0 (stripeR i))
theorem stripe_set_left (i : ℕ) : (stripe true i).view.set = (stripeR i).set := (stripe_set true i).trans (View.set_slice_whole cc0_scratch1 (stripeR i))
theorem rx_set' (i : ℕ) : (rx i).view.set = (rxR i).set := (rx_set i).trans (View.set_slice_whole cc0_scratch9 (rxR i))

theorem rxR_part (i : ℕ) (hi : i < 3) (j : ℕ) (hj : j < 3) (h : i ≠ j) : Disjoint (rxR i).set (rxR j).set :=
  Finset.disjoint_left.mpr fun x hx hx' => by
    rw [mem_rxR] at hx hx'
    omega
theorem rxR_cover (x : S3x1x128.Idx) : ∃ i < 3, x ∈ (rxR i).set := by
  have h0 : (x 0).val < 3 := (x 0).isLt
  exact ⟨(x 0).val, h0, (mem_rxR _ x).mpr (Nat.mod_eq_of_lt h0).symm⟩

/-- The elements of stripe `q`, as elements of the buffer. -/
def stripeS (sd : Bool) (q : ℕ) : Finset (Idx ((buf sd).view.loc (c : Thread nD τ))) := (stripe sd q).view.set
def rxS (q : ℕ) : Finset (Idx ((rxM).view.loc (c : Thread nD τ))) := (rx q).view.set

theorem stripe_part : ∀ (sd : Bool) (i : ℕ) (_ : i < 16) (j : ℕ) (_ : j < 16) (_ : i ≠ j), Disjoint (stripeS c sd i) (stripeS c sd j)
  | false, i, hi, j, hj, h => disjoint_of_eq (stripe_set_right i) (stripe_set_right j) (stripeR_part i hi j hj h)
  | true, i, hi, j, hj, h => disjoint_of_eq (stripe_set_left i) (stripe_set_left j) (stripeR_part i hi j hj h)
theorem stripe_cover : ∀ (sd : Bool) (x : Idx ((buf sd).view.loc (c : Thread nD τ))), ∃ i < 16, x ∈ stripeS c sd i
  | false, x => (stripeR_cover x).imp fun i h => ⟨h.1, mem_of_eq (stripe_set_right i) h.2⟩
  | true, x => (stripeR_cover x).imp fun i h => ⟨h.1, mem_of_eq (stripe_set_left i) h.2⟩
theorem rx_part (i : ℕ) (hi : i < 3) (j : ℕ) (hj : j < 3) (h : i ≠ j) : Disjoint (rxS c i) (rxS c j) :=
  disjoint_of_eq (rx_set' i) (rx_set' j) (rxR_part i hi j hj h)
theorem rx_cover (x : Idx ((rxM).view.loc (c : Thread nD τ))) : ∃ i < 3, x ∈ rxS c i :=
  (rxR_cover x).imp fun i h => ⟨h.1, mem_of_eq (rx_set' i) h.2⟩

theorem slotS_eq (sd : Bool) : (slotS c sd : ℕ → sProp 𝕄) = fun q => slot ((buf sd).view.loc (c : Thread nD τ)) (stripeS c sd q) := rfl
theorem slotX_eq : (slotX c : ℕ → sProp 𝕄) = fun q => slot ((rxM).view.loc (c : Thread nD τ)) (rxS c q) := rfl

theorem buf_slots (sd : Bool) : (bufAny c sd : sProp 𝕄) ⊢ bigSep (Finset.range 16) (slotS c sd) := by
  rw [slotS_eq]; unfold bufAny
  exact whole_slots (stripeS c sd) (stripe_part c sd) (stripe_cover c sd)
theorem slots_buf (sd : Bool) : (bigSep (Finset.range 16) (slotS c sd) : sProp 𝕄) ⊢ bufAny c sd := by
  rw [slotS_eq]; unfold bufAny
  exact slots_whole (stripeS c sd) (stripe_part c sd) (stripe_cover c sd)
theorem rx_slots : (rxAny c : sProp 𝕄) ⊢ bigSep (Finset.range 3) (slotX c) := by
  rw [slotX_eq]; unfold rxAny
  exact whole_slots (rxS c) (rx_part c) (rx_cover c)
theorem slots_rx : (bigSep (Finset.range 3) (slotX c) : sProp 𝕄) ⊢ rxAny c := by
  rw [slotX_eq]; unfold rxAny
  exact slots_whole (rxS c) (rx_part c) (rx_cover c)

/-! ## Enumerations -/

/-- Everything of a finite type below `n` is everything below `n`. -/
theorem bigSep_fin (n : ℕ) (A : ℕ → sProp 𝕄) : (bigSep Finset.univ fun i : Fin n => A i.1) = bigSep (Finset.Ico 0 n) A := by
  have e : ((Finset.univ : Finset (Fin n)).map Fin.valEmbedding : Finset ℕ) = Finset.Ico 0 n := by
    ext i
    simp only [Finset.mem_map, Finset.mem_univ, true_and, Finset.mem_Ico, Nat.zero_le]
    exact ⟨fun ⟨j, hj⟩ => hj ▸ j.2, fun h => ⟨⟨i, h⟩, rfl⟩⟩
  rw [← e, bigSep_map]; rfl

theorem bigSep_bool (A : Bool → sProp 𝕄) : bigSep Finset.univ A = iprop(A false ∗ A true) :=
  bigSep_univ_eq_bigSepL [false, true] (by decide) (by decide) A
theorem bigSep_one (A : Unit → sProp 𝕄) : bigSep Finset.univ A = A () :=
  bigSep_univ_eq_bigSepL [()] (by decide) (by decide) A
theorem bigSep_three (A : Fin 3 → sProp 𝕄) : bigSep Finset.univ A = iprop(A 0 ∗ A 1 ∗ A 2) :=
  bigSep_univ_eq_bigSepL [0, 1, 2] (by decide) (by decide) A
theorem range_Ico (n : ℕ) : Finset.range n = Finset.Ico 0 n := by ext i; rw [Finset.mem_range, Finset.mem_Ico]; omega

end Cert.KernelIdeal.Ring

end
-- ==== Proof.KernelIdeal.Body.lean ====
/- The body on one device, from what the launch hands it to what it hands back. -/
module

public import proofs.«01_k».proof.Proof.KernelIdeal.Buffers

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.SiteBlocks (L lv)

variable {F : FTy → Type} [FloatOps F]

local notation "𝕄" => MT nD τ sig ℕ (Elt F) ℕ UU ℕ

/-! ## Cutting a buffer into slots -/
/-- `bigSep_mono` beside something persistent. -/
theorem mono_ctx {I : Type} {S : Finset I} {R : sProp 𝕄} [BI.Persistent R] {A B : I → sProp 𝕄} (h : ∀ i ∈ S, iprop(R ∗ A i) ⊢ B i) :
    iprop(R ∗ bigSep S A) ⊢ bigSep S B := by
  classical
  induction S using Finset.induction_on with
  | empty => rw [bigSep_empty, bigSep_empty]; iintro ⟨-, H⟩; iexact H
  | insert a s ha ih =>
    have h1 := h a (Finset.mem_insert_self a s)
    have h2 := ih fun i hi => h i (Finset.mem_insert_of_mem hi)
    rw [bigSep_insert ha, bigSep_insert ha]
    show iprop(R ∗ (A a ∗ bigSep s A)) ⊢ iprop(B a ∗ bigSep s B)
    iintro ⟨#HR, HA, HS⟩
    isplitl [HA]
    · iapply h1
      isplitr; · iexact HR
      iexact HA
    · iapply h2
      isplitr; · iexact HR
      iexact HS

/-- A run of numbers in two pieces. -/
theorem Ico_split {a b n : ℕ} (h : a ≤ b) (h' : b ≤ n) (A : ℕ → sProp 𝕄) :
    bigSep (Finset.Ico a n) A = iprop(bigSep (Finset.Ico a b) A ∗ bigSep (Finset.Ico b n) A) := by
  rw [← Finset.Ico_union_Ico_eq_Ico h h', bigSep_union (Finset.Ico_disjoint_Ico_consecutive a b n)]; rfl

/-- A run of numbers from another start. -/
theorem Ico_shift (A : ℕ → sProp 𝕄) (a b k : ℕ) : bigSep (Finset.Ico a b) (fun i => A (i + k)) = bigSep (Finset.Ico (a + k) (b + k)) A := by
  have e : (Finset.Ico a b).map (addRightEmbedding k) = Finset.Ico (a + k) (b + k) := by
    ext i
    simp only [Finset.mem_map, Finset.mem_Ico, addRightEmbedding_apply]
    exact ⟨fun ⟨j, hj, h⟩ => by omega, fun h => ⟨i - k, by omega, by omega⟩⟩
  rw [← e, bigSep_map]; rfl

theorem fupd_ctx {I : Type} {S : Finset I} {R : sProp 𝕄} [BI.Persistent R] {A B : I → sProp 𝕄} (h : ∀ i ∈ S, iprop(R ∗ A i) ⊢ iprop(|={Set.univ}=> B i)) :
    iprop(R ∗ bigSep S A) ⊢ iprop(|={Set.univ}=> bigSep S B) :=
  BIBase.Entails.trans (mono_ctx h) (bigSep_fupd S B)

/-! ## All cells of a device -/

def cellE : Unit ⊕ Bool ⊕ (Bool × Fin 16) ⊕ (Bool × Fin 16) ⊕ Fin 3 ⊕ Fin 3 ≃ Cell where
  toFun
    | .inl _ => .bar
    | .inr (.inl sd) => .crd sd
    | .inr (.inr (.inl x)) => .ss x.1 x.2
    | .inr (.inr (.inr (.inl x))) => .rs x.1 x.2
    | .inr (.inr (.inr (.inr (.inl h)))) => .sa h
    | .inr (.inr (.inr (.inr (.inr h)))) => .ra h
  invFun
    | .bar => .inl ()
    | .crd sd => .inr (.inl sd)
    | .ss sd q => .inr (.inr (.inl (sd, q)))
    | .rs sd q => .inr (.inr (.inr (.inl (sd, q))))
    | .sa h => .inr (.inr (.inr (.inr (.inl h))))
    | .ra h => .inr (.inr (.inr (.inr (.inr h))))
  left_inv x := by rcases x with _ | _ | _ | _ | _ | _ <;> rfl
  right_inv k := by cases k <;> rfl

theorem bigSep_cell (A : Cell → sProp 𝕄) :
    bigSep Finset.univ A = iprop(A .bar ∗ (A (.crd false) ∗ A (.crd true))
      ∗ ((bigSep Finset.univ fun q => A (.ss false q)) ∗ (bigSep Finset.univ fun q => A (.ss true q)))
      ∗ ((bigSep Finset.univ fun q => A (.rs false q)) ∗ (bigSep Finset.univ fun q => A (.rs true q)))
      ∗ (bigSep Finset.univ fun h => A (.sa h)) ∗ (bigSep Finset.univ fun h => A (.ra h))) := by
  rw [bigSep_univ_equiv cellE, bigSep_univ_sum, bigSep_univ_sum, bigSep_univ_sum, bigSep_univ_sum, bigSep_univ_sum, bigSep_one, bigSep_bool,
    bigSep_univ_prod (fun x : Bool × Fin 16 => A (cellE (.inr (.inr (.inl x))))), bigSep_bool,
    bigSep_univ_prod (fun x : Bool × Fin 16 => A (cellE (.inr (.inr (.inr (.inl x)))))), bigSep_bool]
  rfl

section

variable (X : Dev nD → XC F) (Y : Dev nD → YC F) (K : Dev nD × Cell → ℕ) (KS : Key → ℕ) (c : Dev nD)

/-! ## What a device starts with -/

/-- One side of the ring: the device's places, its tokens, and what it may take. -/
def sideIn (sd : Bool) : sProp 𝕄 :=
  iprop((bigSep Finset.univ fun q : Fin 16 => atPos ER (at' c (.rs sd q)) 0 ∅ 0) ∗ (bigSep Finset.univ fun q : Fin 16 => atPos ER (at' c (.ss sd q)) 0 ∅ 0)
    ∗ atPos ER (cc c sd) 0 ∅ 0 ∗ bigSep (Finset.Ico 0 48) (fun k => dutyTok ER (cc (fromDev sd c) sd) 0 k) ∗ bigSep (Finset.Ico 0 56) (tokS c sd)
    ∗ bigSep (Finset.Ico 0 56) (crR c sd) ∗ bigSep (Finset.Ico 0 48) (crC c sd) ∗ bigSep (Finset.Ico 0 48) (keyS c sd))

def bodyIn : sProp 𝕄 :=
  iprop(sideIn c false ∗ sideIn c true ∗ atPos ER (at' c .bar) 0 ∅ 0 ∗ cred (tallyAt (at' c .bar) 1 2)
    ∗ (dutyTok ER (at' (fromDev false c) .bar) 0 0 ∗ dutyTok ER (at' (fromDev true c) .bar) 0 1)
    ∗ (bigSep Finset.univ fun h : Fin 3 => readerAt ES (.ax c h) 0) ∗ bigSep Finset.univ (exSt c))

theorem places_R (sd : Bool) : iprop(ctx X Y K KS ∗ bigSep Finset.univ fun q : Fin 16 => atPos ER (at' c (.rs sd q)) 0 ∅ 0) ⊢ bigSep (Finset.Ico 0 16) (posR c sd) := by
  rw [← bigSep_fin]
  refine mono_ctx fun q _ => ?_
  have e : q16 q.1 = q := Fin.ext (Nat.mod_eq_of_lt q.2)
  have e' : (posR c sd q.1 : sProp 𝕄) = iprop(atPos ER (at' c (.rs sd q)) 0 ∅ 0 ∗ reached ER (at' c (.rs sd q)) 0) := by
    unfold posR; rw [Nat.div_eq_of_lt q.2]; exact congrArg (fun q => iprop(atPos ER (at' c (.rs sd q)) 0 ∅ 0 ∗ reached ER (at' c (.rs sd q)) 0)) e
  rw [e']
  iintro ⟨#Hc, H⟩
  isplitl [H]; · iexact H
  iapply (ctx_reached X Y K KS c (.rs sd q)); iexact Hc

theorem places_S (sd : Bool) : iprop(ctx X Y K KS ∗ bigSep Finset.univ fun q : Fin 16 => atPos ER (at' c (.ss sd q)) 0 ∅ 0) ⊢ bigSep (Finset.Ico 0 16) (posS c sd) := by
  rw [← bigSep_fin]
  refine mono_ctx fun q _ => ?_
  have e : q16 q.1 = q := Fin.ext (Nat.mod_eq_of_lt q.2)
  have e' : (posS c sd q.1 : sProp 𝕄) = iprop(atPos ER (at' c (.ss sd q)) 0 ∅ 0 ∗ reached ER (at' c (.ss sd q)) 0) := by
    unfold posS; rw [Nat.div_eq_of_lt q.2]; exact congrArg (fun q => iprop(atPos ER (at' c (.ss sd q)) 0 ∅ 0 ∗ reached ER (at' c (.ss sd q)) 0)) e
  rw [e']
  iintro ⟨#Hc, H⟩
  isplitl [H]; · iexact H
  iapply (ctx_reached X Y K KS c (.ss sd q)); iexact Hc

theorem phI_all (sd : Bool) :
    bigSep (Finset.Ico 0 48) (phI c sd) = (iprop(bigSep (Finset.Ico 0 48) (keyS c sd) ∗ bigSep (Finset.Ico 0 48) (fun k => tokS c sd (k + 8))
      ∗ bigSep (Finset.Ico 0 48) (fun k => dutyTok ER (cc (fromDev sd c) sd) 0 k) ∗ bigSep (Finset.Ico 0 48) (crC c sd)) : sProp 𝕄) := by
  unfold phI
  rw [bigSep_sep', bigSep_sep', bigSep_sep']

theorem cred_start (sd : Bool) : (atPos ER (cc c sd) 0 ∅ 0 : sProp 𝕄) ⊢ credSt c sd 0 := by
  unfold credSt
  rw [show (0 : ℕ) = 0 from rfl]
  iintro H
  iexists ∅
  isplitr; · ipureintro; exact ⟨Finset.empty_subset _, by decide⟩
  isplitl [H]; · iexact H
  rw [bigSep_empty]
  iapply Entails.rfl; iempintro

theorem side_open (sd : Bool) : iprop(ctx X Y K KS ∗ sideIn c sd) ⊢ iprop(bigSep (Finset.Ico 0 8) (tokS c sd) ∗ (bigSep (Finset.Ico 0 8) (crS c sd) -∗ phSt c sd 0)) := by
  unfold sideIn phSt
  rw [phI_all, Ico_split (show 0 ≤ 8 by omega) (show 8 ≤ 56 by omega) (tokS c sd), Ico_shift (tokS c sd) 0 48 8]
  iintro ⟨#Hc, HR, HS, Hat, Hd, ⟨Ht, Ht'⟩, Hr, Hcc, Hk⟩
  isplitl [Ht]; · iexact Ht
  iintro Hs
  isplitl [HR]; · iapply (places_R X Y K KS c sd); isplitr; · iexact Hc
                  iexact HR
  isplitl [HS]; · iapply (places_S X Y K KS c sd); isplitr; · iexact Hc
                  iexact HS
  isplitl [Hs]; · iexact Hs
  isplitl [Hr]; · iexact Hr
  isplitl [Hk Ht' Hd Hcc]
  · isplitl [Hk]; · iexact Hk
    isplitl [Ht']; · iexact Ht'
    isplitl [Hd]; · iexact Hd
    iexact Hcc
  isplitl [Hat]; · iapply (cred_start c sd); iexact Hat
  unfold freedTo
  rw [Finset.range_zero, bigSep_empty]
  iapply Entails.rfl; iempintro

/-! ## The barrier -/

theorem bar_duty : dutyOf .bar 0 = {0, 1} := rfl

theorem bar_run {Q : Post F} :
    iprop(ctx X Y K KS ∗ atPos ER (at' c .bar) 0 ∅ 0 ∗ cred (tallyAt (at' c .bar) 1 2)
        ∗ (dutyTok ER (at' (fromDev false c) .bar) 0 0 ∗ dutyTok ER (at' (fromDev true c) .bar) 0 1)
        ∗ (bigSep (Finset.range 8) (slotS c false) ∗ bigSep (Finset.range 8) (slotS c true)) ∗ ow (F := F) c (oweAll c))
      ⊢ iprop(((ow c (oweS c 0) ∗ atPos ER (at' c .bar) 1 ∅ 0 ∗ bigSep (Finset.range 8) (slotS (toDev false c) false)
            ∗ bigSep (Finset.range 8) (slotS (toDev true c) true)) -∗ run c (mainK c) Q)
          -∗ run c (bodyK c) Q) := by
  have hd : ∀ (d : Dev nD) (i : ℕ), i = 0 ∨ i = 1 → i ∈ (ringRd X Y).duties (at' d .bar) 0 := fun d i hi => by
    rw [duties_at, bar_duty]; rcases hi with rfl | rfl <;> decide
  have ha : ∀ (d : Dev nD) (i : ℕ), (ringRd X Y).amount (at' d .bar) 0 i = 1 := fun d i => amount_at X Y d .bar 0 i
  have hp0 : (ringRd X Y).payload ((fromDev false c : Thread nD τ), SemLoc.reg barS) 0 0 = bigSep (Finset.range 8) (slotS c false) := by
    refine (payload_at X Y (fromDev false c) .bar 0 0).trans ?_; show barPay (fromDev false c) false = _; unfold barPay; rw [to_from]
  have hp1 : (ringRd X Y).payload ((fromDev true c : Thread nD τ), SemLoc.reg barS) 0 1 = bigSep (Finset.range 8) (slotS c true) := by
    refine (payload_at X Y (fromDev true c) .bar 0 1).trans ?_; show barPay (fromDev true c) true = _; unfold barPay; rw [to_from]
  have hex : (ringRd X Y).expect (at' c .bar) 0 = 2 := expect_at X Y c .bar 0
  have hpay : (bigSep ((ringRd X Y).duties ((c : Thread nD τ), SemLoc.reg barS) 0 \ ∅) fun i => (ringRd X Y).payload ((c : Thread nD τ), SemLoc.reg barS) 0 i)
      = iprop(bigSep (Finset.range 8) (slotS (toDev false c) false) ∗ bigSep (Finset.range 8) (slotS (toDev true c) true)) := by
    show (bigSep ((ringRd X Y).duties (at' c .bar) 0 \ ∅) fun i => (ringRd X Y).payload (at' c .bar) 0 i) = _
    rw [Finset.sdiff_empty, duties_at, bar_duty, bigSep_insert (by decide), bigSep_singleton, payload_at, payload_at]
    rfl
  unfold bodyK ow oweAll
  iintro ⟨#Hc, Hat, Hcr, ⟨Ht0, Ht1⟩, ⟨Hs0, Hs1⟩, ⟨%W, HO⟩⟩ Hk
  ihave Hi0 := (ctx_cell X Y K KS (fromDev false c) .bar) $$ Hc
  ihave Hi1 := (ctx_cell X Y K KS (fromDev true c) .bar) $$ Hc
  ihave Hi := (ctx_cell X Y K KS c .bar) $$ Hc
  ihave Hr0 := (ctx_reached X Y K KS (fromDev false c) .bar) $$ Hc
  ihave Hr1 := (ctx_reached X Y K KS (fromDev true c) .bar) $$ Hc
  ihave Hlv := (ctx_lev X Y K KS) $$ Hc
  iapply (Rounds.wp_signal 𝒱₀ ER (ringRd X Y) (c : Thread nD τ) none (dst := (fromDev false c : Thread nD τ)) (sem := barS) (κ := K (fromDev false c, .bar)) (r := 0) (d := 0)
      (hd (fromDev false c) 0 (Or.inl rfl)) (ha (fromDev false c) 0) 1 (oweS c 0 + dueB c true) rfl (W := W)) $$ [HO Ht0 Hs0 Hi0 Hr0]
  · isplitl [Hi0]; · iexact Hi0
    isplitl [HO]; · iexact HO
    isplitl [Ht0]; · iexact Ht0
    isplitl [Hs0]; · iapply (Entails.of_eq hp0.symm); iexact Hs0
    iexact Hr0
  iintro HO
  iapply (Rounds.wp_signal 𝒱₀ ER (ringRd X Y) (c : Thread nD τ) none (dst := (fromDev true c : Thread nD τ)) (sem := barS) (κ := K (fromDev true c, .bar)) (r := 0) (d := 1)
      (hd (fromDev true c) 1 (Or.inr rfl)) (ha (fromDev true c) 1) 1 (oweS c 0) rfl (W := W)) $$ [HO Ht1 Hs1 Hi1 Hr1]
  · isplitl [Hi1]; · iexact Hi1
    isplitl [HO]; · iexact HO
    isplitl [Ht1]; · iexact Ht1
    isplitl [Hs1]; · iapply (Entails.of_eq hp1.symm); iexact Hs1
    iexact Hr1
  iintro HO
  iapply (Rounds.wp_wait_rest_token 𝒱₀ ER (ringRd X Y) (c : Thread nD τ) none (κ := K (c, .bar))
      (wpE_semWait_eq 𝒱₀ (c : Thread nD τ) none Set.univ) (Set.mem_univ _) 1 (O := oweS c 0) (W := W) (R := 0) (m := 0) (T := ∅)
      (by rw [Nat.zero_add]; exact hex.symm)) $$ [Hcr HO Hat Hi Hlv]
  · isplitl [Hi]; · iexact Hi
    isplitl [Hcr]; · iexact Hcr
    isplitl [HO]; · iexact HO
    isplitl [Hlv]; · iapply (may_wait c (.reg barS) (i := 1) (by simp only [NL]; omega) (over_S c 0)); iexact Hlv
    iexact Hat
  iintro ⟨HO, Hat, -, Hp⟩
  ihave Hp := (Entails.of_eq hpay) $$ Hp
  iapply Hk
  isplitl [HO]; · iexists _; iexact HO
  isplitl [Hat]; · iexact Hat
  iexact Hp

/-! ## The rows put up, the seeds -/

theorem rows_up : iprop(ctx X Y K KS ∗ ((bigSep Finset.univ fun h : Fin 3 => readerAt ES (.ax c h) 0) ∗ bigSep Finset.univ fun h : Fin 3 => slotX c h.1))
    ⊢ iprop(|={Set.univ}=> (ready c : sProp 𝕄)) := by
  rw [← bigSep_sep']
  refine fupd_ctx fun h _ => ?_
  iintro ⟨#Hc, Hr, Hs⟩
  ihave Hsl := (ctx_slot X Y K KS (.ax c h)) $$ Hc
  imod (slot_release ES (Set.mem_univ (KS (.ax c h))) (slotOf_excl (F := F) (.ax c h)) 0) $$ [Hr Hs Hsl] with ⟨-, Hrel⟩
  · isplitl [Hsl]; · iexact Hsl
    isplitl [Hr]; · iexact Hr
    unfold slotOf; iexact Hs
  imodintro
  iexact Hrel

theorem seeds_start (sd : Bool) :
    iprop(bigSep (Finset.Ico 0 8) (tokS c sd) ∗ bigSep (Finset.Ico 8 16) (slotS c sd) ∗ bigSep (Finset.range 8) (slotS (toDev sd c) sd)) ⊢ (seedSt c sd 0 : sProp 𝕄) := by
  unfold seedSt seedI
  rw [bigSep_sep', bigSep_sep', Ico_shift (slotS c sd) 0 8 8, range_Ico, Finset.Ico_self, bigSep_empty]
  iintro ⟨Ha, Hb, Hc⟩
  isplitl
  · isplitl [Ha]; · iexact Ha
    isplitl [Hb]; · iexact Hb
    iexact Hc
  · iapply Entails.rfl; iempintro

theorem seeds_end (sd : Bool) : (seedSt c sd 8 : sProp 𝕄) ⊢ bigSep (Finset.Ico 0 8) (crS c sd) := by
  unfold seedSt
  iintro ⟨-, H⟩; iexact H

/-- What is left of a side after the phases, in three parts. -/
theorem phases_end (sd : Bool) : (phSt c sd 48 : sProp 𝕄) ⊢ iprop(finSt X Y c sd 0 ∗ lastSt c sd 0 ∗ credSt c sd 48) := by
  unfold phSt finSt lastSt
  rw [Finset.Ico_self, bigSep_empty, bigSep_empty]
  iintro ⟨HR, HS, Hs, Hr, -, Hcr, -⟩
  isplitl [HR Hr]
  · isplitl [HR]; · iexact HR
    isplitl [Hr]; · iexact Hr
    iapply Entails.rfl; iempintro
  isplitl [HS Hs]
  · isplitl [HS]; · iexact HS
    isplitl [Hs]; · iexact Hs
    iapply Entails.rfl; iempintro
  iexact Hcr

/-- By the last landings every device has put its rows up. -/
theorem all_ready : iprop(ready c ∗ finSt X Y c false 8) ⊢ iprop(finSt X Y c false 8 ∗ readyTo c false 8) := by
  have hj : 48 ∈ Finset.Ico 48 (48 + 8) := by decide
  have hl : landed X Y c false 48 ⊢ iprop(landed X Y c false 48 ∗ readyTo (fromDev false c) false 7) := by
    unfold landed
    iintro ⟨Ha, #Hb⟩
    isplitl [Ha]
    · isplitl [Ha]; · iexact Ha
      iexact Hb
    · iexact Hb
  have hp := peek (A := landed X Y c false) hj hl
  unfold finSt
  iintro ⟨#Hr, HR, Hc, HL⟩
  ihave H := hp $$ HL
  icases H with ⟨HL, #Hu⟩
  isplitl [HR Hc HL]
  · isplitl [HR]; · iexact HR
    isplitl [Hc]; · iexact Hc
    iexact HL
  · iapply (readyTo_succ c false 7)
    isplitr; · iexact Hr
    iexact Hu

theorem ready_at (d : Dev nD) : (readyTo c false 8 : sProp 𝕄) ⊢ ready d := by
  obtain ⟨i, hi⟩ := upN_onto c d
  have h : (readyTo c false 8 : sProp 𝕄) ⊢ ready (upN false i.1 c) := by
    unfold readyTo; exact bigSep_elim (Finset.mem_range.mpr i.2)
  rw [hi] at h; exact h

/-! ## Closing the cells -/

theorem close_at (k : Cell) (R : ℕ) (h : ∀ r, R ≤ r → dutyOf k r = ∅) :
    iprop(ctx X Y K KS ∗ atPos ER (at' c k) R ∅ 0) ⊢ iprop(|={Set.univ}=> (semVal (at' c k) 0 : sProp 𝕄)) := by
  iintro ⟨#Hc, H⟩
  ihave Hi := (ctx_cell X Y K KS c k) $$ Hc
  iapply (Rounds.cell_close ER (ringRd X Y) (Set.mem_univ (K (c, k))) (fun h => h) (R := R) (fun r hr => (duties_at X Y c k r).trans (h r hr)))
  isplitl [Hi]; · iexact Hi
  iexact H

theorem close_crd (sd : Bool) : iprop(ctx X Y K KS ∗ credSt c sd 48) ⊢ iprop(|={Set.univ}=> (semVal (cc c sd) 0 : sProp 𝕄)) := by
  have hcl := close_at X Y K KS c (.crd sd) 1 (fun r hr => if_neg (by omega))
  have hex : (ringRd X Y).expect (cc c sd) 0 = 48 := (expect_at X Y c (.crd sd) 0).trans (by
    unfold dutyOf unitsOf; dsimp only; rw [if_pos rfl, Finset.card_range])
  have hdu : (ringRd X Y).duties (cc c sd) 0 = Finset.range 48 := (duties_at X Y c (.crd sd) 0).trans (by
    unfold dutyOf; dsimp only; rw [if_pos rfl])
  unfold credSt
  iintro ⟨#Hc, ⟨%T, %hT, H, -⟩⟩
  have hsub : Finset.range 48 ⊆ T := Finset.sdiff_eq_empty_iff_subset.mp (Finset.card_eq_zero.mp (by omega))
  ihave Hi := (ctx_cell X Y K KS c (.crd sd)) $$ Hc
  imod (Rounds.fupd_skip ER (ringRd X Y) (κ := K (c, .crd sd)) (g := cc c sd) (R := 0) (m := 48) (T := T) (by rw [hdu]; exact hsub) hex.symm (Set.mem_univ _)) $$ [H Hi] with ⟨H, -⟩
  · isplitl [Hi]; · iexact Hi
    iexact H
  iapply hcl
  isplitr; · iexact Hc
  iexact H

theorem turn16 (A : Fin 16 → sProp 𝕄) : bigSep (Finset.Ico (48 + 8) (64 + 8)) (fun j => A (q16 j)) = bigSep Finset.univ A := by
  have h : ∀ q : Fin 16, (Equiv.addRight (8 : Fin 16)) q = q16 (q.1 + 56) := by decide
  rw [show 48 + 8 = 0 + 56 from rfl, show 64 + 8 = 16 + 56 from rfl, ← Ico_shift (fun j => A (q16 j)) 0 16 56, ← bigSep_fin 16 (fun i => A (q16 (i + 56))), bigSep_univ_equiv (Equiv.addRight (8 : Fin 16)) A]
  exact bigSep_congr fun q _ => congrArg A (h q).symm

theorem close_R (sd : Bool) : iprop(ctx X Y K KS ∗ bigSep (Finset.Ico (48 + 8) (64 + 8)) (posR c sd))
    ⊢ iprop(|={Set.univ}=> (bigSep Finset.univ fun q : Fin 16 => semVal (at' c (.rs sd q)) 0 : sProp 𝕄)) := by
  rw [← turn16 fun q => (semVal (at' c (.rs sd q)) 0 : sProp 𝕄)]
  refine fupd_ctx fun j hj => ?_
  have hcl := close_at X Y K KS c (.rs sd (q16 j)) (j / 16) (fun r hr => duty_rs_late sd (Finset.mem_Ico.mp hj).1 r hr)
  unfold posR
  iintro ⟨#Hc, H, -⟩
  iapply hcl
  isplitr; · iexact Hc
  iexact H

theorem close_S (sd : Bool) : iprop(ctx X Y K KS ∗ bigSep (Finset.Ico (48 + 8) (64 + 8)) (posS c sd))
    ⊢ iprop(|={Set.univ}=> (bigSep Finset.univ fun q : Fin 16 => semVal (at' c (.ss sd q)) 0 : sProp 𝕄)) := by
  rw [← turn16 fun q => (semVal (at' c (.ss sd q)) 0 : sProp 𝕄)]
  refine fupd_ctx fun j hj => ?_
  have hcl := close_at X Y K KS c (.ss sd (q16 j)) (j / 16) (fun r hr => duty_ss_late sd (Finset.mem_Ico.mp hj).1 r hr)
  unfold posS
  iintro ⟨#Hc, H, -⟩
  iapply hcl
  isplitr; · iexact Hc
  iexact H

theorem landed_slot (sd : Bool) (j : ℕ) : landed X Y c sd j ⊢ (slotS c sd j : sProp 𝕄) := by
  have h := stripeAt_slot c sd j (sent X Y sd j (fromDev sd c))
  unfold landed
  iintro ⟨H, -⟩
  iapply h; iexact H

theorem buf_back (sd : Bool) :
    iprop(bigSep (Finset.Ico 48 (48 + 8)) (landed X Y c sd) ∗ bigSep (Finset.Ico 48 (48 + 8)) (fun j => slotS c sd (j + 8))) ⊢ (bufAny c sd : sProp 𝕄) := by
  refine BIBase.Entails.trans ?_ (slots_buf c sd)
  rw [range_Ico, Ico_split (show 0 ≤ 8 by omega) (show 8 ≤ 16 by omega) (slotS c sd)]
  have e1 : bigSep (Finset.Ico 48 (48 + 8)) (landed X Y c sd) ⊢ (bigSep (Finset.Ico 0 8) (slotS c sd) : sProp 𝕄) := by
    rw [show Finset.Ico 48 (48 + 8) = Finset.Ico (0 + 48) (8 + 48) from rfl, ← Ico_shift (landed X Y c sd) 0 8 48]
    refine bigSep_mono fun j _ => ?_
    rw [slotS_congr c sd (show j % 16 = (j + 48) % 16 by omega)]
    exact landed_slot X Y c sd (j + 48)
  have e2 : bigSep (Finset.Ico 48 (48 + 8)) (fun j => slotS c sd (j + 8)) = (bigSep (Finset.Ico 8 16) (slotS c sd) : sProp 𝕄) := by
    rw [show Finset.Ico 48 (48 + 8) = Finset.Ico (8 + 40) (16 + 40) from rfl, ← Ico_shift (fun j => slotS c sd (j + 8)) 8 16 40]
    exact bigSep_congr fun j _ => slotS_congr c sd (by omega)
  rw [e2]
  iintro ⟨H, H'⟩
  isplitl [H]; · iapply e1; iexact H
  iexact H'

/-- A side's cells closed and its buffer whole again. -/
def sideOut (sd : Bool) : sProp 𝕄 :=
  iprop(semVal (cc c sd) 0 ∗ (bigSep Finset.univ fun q : Fin 16 => semVal (at' c (.ss sd q)) 0) ∗ (bigSep Finset.univ fun q : Fin 16 => semVal (at' c (.rs sd q)) 0)
    ∗ bufAny c sd)

theorem side_close (sd : Bool) : iprop(ctx X Y K KS ∗ finSt X Y c sd 8 ∗ lastSt c sd 8 ∗ credSt c sd 48) ⊢ iprop(|={Set.univ}=> (sideOut c sd : sProp 𝕄)) := by
  unfold finSt lastSt sideOut
  iintro ⟨#Hc, ⟨HR, -, HL⟩, ⟨HS, -, Hs⟩, Hcr⟩
  imod (close_crd X Y K KS c sd) $$ [Hcr] with H1
  · isplitr; · iexact Hc
    iexact Hcr
  imod (close_S X Y K KS c sd) $$ [HS] with H2
  · isplitr; · iexact Hc
    iexact HS
  imod (close_R X Y K KS c sd) $$ [HR] with H3
  · isplitr; · iexact Hc
    iexact HR
  imodintro
  isplitl [H1]; · iexact H1
  isplitl [H2]; · iexact H2
  isplitl [H3]; · iexact H3
  iapply (buf_back X Y c sd)
  isplitl [HL]; · iexact HL
  iexact Hs

theorem ex_close (h : Fin 3) : iprop(ctx X Y K KS ∗ exEnd c h)
    ⊢ iprop(|={Set.univ}=> (semVal (at' c (.sa h)) 0 ∗ semVal (at' c (.ra h)) 0 ∗ slotX c h.1 : sProp 𝕄)) := by
  have c1 := close_at X Y K KS c (.sa h) 1 (fun r hr => if_neg (by omega))
  have c2 := close_at X Y K KS c (.ra h) 1 (fun r hr => if_neg (by omega))
  unfold exEnd
  iintro ⟨#Hc, H1, H2, H3⟩
  imod c1 $$ [H1] with H1
  · isplitr; · iexact Hc
    iexact H1
  imod c2 $$ [H2] with H2
  · isplitr; · iexact Hc
    iexact H2
  imodintro
  isplitl [H1]; · iexact H1
  isplitl [H2]; · iexact H2
  iexact H3

/-- What a device hands back besides its windows: its semaphores at zero and its buffers. -/
def bodyOut : sProp 𝕄 :=
  iprop((bigSep Finset.univ fun k : Cell => semVal (at' c k) 0) ∗ (bufAny c false ∗ bufAny c true) ∗ rxAny c ∗ ∃ u, myAt c u)

theorem out_join (u : FVec F S1x128 .f32) :
    iprop(semVal (at' c .bar) 0 ∗ sideOut c false ∗ sideOut c true
        ∗ (bigSep Finset.univ fun h : Fin 3 => iprop(semVal (at' c (.sa h)) 0 ∗ semVal (at' c (.ra h)) 0 ∗ slotX c h.1)) ∗ myAt c u)
      ⊢ (bodyOut c : sProp 𝕄) := by
  unfold bodyOut sideOut
  rw [bigSep_cell, bigSep_sep', bigSep_sep', bigSep_fin 3 (slotX c), ← range_Ico]
  iintro ⟨Hb, ⟨Hc1, Hs1, Hr1, Hf1⟩, ⟨Hc2, Hs2, Hr2, Hf2⟩, ⟨Ha, Hx, Hsl⟩, Hm⟩
  isplitl [Hb Hc1 Hc2 Hs1 Hs2 Hr1 Hr2 Ha Hx]
  · isplitl [Hb]; · iexact Hb
    isplitl [Hc1 Hc2]; · isplitl [Hc1]; · iexact Hc1
                         iexact Hc2
    isplitl [Hs1 Hs2]; · isplitl [Hs1]; · iexact Hs1
                         iexact Hs2
    isplitl [Hr1 Hr2]; · isplitl [Hr1]; · iexact Hr1
                         iexact Hr2
    isplitl [Ha]; · iexact Ha
    iexact Hx
  isplitl [Hf1 Hf2]; · isplitl [Hf1]; · iexact Hf1
                       iexact Hf2
  isplitl [Hsl]; · iapply (slots_rx c); iexact Hsl
  iexists u; iexact Hm

/-! ## The whole body -/

theorem end_run {Q : Post F} (u : FVec F S1x128 .f32) :
    iprop(ctx X Y K KS ∗ (finSt X Y c false 8 ∗ lastSt c false 8 ∗ credSt c false 48) ∗ (finSt X Y c true 8 ∗ lastSt c true 8 ∗ credSt c true 48)
        ∗ atPos ER (at' c .bar) 1 ∅ 0 ∗ bigSep Finset.univ (exEnd c) ∗ myAt c u)
      ⊢ iprop((bodyOut c -∗ run c (.ret ⟨⟩) Q) -∗ run c (.ret ⟨⟩) Q) := by
  have cb := close_at X Y K KS c .bar 1 (fun r hr => if_neg (by omega))
  have cx : iprop(ctx X Y K KS ∗ bigSep Finset.univ (exEnd c))
      ⊢ iprop(|={Set.univ}=> (bigSep Finset.univ fun h : Fin 3 => iprop(semVal (at' c (.sa h)) 0 ∗ semVal (at' c (.ra h)) 0 ∗ slotX c h.1) : sProp 𝕄)) :=
    fupd_ctx fun h _ => ex_close X Y K KS c h
  iintro ⟨#Hc, Ha, Hb, Hbar, Hx, Hm⟩ Hk
  imod cb $$ [Hbar] with Hbar
  · isplitr; · iexact Hc
    iexact Hbar
  imod (side_close X Y K KS c false) $$ [Ha] with Ha
  · isplitr; · iexact Hc
    iexact Ha
  imod (side_close X Y K KS c true) $$ [Hb] with Hb
  · isplitr; · iexact Hc
    iexact Hb
  imod cx $$ [Hx] with Hx
  · isplitr; · iexact Hc
    iexact Hx
  iapply Hk
  iapply (out_join c u)
  isplitl [Hbar]; · iexact Hbar
  isplitl [Ha]; · iexact Ha
  isplitl [Hb]; · iexact Hb
  isplitl [Hx]; · iexact Hx
  iexact Hm

theorem exs_run {Q : Post F} {rest : P F} :
    iprop(ctx X Y K KS ∗ readyTo c false 8 ∗ bigSep Finset.univ (exSt c) ∗ myAt c (amx X Y 0 c) ∗ ow (F := F) c (oweX c 0))
      ⊢ iprop(((ow c 0 ∗ bigSep Finset.univ (exEnd c) ∗ myAt c (amx X Y 3 c)) -∗ run c rest Q) -∗ run c (exK c 0 (exK c 1 (exK c 2 rest))) Q) := by
  have hO : oweX c 3 = 0 := by unfold oweX; rw [Finset.Ico_self, Finset.sum_empty]
  rw [bigSep_three, bigSep_three, ← hO]
  iintro ⟨#Hc, #Hr, ⟨H0, H1, H2⟩, Hm, Ho⟩ Hk
  iapply (ex_step X Y K KS c 0) $$ [H0 Hm Ho]
  · isplitr; · iexact Hc
    isplitl [H0]; · iexact H0
    isplitr; · iapply (ready_at c); iexact Hr
    isplitl [Hm]; · iexact Hm
    iexact Ho
  iintro ⟨Ho, H0, Hm⟩
  iapply (ex_step X Y K KS c 1) $$ [H1 Hm Ho]
  · isplitr; · iexact Hc
    isplitl [H1]; · iexact H1
    isplitr; · iapply (ready_at c); iexact Hr
    isplitl [Hm]; · iexact Hm
    iexact Ho
  iintro ⟨Ho, H1, Hm⟩
  iapply (ex_step X Y K KS c 2) $$ [H2 Hm Ho]
  · isplitr; · iexact Hc
    isplitl [H2]; · iexact H2
    isplitr; · iapply (ready_at c); iexact Hr
    isplitl [Hm]; · iexact Hm
    iexact Ho
  iintro ⟨Ho, H2, Hm⟩
  iapply Hk
  isplitl [Ho]; · iexact Ho
  isplitl [H0 H1 H2]
  · isplitl [H0]; · iexact H0
    isplitl [H1]; · iexact H1
    iexact H2
  iexact Hm

theorem main_run {Q : Post F} (u : FVec F S1x128 .f32) (g : ℕ → Vec F S512x512 .f32) :
    iprop(ctx X Y K KS ∗ ready c ∗ (seedSt c false 0 ∗ seedSt c true 0)
        ∗ ((bigSep (Finset.Ico 0 8) (crS c false) -∗ phSt c false 0) ∗ (bigSep (Finset.Ico 0 8) (crS c true) -∗ phSt c true 0))
        ∗ bigSep Finset.univ (exSt c) ∗ atPos ER (at' c .bar) 1 ∅ 0 ∗ myAt c u ∗ (xAt X c ∗ wAt Y c ∗ oAt c g) ∗ ow (F := F) c (oweS c 0))
      ⊢ iprop(((bodyOut c ∗ (xAt X c ∗ wAt Y c ∗ oAt c (resB X Y c)) ∗ ow c 0) -∗ run c (.ret ⟨⟩) Q) -∗ run c (mainK c) Q) := by
  unfold mainK
  iintro ⟨#Hc, #Hr, ⟨Ha, Hb⟩, ⟨Hpa, Hpb⟩, Hex, Hbar, Hm, ⟨Hx, Hw, Hg⟩, Ho⟩ Hk
  iapply (seeds_run X Y K KS c 8 0 rfl) $$ [Ha Hb Hx Hw Ho]
  · isplitr; · iexact Hc
    isplitr; · iexact Hr
    isplitl [Ha]; · iexact Ha
    isplitl [Hb]; · iexact Hb
    isplitl [Hx]; · iexact Hx
    isplitl [Hw]; · iexact Hw
    iexact Ho
  iintro ⟨Ha, Hb, Hx, Hw, Ho⟩
  ihave Ha := (seeds_end c false) $$ Ha
  ihave Hb := (seeds_end c true) $$ Hb
  ihave Ha := Hpa $$ Ha
  ihave Hb := Hpb $$ Hb
  iapply (owns_run X Y c g 16 0 rfl) $$ [Hx Hw Hg]
  · isplitl [Hx]; · iexact Hx
    isplitl [Hw]; · iexact Hw
    iapply (oAt_congr c (fun i _ => (if_neg (Nat.not_lt_zero i)).symm)); iexact Hg
  iintro ⟨Hx, Hw, Hg⟩
  iapply (phases_run X Y K KS c 48 0 rfl) $$ [Ha Hb Hx Hw Ho]
  · isplitr; · iexact Hc
    isplitr; · iexact Hr
    isplitl [Ha]; · iexact Ha
    isplitl [Hb]; · iexact Hb
    isplitl [Hx]; · iexact Hx
    isplitl [Hw]; · iexact Hw
    iexact Ho
  iintro ⟨Ha, Hb, Hx, Hw, Ho⟩
  ihave Ha := (phases_end X Y c false) $$ Ha
  ihave Hb := (phases_end X Y c true) $$ Hb
  icases Ha with ⟨Ha, Hsa, Hca⟩
  icases Hb with ⟨Hb, Hsb, Hcb⟩
  iapply (fins_run X Y K KS c 8 0 (Scalar.ofBits .f32 0x00000000#32) rfl) $$ [Ha Hb Hg Ho]
  · isplitr; · iexact Hc
    isplitl [Ha]; · iexact Ha
    isplitl [Hb]; · iexact Hb
    isplitl [Hg]; · iapply (oAt_congr c (fun b _ => (if_neg (Nat.not_lt_zero (b % 8))).symm)); iexact Hg
    iexact Ho
  iintro ⟨Ha, Hb, Hg, Ho⟩
  ihave Ha := (all_ready X Y c) $$ [Ha]
  · isplitr; · iexact Hr
    iexact Ha
  icases Ha with ⟨Ha, #Hall⟩
  iapply (sents_run X Y K KS c (O := oweX c 0) (over_mono (by omega) (over_X c 0)) 8 0 rfl) $$ [Hsa Hsb Ho]
  · isplitr; · iexact Hc
    isplitl [Hsa]; · iexact Hsa
    isplitl [Hsb]; · iexact Hsb
    iexact Ho
  iintro ⟨Hsa, Hsb, Ho⟩
  iapply (maxPut_step c u (lanesV (maxN X Y c 8 (Scalar.ofBits .f32 0x00000000#32)))) $$ Hm
  iintro Hm
  iapply (exs_run X Y K KS c) $$ [Hex Hm Ho]
  · isplitr; · iexact Hc
    isplitr; · iexact Hall
    isplitl [Hex]; · iexact Hex
    isplitl [Hm]; · unfold amx; iexact Hm
    iexact Ho
  iintro ⟨Ho, Hex, Hm⟩
  iapply (scale_run X Y c) $$ [Hm Hg]
  · isplitl [Hm]; · iexact Hm
    iexact Hg
  iintro ⟨Hm, Hg⟩
  iapply (end_run X Y K KS c (amx X Y 3 c)) $$ [Ha Hb Hsa Hsb Hca Hcb Hbar Hex Hm]
  · isplitr; · iexact Hc
    isplitl [Ha Hsa Hca]
    · isplitl [Ha]; · iexact Ha
      isplitl [Hsa]; · iexact Hsa
      iexact Hca
    isplitl [Hb Hsb Hcb]
    · isplitl [Hb]; · iexact Hb
      isplitl [Hsb]; · iexact Hsb
      iexact Hcb
    isplitl [Hbar]; · iexact Hbar
    isplitl [Hex]; · iexact Hex
    iexact Hm
  iintro Hout
  iapply Hk
  isplitl [Hout]; · iexact Hout
  isplitl [Hx Hw Hg]
  · isplitl [Hx]; · iexact Hx
    isplitl [Hw]; · iexact Hw
    iexact Hg
  iexact Ho

theorem buf_cut (sd : Bool) : (bufAny c sd : sProp 𝕄) ⊢ iprop(bigSep (Finset.range 8) (slotS c sd) ∗ bigSep (Finset.Ico 8 16) (slotS c sd)) := by
  refine BIBase.Entails.trans (buf_slots c sd) ?_
  rw [range_Ico, range_Ico, Ico_split (show 0 ≤ 8 by omega) (show 8 ≤ 16 by omega) (slotS c sd)]

theorem rx_cut : (rxAny c : sProp 𝕄) ⊢ bigSep Finset.univ fun h : Fin 3 => slotX c h.1 := by
  refine BIBase.Entails.trans (rx_slots c) ?_
  rw [range_Ico, bigSep_fin 3 (slotX c)]

theorem body_run {Q : Post F} (u : FVec F S1x128 .f32) (g : ℕ → Vec F S512x512 .f32) :
    iprop(ctx X Y K KS ∗ bodyIn c ∗ (bufAny c false ∗ bufAny c true) ∗ rxAny c ∗ myAt c u ∗ (xAt X c ∗ wAt Y c ∗ oAt c g) ∗ ow (F := F) c (oweAll c))
      ⊢ iprop(((bodyOut c ∗ (xAt X c ∗ wAt Y c ∗ oAt c (resB X Y c)) ∗ ow c 0) -∗ run c (.ret ⟨⟩) Q) -∗ run c (bodyK c) Q) := by
  unfold bodyIn
  iintro ⟨#Hc, ⟨Ha, Hb, Hbar, Hcr, Ht, Hrd, Hex⟩, ⟨Hfa, Hfb⟩, Hrx, Hm, Hio, Ho⟩ Hk
  ihave Hfa := (buf_cut c false) $$ Hfa
  ihave Hfb := (buf_cut c true) $$ Hfb
  ihave Hrx := (rx_cut c) $$ Hrx
  icases Hfa with ⟨Hfa, Hsa⟩
  icases Hfb with ⟨Hfb, Hsb⟩
  imod (rows_up X Y K KS c) $$ [Hrd Hrx] with #Hr
  · isplitr; · iexact Hc
    isplitl [Hrd]; · iexact Hrd
    iexact Hrx
  ihave Ha := (side_open X Y K KS c false) $$ [Ha]
  · isplitr; · iexact Hc
    iexact Ha
  ihave Hb := (side_open X Y K KS c true) $$ [Hb]
  · isplitr; · iexact Hc
    iexact Hb
  icases Ha with ⟨Hta, Hpa⟩
  icases Hb with ⟨Htb, Hpb⟩
  iapply (bar_run X Y K KS c) $$ [Hbar Hcr Ht Hfa Hfb Ho]
  · isplitr; · iexact Hc
    isplitl [Hbar]; · iexact Hbar
    isplitl [Hcr]; · iexact Hcr
    isplitl [Ht]; · iexact Ht
    isplitl [Hfa Hfb]
    · isplitl [Hfa]; · iexact Hfa
      iexact Hfb
    iexact Ho
  iintro ⟨Ho, Hbar, Hna, Hnb⟩
  iapply (main_run X Y K KS c u g) $$ [Hta Hsa Hna Htb Hsb Hnb Hpa Hpb Hex Hbar Hm Hio Ho]
  · isplitr; · iexact Hc
    isplitr; · iexact Hr
    isplitl [Hta Hsa Hna Htb Hsb Hnb]
    · isplitl [Hta Hsa Hna]
      · iapply (seeds_start c false)
        isplitl [Hta]; · iexact Hta
        isplitl [Hsa]; · iexact Hsa
        iexact Hna
      · iapply (seeds_start c true)
        isplitl [Htb]; · iexact Htb
        isplitl [Hsb]; · iexact Hsb
        iexact Hnb
    isplitl [Hpa Hpb]
    · isplitl [Hpa]; · iexact Hpa
      iexact Hpb
    isplitl [Hex]; · iexact Hex
    isplitl [Hbar]; · iexact Hbar
    isplitl [Hm]; · iexact Hm
    isplitl [Hio]; · iexact Hio
    iexact Ho
  iexact Hk

end

end Cert.KernelIdeal.Ring

end
-- ==== Proof.KernelIdeal.Deal.lean ====
/- What the launch mints, dealt to the devices: tokens, places, slots and credits. -/
module

public import proofs.«01_k».proof.Proof.KernelIdeal.Body
public import Idealize.ShloMosaic.Lib.Pipeline.Launch
public import Idealize.ShloMosaic.Lib.Pipeline.Kit

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.SiteBlocks (L lv)

variable {F : FTy → Type} [FloatOps F]

local notation "𝕄" => MT nD τ sig ℕ (Elt F) ℕ UU ℕ

/-! ## Cutting a buffer into slots -/
/-! ## Dealing -/

/-- What is minted at the device that owns it goes to the device that uses it. -/
theorem around {T : Type} [Fintype T] (e : T → Dev nD ≃ Dev nD) (A : Dev nD → T → sProp 𝕄) :
    (bigSep Finset.univ fun c => bigSep Finset.univ fun t => A c t) = bigSep Finset.univ fun c => bigSep Finset.univ fun t => A (e t c) t := by
  have sw : ∀ B : Dev nD → T → sProp 𝕄, (bigSep Finset.univ fun c => bigSep Finset.univ fun t => B c t) = bigSep Finset.univ fun t => bigSep Finset.univ fun c => B c t := fun B => by
    rw [← bigSep_univ_prod (fun x : Dev nD × T => B x.1 x.2), bigSep_univ_equiv (Equiv.prodComm T (Dev nD)) (fun x : Dev nD × T => B x.1 x.2), bigSep_univ_prod]
    rfl
  rw [sw A, sw fun c t => A (e t c) t]
  exact bigSep_congr fun t _ => bigSep_univ_equiv (e t) fun c => A c t

def fromE (sd : Bool) : Dev nD ≃ Dev nD := ⟨fromDev sd, toDev sd, to_from sd, from_to sd⟩
def toE (sd : Bool) : Dev nD ≃ Dev nD := ⟨toDev sd, fromDev sd, from_to sd, to_from sd⟩
def pairE (h : Fin 3) : Dev nD ≃ Dev nD := ⟨fun d => partner d h.1, fun d => partner d h.1, partner_partner h, partner_partner h⟩

/-! ## The cells -/

theorem at_injective : Function.Injective (fun x : Dev nD × Cell => at' x.1 x.2) := by
  rintro ⟨c, k⟩ ⟨c', k'⟩ h
  have h1 : c = c' := congrArg (fun g : GSem nD τ sig => g.1.1) h
  have h2 : k = k' := csem_injective (congrArg Prod.snd h)
  rw [h1, h2]

def ringCells : Finset (GSem nD τ sig) := Finset.univ.map ⟨fun x : Dev nD × Cell => at' x.1 x.2, at_injective⟩

theorem cells_all (A : GSem nD τ sig → sProp 𝕄) : bigSep ringCells A = bigSep Finset.univ fun x : Dev nD × Cell => A (at' x.1 x.2) := by
  unfold ringCells; rw [bigSep_map]; rfl

/-! ## The tokens -/

/-- A device's tokens: its neighbours' barriers, credits given, stripes landing, stripes leaving, maxima landing, maxima leaving. -/
abbrev Tk : Type := Bool ⊕ (Bool × Fin 48) ⊕ (Bool × Fin 56) ⊕ (Bool × Fin 56) ⊕ Fin 3 ⊕ Fin 3

/-- The cell, round and duty of a token. -/
def tk : Tk → Cell × ℕ × ℕ
  | .inl b => (.bar, 0, bif b then 1 else 0)
  | .inr (.inl x) => (.crd x.1, 0, x.2.1)
  | .inr (.inr (.inl x)) => (.rs x.1 (q16 x.2.1), x.2.1 / 16, 0)
  | .inr (.inr (.inr (.inl x))) => (.ss x.1 (q16 x.2.1), x.2.1 / 16, 0)
  | .inr (.inr (.inr (.inr (.inl h)))) => (.ra h, 0, 0)
  | .inr (.inr (.inr (.inr (.inr h)))) => (.sa h, 0, 0)

/-- The device whose cell a device's token is for. -/
def tkDev : Tk → Dev nD ≃ Dev nD
  | .inl b => fromE b
  | .inr (.inl x) => fromE x.1
  | .inr (.inr (.inl x)) => toE x.1
  | .inr (.inr (.inr (.inl _))) => Equiv.refl _
  | .inr (.inr (.inr (.inr (.inl h)))) => pairE h
  | .inr (.inr (.inr (.inr (.inr _)))) => Equiv.refl _

def unTk : Cell × ℕ × ℕ → Tk
  | (.bar, _, i) => .inl (i == 1)
  | (.crd sd, _, i) => .inr (.inl (sd, ⟨i % 48, Nat.mod_lt _ (by decide)⟩))
  | (.rs sd q, r, _) => .inr (.inr (.inl (sd, ⟨(16 * r + q.1) % 56, Nat.mod_lt _ (by decide)⟩)))
  | (.ss sd q, r, _) => .inr (.inr (.inr (.inl (sd, ⟨(16 * r + q.1) % 56, Nat.mod_lt _ (by decide)⟩))))
  | (.ra h, _, _) => .inr (.inr (.inr (.inr (.inl h))))
  | (.sa h, _, _) => .inr (.inr (.inr (.inr (.inr h))))

theorem unTk_tk : Function.LeftInverse unTk tk := by
  have e : ∀ j : Fin 56, (⟨(16 * (j.1 / 16) + (q16 j.1).1) % 56, Nat.mod_lt _ (by decide)⟩ : Fin 56) = j := fun j => Fin.ext (by
    show (16 * (j.1 / 16) + (q16 j.1).1) % 56 = j.1
    rw [idx_eq, Nat.mod_eq_of_lt j.2])
  rintro (b | ⟨sd, k⟩ | ⟨sd, j⟩ | ⟨sd, j⟩ | h | h)
  · cases b <;> rfl
  · exact congrArg (fun i => (Sum.inr (Sum.inl (sd, i)) : Tk)) (Fin.ext (Nat.mod_eq_of_lt k.2))
  · exact congrArg (fun i => (Sum.inr (Sum.inr (Sum.inl (sd, i))) : Tk)) (e j)
  · exact congrArg (fun i => (Sum.inr (Sum.inr (Sum.inr (Sum.inl (sd, i)))) : Tk)) (e j)
  · rfl
  · rfl

abbrev tokOf (x : Dev nD × Tk) : GSem nD τ sig × ℕ × ℕ := (at' x.1 (tk x.2).1, (tk x.2).2)

theorem tokOf_injective : Function.Injective tokOf := by
  rintro ⟨c, t⟩ ⟨c', t'⟩ h
  have h1 : at' c (tk t).1 = at' c' (tk t').1 := congrArg (fun x : GSem nD τ sig × ℕ × ℕ => x.1) h
  have h2 : (tk t).2 = (tk t').2 := congrArg (fun x : GSem nD τ sig × ℕ × ℕ => x.2) h
  have h3 : (c, (tk t).1) = (c', (tk t').1) := at_injective h1
  have h4 : (tk t).1 = (tk t').1 := congrArg Prod.snd h3
  have h5 : c = c' := congrArg Prod.fst h3
  have h6 : t = t' := unTk_tk.injective (Prod.ext h4 h2)
  rw [h5, h6]

def ringToks : Finset (GSem nD τ sig × ℕ × ℕ) := Finset.univ.map ⟨tokOf, tokOf_injective⟩

theorem toks_all (A : GSem nD τ sig × ℕ × ℕ → sProp 𝕄) :
    bigSep ringToks A = bigSep Finset.univ fun c : Dev nD => bigSep Finset.univ fun t : Tk => A (tokOf (tkDev t c, t)) := by
  unfold ringToks
  rw [bigSep_map, bigSep_univ_prod]
  exact around tkDev fun c t => A (tokOf (c, t))

/-! ## The slots -/

abbrev Sk : Type := (Bool × Fin 48) ⊕ Fin 3

def keyOf (c : Dev nD) : Sk → Key
  | .inl x => .st c x.1 x.2
  | .inr h => .ax c h

def keyE : Dev nD × Sk ≃ Key where
  toFun x := keyOf x.1 x.2
  invFun
    | .st d sd k => (d, .inl (sd, k))
    | .ax d h => (d, .inr h)
  left_inv x := by rcases x with ⟨d, ⟨sd, k⟩ | h⟩ <;> rfl
  right_inv k := by cases k <;> rfl

def keyDev : Sk → Dev nD ≃ Dev nD
  | .inl x => toE x.1
  | .inr h => pairE h

theorem keys_all (A : Key → sProp 𝕄) : bigSep Finset.univ A = bigSep Finset.univ fun c : Dev nD => bigSep Finset.univ fun s : Sk => A (keyOf c s) := by
  rw [bigSep_univ_equiv keyE, bigSep_univ_prod]; rfl

theorem keys_around (A : Key → sProp 𝕄) :
    bigSep Finset.univ A = bigSep Finset.univ fun c : Dev nD => bigSep Finset.univ fun s : Sk => A (keyOf (keyDev s c) s) := by
  rw [keys_all]
  exact around keyDev fun c s => A (keyOf c s)

/-! ## What one device is dealt -/

section

variable (c : Dev nD)

def dealt : sProp 𝕄 :=
  iprop((bigSep Finset.univ fun k : Cell => atPos ER (at' c k) 0 ∅ 0)
    ∗ (bigSep Finset.univ fun t : Tk => dutyTok ER (at' (tkDev t c) (tk t).1) (tk t).2.1 (tk t).2.2)
    ∗ (bigSep Finset.univ fun s : Sk => readerAt ES (keyOf c s) 0)
    ∗ (bigSep Finset.univ fun s : Sk => writeTok ES (keyOf (keyDev s c) s) 1))

/-- What a device may wait for from the start. -/
def credits : sProp 𝕄 :=
  iprop(cred (tallyAt (at' c .bar) 1 2) ∗ (bigSep (Finset.Ico 0 56) (crR c false) ∗ bigSep (Finset.Ico 0 56) (crR c true))
    ∗ (bigSep (Finset.Ico 0 48) (crC c false) ∗ bigSep (Finset.Ico 0 48) (crC c true))
    ∗ bigSep Finset.univ fun h : Fin 3 => cred (tallyAt (at' c (.ra h)) (200 + h.1) NX))

theorem toks_split : (bigSep Finset.univ fun t : Tk => dutyTok ER (at' (tkDev t c) (tk t).1) (tk t).2.1 (tk t).2.2 : sProp 𝕄)
    = iprop((dutyTok ER (at' (fromDev false c) .bar) 0 0 ∗ dutyTok ER (at' (fromDev true c) .bar) 0 1)
      ∗ ((bigSep (Finset.Ico 0 48) fun k => dutyTok ER (cc (fromDev false c) false) 0 k) ∗ (bigSep (Finset.Ico 0 48) fun k => dutyTok ER (cc (fromDev true c) true) 0 k))
      ∗ ((bigSep (Finset.Ico 0 56) fun j => dutyTok ER (rc (toDev false c) false j) (j / 16) 0) ∗ (bigSep (Finset.Ico 0 56) fun j => dutyTok ER (rc (toDev true c) true j) (j / 16) 0))
      ∗ ((bigSep (Finset.Ico 0 56) fun j => dutyTok ER (sc c false j) (j / 16) 0) ∗ (bigSep (Finset.Ico 0 56) fun j => dutyTok ER (sc c true j) (j / 16) 0))
      ∗ (bigSep Finset.univ fun h : Fin 3 => dutyTok ER (at' (partner c h.1) (.ra h)) 0 0) ∗ (bigSep Finset.univ fun h : Fin 3 => dutyTok ER (at' c (.sa h)) 0 0)) := by
  rw [bigSep_univ_sum, bigSep_univ_sum, bigSep_univ_sum, bigSep_univ_sum, bigSep_univ_sum, bigSep_bool,
    bigSep_univ_prod, bigSep_bool, bigSep_univ_prod, bigSep_bool, bigSep_univ_prod, bigSep_bool]
  simp only [← bigSep_fin]
  rfl

theorem readers_split : (bigSep Finset.univ fun s : Sk => readerAt ES (keyOf c s) 0 : sProp 𝕄)
    = iprop(((bigSep Finset.univ fun k : Fin 48 => readerAt ES (.st c false k) 0) ∗ (bigSep Finset.univ fun k : Fin 48 => readerAt ES (.st c true k) 0))
      ∗ bigSep Finset.univ fun h : Fin 3 => readerAt ES (.ax c h) 0) := by
  rw [bigSep_univ_sum, bigSep_univ_prod, bigSep_bool]
  rfl

theorem writers_split : (bigSep Finset.univ fun s : Sk => writeTok ES (keyOf (keyDev s c) s) 1 : sProp 𝕄)
    = iprop(((bigSep Finset.univ fun k : Fin 48 => writeTok ES (.st (toDev false c) false k) 1) ∗ (bigSep Finset.univ fun k : Fin 48 => writeTok ES (.st (toDev true c) true k) 1))
      ∗ bigSep Finset.univ fun h : Fin 3 => writeTok ES (.ax (partner c h.1) h) 1) := by
  rw [bigSep_univ_sum, bigSep_univ_prod, bigSep_bool]
  rfl

theorem keys_join (sd : Bool) : iprop((bigSep Finset.univ fun k : Fin 48 => readerAt ES (.st c sd k) 0) ∗ (bigSep Finset.univ fun k : Fin 48 => writeTok ES (.st (toDev sd c) sd k) 1))
    ⊢ (bigSep (Finset.Ico 0 48) (keyS c sd) : sProp 𝕄) := by
  rw [← bigSep_sep', ← bigSep_fin]
  exact bigSep_mono fun k _ => Entails.of_eq (keyS_eq c sd k.2).symm

theorem toks_join (sd : Bool) : iprop((bigSep (Finset.Ico 0 56) fun j => dutyTok ER (rc (toDev sd c) sd j) (j / 16) 0) ∗ (bigSep (Finset.Ico 0 56) fun j => dutyTok ER (sc c sd j) (j / 16) 0))
    ⊢ (bigSep (Finset.Ico 0 56) (tokS c sd) : sProp 𝕄) := by
  unfold tokS
  rw [bigSep_sep']

theorem ex_join :
    iprop((bigSep Finset.univ fun h : Fin 3 => atPos ER (at' c (.sa h)) 0 ∅ 0) ∗ (bigSep Finset.univ fun h : Fin 3 => atPos ER (at' c (.ra h)) 0 ∅ 0)
        ∗ (bigSep Finset.univ fun h : Fin 3 => dutyTok ER (at' (partner c h.1) (.ra h)) 0 0) ∗ (bigSep Finset.univ fun h : Fin 3 => dutyTok ER (at' c (.sa h)) 0 0)
        ∗ (bigSep Finset.univ fun h : Fin 3 => writeTok ES (.ax (partner c h.1) h) 1) ∗ bigSep Finset.univ fun h : Fin 3 => cred (tallyAt (at' c (.ra h)) (200 + h.1) NX))
      ⊢ (bigSep Finset.univ (exSt c) : sProp 𝕄) := by
  unfold exSt
  rw [bigSep_sep', bigSep_sep', bigSep_sep', bigSep_sep', bigSep_sep']

theorem dealt_body : iprop(dealt c ∗ credits c) ⊢ (bodyIn c : sProp 𝕄) := by
  unfold dealt credits bodyIn sideIn
  rw [bigSep_cell, toks_split, readers_split, writers_split]
  iintro ⟨⟨⟨Hb, ⟨Hca, Hcb⟩, ⟨Hsa, Hsb⟩, ⟨Hra, Hrb⟩, Hxs, Hxr⟩, ⟨Htb, ⟨Hda, Hdb⟩, ⟨Hta, Htb'⟩, ⟨Hua, Hub⟩, Htx, Hux⟩, ⟨⟨Hka, Hkb⟩, Hkx⟩, ⟨⟨Hwa, Hwb⟩, Hwx⟩⟩,
    Hcbar, ⟨Hcra, Hcrb⟩, ⟨Hcca, Hccb⟩, Hcx⟩
  isplitl [Hca Hsa Hra Hda Hta Hua Hka Hwa Hcra Hcca]
  · isplitl [Hra]; · iexact Hra
    isplitl [Hsa]; · iexact Hsa
    isplitl [Hca]; · iexact Hca
    isplitl [Hda]; · iexact Hda
    isplitl [Hta Hua]; · iapply (toks_join c false); isplitl [Hta]; · iexact Hta
                         iexact Hua
    isplitl [Hcra]; · iexact Hcra
    isplitl [Hcca]; · iexact Hcca
    iapply (keys_join c false); isplitl [Hka]; · iexact Hka
    iexact Hwa
  isplitl [Hcb Hsb Hrb Hdb Htb' Hub Hkb Hwb Hcrb Hccb]
  · isplitl [Hrb]; · iexact Hrb
    isplitl [Hsb]; · iexact Hsb
    isplitl [Hcb]; · iexact Hcb
    isplitl [Hdb]; · iexact Hdb
    isplitl [Htb' Hub]; · iapply (toks_join c true); isplitl [Htb']; · iexact Htb'
                          iexact Hub
    isplitl [Hcrb]; · iexact Hcrb
    isplitl [Hccb]; · iexact Hccb
    iapply (keys_join c true); isplitl [Hkb]; · iexact Hkb
    iexact Hwb
  isplitl [Hb]; · iexact Hb
  isplitl [Hcbar]; · iexact Hcbar
  isplitl [Htb]; · iexact Htb
  isplitl [Hkx]; · iexact Hkx
  iapply (ex_join c)
  isplitl [Hxs]; · iexact Hxs
  isplitl [Hxr]; · iexact Hxr
  isplitl [Htx]; · iexact Htx
  isplitl [Hux]; · iexact Hux
  isplitl [Hwx]; · iexact Hwx
  iexact Hcx

/-! ## The credits -/

theorem launch_one (e : Dev nD ≃ Dev nD) (k : Cell) (i u : ℕ) :
    (Pipeline.launchCred (fun d => tallyAt (at' (e d) k) i u) c : sProp 𝕄) = cred (tallyAt (at' c k) i u) :=
  Pipeline.launchCred_of_sum (fun d => tallyAt (at' (e d) k) i u) (fun d => tallyAt (at' d k) i u) (Equiv.sum_comp e fun d => tallyAt (at' d k) i u)
    (fun d g hg => by
      by_contra hne
      refine hg (Finsupp.ext fun j => ?_)
      rw [tallyAt_apply, if_neg fun h => hne (by rw [h.1])]; rfl) c

theorem launch_R (sd : Bool) (j : ℕ) : (Pipeline.launchCred (fun d => dueR d sd j) c : sProp 𝕄) = crR c sd j := launch_one c (toE sd) (.rs sd (q16 j)) _ _
theorem launch_C (sd : Bool) (j : ℕ) : (Pipeline.launchCred (fun d => dueC d sd j) c : sProp 𝕄) = crC c sd j := launch_one c (fromE sd) (.crd sd) _ _
theorem launch_B (sd : Bool) : (Pipeline.launchCred (fun d => dueB d sd) c : sProp 𝕄) = cred (tallyAt (at' c .bar) 1 1) := launch_one c (fromE sd) .bar _ _
theorem launch_X (h : Fin 3) : (Pipeline.launchCred (fun d => dueX d h.1) c : sProp 𝕄) = cred (tallyAt (at' c (.ra h)) (200 + h.1) NX) := by
  have e : (fun d => dueX d h.1) = fun d : Dev nD => tallyAt (at' (pairE h d) (.ra h)) (200 + h.1) NX := funext fun d => by
    fin_cases h <;> rfl
  rw [e]; exact launch_one c (pairE h) (.ra h) _ _

theorem creds_all : (Pipeline.launchCred oweAll c : sProp 𝕄) ⊢ credits c := by
  have hB : iprop(cred (tallyAt (at' c .bar) 1 1) ∗ cred (tallyAt (at' c .bar) 1 1)) ⊢ (cred (tallyAt (at' c .bar) 1 2) : sProp 𝕄) := by
    rw [show (tallyAt (at' c .bar) 1 2 : CellTallies nD τ sig ℕ) = tallyAt (at' c .bar) 1 1 + tallyAt (at' c .bar) 1 1 from (tallyAt_add _ _ 1 1).symm]
    exact (cred_add _ _).2
  have e : (Pipeline.launchCred oweAll c : sProp 𝕄)
      = iprop((((bigSep (Finset.Ico 0 8) (crR c true) ∗ bigSep (Finset.Ico 0 8) (crR c false))
        ∗ (((bigSep (Finset.Ico 0 48) (fun i => crR c true (i + 8)) ∗ bigSep (Finset.Ico 0 48) (fun i => crR c false (i + 8))) ∗ bigSep (Finset.Ico 0 48) (crC c true))
            ∗ bigSep (Finset.Ico 0 48) (crC c false))
          ∗ bigSep (Finset.Ico 0 3) fun h => (Pipeline.launchCred (fun d => dueX d h) c))
        ∗ cred (tallyAt (at' c .bar) 1 1)) ∗ cred (tallyAt (at' c .bar) 1 1)) := by
    unfold oweAll oweS oweP oweX
    rw [Pipeline.launchCred_add, Pipeline.launchCred_add, Pipeline.launchCred_add, Pipeline.launchCred_add, Pipeline.launchCred_sum, Pipeline.launchCred_sum, Pipeline.launchCred_sum]
    simp only [Pipeline.launchCred_add, launch_R, launch_C, launch_B, bigSep_sep']
  rw [e]
  unfold credits
  rw [Ico_split (show 0 ≤ 8 by omega) (show 8 ≤ 56 by omega) (crR c false), Ico_split (show 0 ≤ 8 by omega) (show 8 ≤ 56 by omega) (crR c true),
    Ico_shift (crR c true) 0 48 8, Ico_shift (crR c false) 0 48 8, ← bigSep_fin 3 fun h => (Pipeline.launchCred (fun d => dueX d h) c)]
  simp only [launch_X]
  iintro ⟨⟨⟨⟨Hb, Ha⟩, ⟨⟨⟨Hb', Ha'⟩, Hcb⟩, Hca⟩, Hx⟩, H1⟩, H2⟩
  isplitl [H1 H2]; · iapply hB; isplitl [H1]; · iexact H1
                     iexact H2
  isplitl [Ha Hb Ha' Hb']
  · isplitl [Ha Ha']
    · isplitl [Ha]; · iexact Ha
      iexact Ha'
    · isplitl [Hb]; · iexact Hb
      iexact Hb'
  isplitl [Hca Hcb]
  · isplitl [Hca]; · iexact Hca
    iexact Hcb
  iexact Hx

end

end Cert.KernelIdeal.Ring

end
-- ==== Proof.KernelIdeal.Launch.lean ====
/- The launch: the ghost state minted and dealt, the body's obligation, and the run of the whole program. -/
module

public import proofs.«01_k».proof.Proof.KernelIdeal.Deal
public import proofs.«01_k».proof.Proof.Gen.KernelIdeal.Launch
public import Idealize.ShloMosaic.Lib.Pipeline.CollectiveSegs

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.SiteBlocks (L lv)
open Idealize.ShloMosaic.Pipeline (Dat Cfg Window BodyObligation cellOf)

variable {F : FTy → Type} [FloatOps F]

local notation "𝕄" => MT nD τ sig ℕ (Elt F) ℕ UU ℕ

/-! ## The semaphores -/

/-- The kernel's own semaphores: all but the runtime's barrier. -/
abbrev OwnCell : Type := {k : Cell // k ≠ .bar}
abbrev osem (k : OwnCell) : SemLoc sig := csem k.1

theorem ownSemFacts : Pipeline.OwnSemFacts cfg0.spec osem := by
  have h1 : ∀ k : Cell, k ≠ .bar → (csem k).isScoped .tc = true := by decide +kernel
  have h2 : ∀ k : Cell, k ≠ .bar → ∀ w s, csem k ≠ .dma ((cfg0.spec w).sem s) := by decide +kernel
  exact ⟨fun k => h1 k.1 k.2, fun k k' h => Subtype.ext (csem_injective h), fun k => h2 k.1 k.2⟩

theorem unscopedSems0_eq (c : Dev nD) : (unscopedSems0 c : sProp 𝕄) = semVal (at' c .bar) 0 := by
  unfold unscopedSems0; rw [bigSep_eq_bigSepL_of_eq [SemLoc.reg barS] (by decide) (by decide)]; rfl

theorem sems0_eq (c : Dev nD) :
    iprop(unscopedSems0 c ∗ Pipeline.ownSems0 (Ix := ℕ) (Name := ℕ) (U := UU) (Lvl := ℕ) (Val := Elt F) (τ := τ) osem c)
      = (bigSep Finset.univ fun k : Cell => semVal (at' c k) 0 : sProp 𝕄) := by
  have e : (Finset.univ.erase Cell.bar) = (Finset.univ : Finset OwnCell).map (Function.Embedding.subtype _) := by decide
  rw [unscopedSems0_eq, bigSep_erase (Finset.mem_univ Cell.bar), e, bigSep_map]
  rfl

/-! ## Minting -/

section

variable (X : Dev nD → XC F) (Y : Dev nD → YC F)

def allSlots (KS : Key → ℕ) : sProp 𝕄 := bigSep Finset.univ fun k : Key => slotInv ES (KS k) k (slotOf (F := F) k)
instance allSlots_persistent (KS : Key → ℕ) : BI.Persistent (allSlots (F := F) KS) := by unfold allSlots; infer_instance

/-- What a device holds before its semaphores are put under invariants. -/
def G (c : Dev nD) : sProp 𝕄 :=
  iprop((∃ KS, allSlots (F := F) KS) ∗ (bigSep Finset.univ fun k : Cell => roundState ER (ringRd X Y) (at' c k) 0)
    ∗ (bigSep Finset.univ fun k : Cell => reached ER (at' c k) 0) ∗ dealt c)

def allCells (K : Dev nD × Cell → ℕ) : sProp 𝕄 :=
  iprop((bigSep Finset.univ fun x : Dev nD × Cell => cellInv ER (ringRd X Y) (K x) (at' x.1 x.2))
    ∗ bigSep Finset.univ fun x : Dev nD × Cell => reached ER (at' x.1 x.2) 0)
instance allCells_persistent (K : Dev nD × Cell → ℕ) : BI.Persistent (allCells X Y K) := by unfold allCells; infer_instance

/-- What it holds after. -/
def G' (c : Dev nD) : sProp 𝕄 := iprop(∃ K KS, allCells X Y K ∗ allSlots KS ∗ dealt c)

theorem write_keys : (bigSep ((Finset.univ : Finset Key) ×ˢ Finset.range 1) fun x => writeTok ES x.1 (x.2 + 1) : sProp 𝕄)
    = bigSep Finset.univ fun k : Key => writeTok ES k 1 := by
  rw [show Finset.range 1 = {0} from rfl, Finset.product_singleton, bigSep_map]
  rfl

theorem dealt_all : iprop((bigSep ringCells fun g => atPos ER g 0 ∅ 0) ∗ (bigSep ringToks fun x => dutyTok ER x.1 x.2.1 x.2.2)
      ∗ (bigSep Finset.univ fun k : Key => readerAt ES k 0) ∗ (bigSep Finset.univ fun k : Key => writeTok ES k 1))
    ⊢ (bigSep Finset.univ dealt : sProp 𝕄) := by
  unfold dealt
  rw [bigSep_sep', bigSep_sep', bigSep_sep', cells_all, bigSep_univ_prod, toks_all fun x => dutyTok ER x.1 x.2.1 x.2.2, keys_all fun k => readerAt ES k 0,
    keys_around fun k => writeTok ES k 1]

theorem mint : iprop(BI.own (ER (initOf ringCells ringToks)) ∗ BI.own (ES (initSlots Finset.univ 1))) ⊢ (|={Set.univ}=> bigSep Finset.univ (G X Y) : sProp 𝕄) := by
  iintro ⟨HR, HS⟩
  imod (Rounds.fund ER (ringRd X Y) ringCells ringToks) $$ HR with ⟨Hst, Hr, Hat, Htok⟩
  imod (slots_init ES Finset.univ 1 (slotOf (F := F))) $$ HS with ⟨%KS, -, #HI, Hrd, Hwr⟩
  imodintro
  ihave Hwr := (Entails.of_eq write_keys) $$ Hwr
  ihave Hst := (Entails.of_eq ((cells_all fun g => roundState ER (ringRd X Y) g 0).trans (bigSep_univ_prod _))) $$ Hst
  ihave Hr := (Entails.of_eq ((cells_all fun g => reached ER g 0).trans (bigSep_univ_prod _))) $$ Hr
  ihave Hd := (dealt_all (F := F)) $$ [Hat Htok Hrd Hwr]
  · isplitl [Hat]; · iexact Hat
    isplitl [Htok]; · iexact Htok
    isplitl [Hrd]; · iexact Hrd
    iexact Hwr
  have hG : ∀ c ∈ (Finset.univ : Finset (Dev nD)), iprop(allSlots (F := F) KS ∗ ((bigSep Finset.univ fun k : Cell => roundState ER (ringRd X Y) (at' c k) 0)
      ∗ (bigSep Finset.univ fun k : Cell => reached ER (at' c k) 0) ∗ dealt c)) ⊢ G X Y c := fun c _ => by
    unfold G
    iintro ⟨HI, H⟩
    isplitl [HI]; · iexists KS; iexact HI
    iexact H
  iapply (mono_ctx hG)
  isplitr; · unfold allSlots; iexact HI
  iapply (Entails.of_eq ((bigSep_sep' _ _ _).trans (congrArg _ (bigSep_sep' _ _ _))).symm)
  isplitl [Hst]; · iexact Hst
  isplitl [Hr]; · iexact Hr
  iexact Hd

/-! ## The invariants -/

theorem core_alloc (c : Dev nD) :
    iprop(Pipeline.ownSems0 (Ix := ℕ) (Name := ℕ) (U := UU) (Lvl := ℕ) (Val := Elt F) (τ := τ) osem c ∗ unscopedSems0 c ∗ G X Y c)
      ⊢ |={Set.univ}=> iprop((bigSep Finset.univ fun k => iprop(∃ κ : ℕ, cellInv ER (ringRd X Y) κ (at' c k)))
          ∗ (bigSep Finset.univ fun k => reached ER (at' c k) 0) ∗ (∃ KS, allSlots (F := F) KS) ∗ dealt c) := by
  have hinv : iprop((bigSep Finset.univ fun k : Cell => semVal (at' c k) 0) ∗ bigSep Finset.univ fun k : Cell => roundState ER (ringRd X Y) (at' c k) 0)
      ⊢ (|={Set.univ}=> bigSep Finset.univ fun k => iprop(∃ κ : ℕ, cellInv ER (ringRd X Y) κ (at' c k)) : sProp 𝕄) := by
    rw [← bigSep_sep']
    exact (bigSep_mono fun k _ => (Rounds.body_intro ER (ringRd X Y) (at' c k)).trans inv_alloc).trans (bigSep_fupd _ _)
  unfold G
  iintro ⟨Hos, Hus, HS, Hst, Hr, Hd⟩
  ihave Hv := (Entails.of_eq (sems0_eq (F := F) c)) $$ [Hos Hus]
  · isplitl [Hus]; · iexact Hus
    iexact Hos
  imod hinv $$ [Hv Hst] with Hinv
  · isplitl [Hv]; · iexact Hv
    iexact Hst
  imodintro
  isplitl [Hinv]; · iexact Hinv
  isplitl [Hr]; · iexact Hr
  isplitl [HS]; · iexact HS
  iexact Hd

theorem regroup :
    (bigSep Finset.univ fun c : Dev nD => iprop((bigSep Finset.univ fun k => iprop(∃ κ : ℕ, cellInv ER (ringRd X Y) κ (at' c k)))
          ∗ (bigSep Finset.univ fun k => reached ER (at' c k) 0) ∗ (∃ KS, allSlots (F := F) KS) ∗ dealt c) : sProp 𝕄)
      ⊢ bigSep Finset.univ (G' X Y) := by
  rw [bigSep_sep', bigSep_sep', ← bigSep_univ_prod (fun x : Dev nD × Cell => iprop(∃ κ : ℕ, cellInv ER (ringRd X Y) κ (at' x.1 x.2))),
    ← bigSep_univ_prod (fun x : Dev nD × Cell => (reached ER (at' x.1 x.2) 0 : sProp 𝕄))]
  iintro ⟨HI, #HR, Hd⟩
  ihave HK := (BI.bigSep_exists_pi Finset.univ (fun (x : Dev nD × Cell) (κ : ℕ) => (cellInv ER (ringRd X Y) κ (at' x.1 x.2) : sProp 𝕄))) $$ HI
  icases HK with ⟨%K, #HI⟩
  have hG : ∀ c ∈ (Finset.univ : Finset (Dev nD)), iprop(allCells X Y K ∗ ((∃ KS, allSlots (F := F) KS) ∗ dealt c)) ⊢ G' X Y c := fun c _ => by
    unfold G'
    iintro ⟨HI, ⟨%KS, HS⟩, Hd⟩
    iexists K; iexists KS
    isplitl [HI]; · iexact HI
    isplitl [HS]; · iexact HS
    iexact Hd
  iapply (mono_ctx hG)
  isplitr
  · unfold allCells; isplitl; · iexact HI
    iexact HR
  iexact Hd

theorem glob : (bigSep Finset.univ fun c => iprop(Pipeline.ownSems0 (Ix := ℕ) (Name := ℕ) (U := UU) (Lvl := ℕ) (Val := Elt F) (τ := τ) osem c ∗ unscopedSems0 c ∗ G X Y c) : sProp 𝕄)
    ⊢ |={Set.univ}=> bigSep Finset.univ (G' X Y) :=
  ((bigSep_mono fun c _ => core_alloc X Y c).trans (bigSep_fupd _ _)).trans (BI.fupd_mono (regroup X Y))

/-- What a device's body starts from. -/
def start (c : Dev nD) : sProp 𝕄 := iprop(∃ K KS, ctx X Y K KS ∗ bodyIn c)

end

/-! ## The pipeline's proof data -/

variable (m : (ℓ : Loc nD τ sig) → Buf (Elt F) ℓ) (ρ : Dev nD → PrngReg)

/-- The memory at launch. -/
def s₀ : MemSt nD τ sig (Elt F) := ⟨m, fun _ => 0, ρ⟩

/-- The operands as staged. -/
def xOf (c : Dev nD) : XC F := (win0_0.blk (0 : Fin 1)).view.read (Elt F) ((s₀ m ρ).mem ((c : Thread nD τ).loc main_arg0))
def wOf (c : Dev nD) : YC F := (win0_1.blk (0 : Fin 1)).view.read (Elt F) ((s₀ m ρ).mem ((c : Thread nD τ).loc main_arg1))
/-- The result. -/
def resOf (c : Dev nD) : OC F := outC (resB (xOf m ρ) (wOf m ρ) c)

def Φ₀ (c : Dev nD) : sProp 𝕄 :=
  iprop(start (xOf m ρ) (wOf m ρ) c ∗ (bufAny c false ∗ bufAny c true) ∗ rxAny c ∗ ∃ u, myAt c u)
def Φ₁ (c : Dev nD) : sProp 𝕄 := bodyOut c

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xOf m ρ c
    | ⟨1, _⟩ => wOf m ρ c
    | ⟨2, _⟩ => resOf m ρ c
  Φ t := match t with
    | ⟨0, _⟩ => Φ₀ m ρ c
    | ⟨_ + 1, _⟩ => Φ₁ c
  q _ := fullShare
  owed t := match t with
    | ⟨0, _⟩ => oweAll c
    | ⟨_ + 1, _⟩ => 0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

theorem owns_whole_eq (c : Dev nD) (b : Ref sig .tc) (f : b.ty.Contents (Elt F)) :
    (Idealize.ShloMosaic.owns (Ix := ℕ) (Name := ℕ) (U := UU) (Lvl := ℕ) (c : Thread nD τ) (Memref.whole b) fullShare f : sProp 𝕄)
      = iprop(∃ g : Buf (Elt F) (((c : Dev nD) : Thread nD τ).loc b), ⌜g = f⌝ ∗ (((c : Thread nD τ).loc b) ↦{fullShare} g)) := by
  unfold Idealize.ShloMosaic.owns; simp only [Memref.view_whole, View.read_whole, View.set_whole]

/-! ## The body -/

abbrev stg (c : Dev nD) (b : Ref sig .tc) (f : b.ty.Contents (Elt F)) : sProp 𝕄 :=
  iprop(∃ g : Buf (Elt F) (((c : Dev nD) : Thread nD τ).loc b), ⌜g = f⌝ ∗ (((c : Thread nD τ).loc b) ↦{fullShare} g))

set_option maxRecDepth 4000 in
def bodyPre (c : Dev nD) : sProp 𝕄 :=
  iprop(Φ₀ m ρ c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt 0 t0_0.succ ∗ stg c cc0_stg0_0 (xOf m ρ c) ∗ stg c cc0_stg1_0 (wOf m ρ c) ∗ stg c cc0_stg2_0 (resOf m ρ c))

theorem body_sound (c : Dev nD) : bodyPre m ρ c ⊢ run c (.op .deviceId fun d => bodyK d) (fun _ => bodyPost m ρ c) := by
  unfold run
  rw [wp_deviceId]
  unfold bodyPre Φ₀ start Dat.owesAt Pipeline.owesWithin
  iintro ⟨⟨⟨%K, %KS, #Hctx, Hin⟩, Hbufs, Hrx, ⟨%u, Hmy⟩⟩, ⟨%W, %hW, HO⟩, ⟨%d0, %g0, %hg0, Hx⟩, ⟨%d1, %g1, %hg1, Hw⟩, ⟨%d2, %g2, %hg2, Ho⟩⟩
  have hx : g0 = xOf m ρ c := by rw [hg0]; unfold Dat.before; rw [if_pos (fetch_0 t0_0)]; rfl
  have hw : g1 = wOf m ρ c := by rw [hg1]; unfold Dat.before; rw [if_pos (fetch_1 t0_0)]; rfl
  subst hx hw
  iapply (body_run (xOf m ρ) (wOf m ρ) K KS c u (blockOf (F := F) g2)) $$ [Hin Hbufs Hrx Hmy HO Hx Hw Ho]
  · isplitr; · iexact Hctx
    isplitl [Hin]; · iexact Hin
    isplitl [Hbufs]; · iexact Hbufs
    isplitl [Hrx]; · iexact Hrx
    isplitl [Hmy]; · iexact Hmy
    isplitl [Hx Hw Ho]
    · isplitl [Hx]; · unfold xAt; iexact Hx
      isplitl [Hw]; · unfold wAt; iexact Hw
      unfold oAt
      iexists g2
      isplitr; · ipureintro; exact fun _ _ => rfl
      iexact Ho
    unfold ow
    iexists W; iexact HO
  unfold xAt wAt oAt ow
  iintro ⟨Hout, ⟨Hx, Hw, ⟨%f, %hf, Ho⟩⟩, ⟨%W', HO⟩⟩
  have hf' : f = resOf m ρ c := outC_eq f _ hf
  unfold run
  rw [wp_ret]; imodintro
  unfold bodyPost Φ₁ Dat.owesAt Pipeline.owesWithin
  rw [show (dats m ρ 0 c).owed t0_0.succ = 0 from rfl]
  isplitl [Hout]; · iexact Hout
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists f; isplitr; · (ipureintro; exact hf')
  iexact Ho

/-- The body as the pipeline calls it. -/
theorem prog_eq : defs₀ (F := F) Proc.tc cfg0.body (cfg0.bodyArgs t0_0 (cfg0.slots t0_0)) = .op .deviceId fun d => bodyK d := by
  refine Eq.trans ?_ body_eq
  dsimp only [defs₀, Defs.onTc]

set_option maxRecDepth 4000 in
theorem body_obligation (c : Dev nD) : BodyObligation (dats (F := F) m ρ 0 c) (defs₀ (F := F)) 𝒱₀ 0 Set.univ := fun t => by
  rw [fin_N0 t]
  rw [bigSep_W0, bigSep_W0]
  simp only [owns_whole_eq]
  rw [prog_eq]
  have h := body_sound m ρ c
  revert h
  generalize (fun d => bodyK d : Dev nD → P F) = body
  intro h
  exact h

/-! ## The run -/

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), (initOf ringCells ringToks, initSlots Finset.univ 1))

theorem start_intro (c : Dev nD) :
    iprop(Pipeline.unscopedRestP Pipeline.Prefetch.none cfg0.spec c (fun b => m ((c : Thread nD τ).loc b)) ∗ levAts (L NL) lv
        ∗ Pipeline.launchCred oweAll c ∗ prngReg c (ρ c) ∗ G' (xOf m ρ) (wOf m ρ) c)
      ⊢ |={Set.univ}=> iprop(start (xOf m ρ) (wOf m ρ) c ∗ emp) := by
  unfold G' start allCells allSlots
  iintro ⟨-, Hlev, Hcr, -, ⟨%K, %KS, ⟨HI, HR⟩, HS, Hd⟩⟩
  ihave Hc := (creds_all (F := F) c) $$ Hcr
  imodintro
  isplitl
  · iexists K; iexists KS
    isplitl [Hlev HI HR HS]
    · unfold ctx
      isplitl [HI]; · iexact HI
      isplitl [HS]; · iexact HS
      isplitl [HR]; · iexact HR
      iexact Hlev
    iapply (dealt_body c)
    isplitl [Hd]; · iexact Hd
    iexact Hc
  · iempintro

theorem phi0_intro (c : Dev nD) :
    iprop(start (xOf m ρ) (wOf m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bufAny rxAny
  iintro ⟨Hs, -, H0, H1, ⟨%u, H8⟩, H9⟩
  isplitl [Hs]; · iexact Hs
  isplitl [H0 H1]
  · isplitl [H0]; · iexact H0
    iexact H1
  isplitl [H9]; · iexact H9
  iexists u
  iapply (Entails.of_eq (myAt_eq c u).symm)
  iexact H8

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ bodyOut bufAny rxAny
  iintro ⟨Hz, ⟨H0, H1⟩, H9, ⟨%u, H8⟩⟩
  ihave Hz := (Entails.of_eq (sems0_eq (F := F) c).symm) $$ Hz
  icases Hz with ⟨Hb, Ho⟩
  isplitl [Hb]; · iexact Hb
  isplitl [Ho]; · iexact Ho
  isplitl [H0]; · iexact H0
  isplitl [H1]; · iexact H1
  isplitl [H8]
  · iexists u
    iapply (Entails.of_eq (myAt_eq c u))
    iexact H8
  iexact H9

theorem over_all (c : Dev nD) : Over 1 (oweAll c) := by
  unfold oweAll
  exact over_add (over_add (over_mono (by decide) (over_S c 0)) (over_tally _ _ _ le_rfl (by decide))) (over_tally _ _ _ le_rfl (by decide))

theorem waits (c : Dev nD) : (levAts (L NL) lv : sProp 𝕄) ⊢ Pipeline.cellsWaits cfgs (dats m ρ) 0 0 c :=
  Pipeline.cellsWaits_intro cfgs (dats m ρ) 0 0 c fun w s t => by
    rcases t with ⟨_ | _, ht⟩
    · exact may_wait c _ (by decide) (over_all c)
    · exact may_wait c _ (by decide) (over_zero _)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

theorem mint_u : (ownU u₀ : sProp 𝕄) ⊢ |={Set.univ}=> iprop(BI.own (EP (initOf (Pipeline.cells cfgs cellOf_inj) (Pipeline.launchToks cfgs cellOf_inj)))
    ∗ bigSep Finset.univ (G (xOf m ρ) (wOf m ρ))) := by
  unfold u₀
  iintro Hu
  ihave H := (ownU_pair _ _) $$ Hu
  icases H with ⟨HP, HX⟩
  ihave H := (own_pair_emb _ _ _) $$ HX
  icases H with ⟨HR, HS⟩
  imod (mint (xOf m ρ) (wOf m ρ)) $$ [HR HS] with HG
  · isplitl [HR]; · iexact HR
    iexact HS
  imodintro
  isplitl [HP]; · iexact HP
  iexact HG

set_option maxRecDepth 8000 in
/-- From any memory with zero counters, at any float values: every weakly fair execution of the program on the eight
    devices ends, its operands unchanged, its results as computed, every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := fun c => BodyObligation.loose _ (body_obligation m ρ c)) (hne := fun w => by fin_cases w <;> exact Nat.succ_pos _) (harr := arr_whole0) (hstage := stage_whole0) (hshare := share_eq m ρ)
    (hdistinct := winFacts0.arr_inj)
    (O₀ := oweAll) (howed₀ := fun _ => rfl) (howedN := fun _ => rfl)
    (L := L NL) (lv := lv) (hL := SiteBlocks.hL NL) (hwaits := waits m ρ)
    (G := G (xOf m ρ) (wOf m ρ)) (G' := G' (xOf m ρ) (wOf m ρ)) (u₀ := u₀)
    (hu₀ := mint_u m ρ)
    (hglob := glob (xOf m ρ) (wOf m ρ))
    (hA := fun _ _ => rfl) (hpf := fun _ k => k.elim0)
    (X := start (xOf m ρ) (wOf m ρ)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The final memory -/

theorem finalA_x (c : Dev nD) : finalA m ρ c (0 : Fin 3) = (s₀ m ρ).mem (win0_0.arr.view.loc (c : Thread nD τ)) :=
  (dats (F := F) m ρ 0 c).arrAt_in (0 : Fin 3) rfl _
theorem finalA_w (c : Dev nD) : finalA m ρ c (1 : Fin 3) = (s₀ m ρ).mem (win0_1.arr.view.loc (c : Thread nD τ)) :=
  (dats (F := F) m ρ 0 c).arrAt_in (1 : Fin 3) rfl _

theorem finalA_o (c : Dev nD) : (win0_2.blk (0 : Fin 1)).view.read (Elt F) (finalA m ρ c (2 : Fin 3)) = resOf m ρ c := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

/-- Every window is its whole array: a device's result is what the body left, its operands what the memory held. -/
theorem final_o (c : Dev nD) : finalA m ρ c (2 : Fin 3) = resOf m ρ c := by
  have hz : (fun a => (win0_2.index (0 : Fin 1)) a * main_v1.ty.shape.size a) = fun _ => 0 := funext fun a => by fin_cases a <;> decide
  exact (Memref.read_access_unit_zero (Elt F) main_v1 hz (fun a => by fin_cases a <;> decide) _).symm.trans (finalA_o m ρ c)

theorem xOf_eq (c : Dev nD) : xOf m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

theorem wOf_eq (c : Dev nD) : wOf m ρ c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _

/-- The run read at the argument arrays and at the result. -/
theorem run_all : θ_run defs (onTc (τ := τ) (main (F := F))) (s₀ m ρ) (fun r => (∀ c : Dev nD,
      r.2.mem ((c : Thread nD τ).loc main_v1) = outC (resB (fun d : Dev nD => m ((d : Thread nD τ).loc main_arg0)) (fun d : Dev nD => m ((d : Thread nD τ).loc main_arg1)) c)
      ∧ r.2.mem ((c : Thread nD τ).loc main_arg0) = m ((c : Thread nD τ).loc main_arg0)
      ∧ r.2.mem ((c : Thread nD τ).loc main_arg1) = m ((c : Thread nD τ).loc main_arg1))
      ∧ r.2.sem = fun _ => 0) :=
  (θ_run defs _ _).mono (fun r h => ⟨fun c => by
    have e : resOf m ρ c = outC (resB (fun d : Dev nD => m ((d : Thread nD τ).loc main_arg0)) (fun d : Dev nD => m ((d : Thread nD τ).loc main_arg1)) c) := by
      unfold resOf
      rw [show xOf m ρ = fun d : Dev nD => m ((d : Thread nD τ).loc main_arg0) from funext (xOf_eq m ρ),
        show wOf m ρ = fun d : Dev nD => m ((d : Thread nD τ).loc main_arg1) from funext (wOf_eq m ρ)]
    exact ⟨((h.1 c (2 : Fin 3)).trans (final_o m ρ c)).trans e, (h.1 c (0 : Fin 3)).trans (finalA_x m ρ c), (h.1 c (1 : Fin 3)).trans (finalA_w m ρ c)⟩,
    h.2⟩) (run_main (F := F) m ρ)

end Cert.KernelIdeal.Ring

end
-- ==== Proof.Value.Sum.lean ====
/- The sums over the devices: every block that a device holds before scaling is a block of the whole product, its
   negative part dropped. -/
module

public import proofs.«01_k».proof.Proof.KernelIdeal.Values
public import Idealize.ShloMosaic.Lib.Layout
public import Idealize.ShloMosaic.Lib.ValueIdx
public import Idealize.ShloMosaic.Lib.MatmulPlain
public import Idealize.ShloMosaic.Lib.Pipeline.Value
public import Idealize.ShloMosaic.PureOps.Ideal.Laws

@[expose] public section

noncomputable section

namespace Cert.KernelIdeal.Ring

open Idealize.ShloMosaic Idealize.ShloMosaic.TcCoe Idealize.ShloMosaic.ValueIdx Idealize.SL.Sem
open Cert.KernelIdeal Cert.KernelIdeal.Gen
open scoped BigOperators

/-- The whole operands. -/
abbrev XW := (⟨2, ![4096, 4096]⟩ : Shape).Idx → EReal
abbrev YW := (⟨2, ![4096, 8192]⟩ : Shape).Idx → EReal

/-- The whole operands at two numbers, which count modulo the extents. -/
def xN (A : XW) (r k : ℕ) : EReal := A (ix2 ⟨r % 4096, Nat.mod_lt _ (by decide)⟩ ⟨k % 4096, Nat.mod_lt _ (by decide)⟩)
def yN (B : YW) (k n : ℕ) : EReal := B (ix2 ⟨k % 4096, Nat.mod_lt _ (by decide)⟩ ⟨n % 8192, Nat.mod_lt _ (by decide)⟩)

/-- What device `e` adds to row `r`, column `n` of the product. -/
def part (A : XW) (B : YW) (e : ℕ) (r n : ℕ) : EReal := ∑ k ∈ Finset.range 512, xN A r (512 * e + k) * yN B (512 * e + k) n

/-- Row `r`, column `n` of the product. -/
def full (A : XW) (B : YW) (r n : ℕ) : EReal := ∑ k ∈ Finset.range 4096, xN A r k * yN B k n

theorem sum_blocks (f : ℕ → EReal) (m : ℕ) : ∑ e ∈ Finset.range m, ∑ k ∈ Finset.range 512, f (512 * e + k) = ∑ k ∈ Finset.range (512 * m), f k := by
  induction m with
  | zero => rfl
  | succ m ih => rw [Finset.sum_range_succ, ih, Nat.mul_succ, Finset.sum_range_add]

/-- The devices' parts add up to the product. -/
theorem sum_part (A : XW) (B : YW) (r n : ℕ) : ∑ e : Dev nD, part A B e.val r n = full A B r n := by
  have h := sum_blocks (fun k => xN A r k * yN B k n) 8
  unfold full
  rw [← h]
  exact Fin.sum_univ_eq_sum_range (fun e => part A B e r n) 8

/-! ## The rows of a step -/

theorem rows_step : ∀ sd : Bool, ∀ s : Fin 6, ∀ d : Dev nD, rowOff sd d (s.val + 1) 0 = rowOff sd (fromDev sd d) s.val 0 := by decide +kernel
theorem rows_last : ∀ sd : Bool, ∀ d : Dev nD, rowOff sd (fromDev sd d) 6 0 = 512 * d.val := by decide +kernel
theorem rows_own : ∀ d : Dev nD, k0_off3 d 0 = 512 * d.val := by decide +kernel
theorem rows_col : ∀ sd : Bool, ∀ s : Fin 7, ∀ d : Dev nD, rowOff sd d s.val 1 = 0 := by decide +kernel
theorem own_col : ∀ d : Dev nD, k0_off3 d 1 = 0 := by decide +kernel

/-- The devices up the ring are all the devices. -/
theorem up_all (sd : Bool) (d : Dev nD) (f : Dev nD → EReal) : ∑ t ∈ Finset.range 8, f (upN sd t d) = ∑ e : Dev nD, f e := by
  have hb : Function.Bijective (fun t : Fin 8 => upN sd t.val d) := by
    revert sd d; decide +kernel
  rw [← Fin.sum_univ_eq_sum_range (fun t => f (upN sd t d)) 8]
  exact Function.Bijective.sum_comp hb f

/-! ## One product -/

theorem dotB_apply (x w : Vec Ideal S512x512 .bf16) (i j : Fin 512) :
    dotB x w (ix2 i j) = ∑ k : Fin 512, x (ix2 i k) * w (ix2 k j) := by
  unfold dotB
  rw [shapeCast_self, shapeCast_self]
  refine (Ideal.matmul_plain_apply (M := 512) (K := 512) (N := 512) none x w _ i j).trans ?_
  rw [constant_apply, Ideal.ofBits_zero_f32, zero_add]

section

variable (A : XW) (B : YW) (X : Dev nD → XC Ideal) (Y : Dev nD → YC Ideal)
variable (hX : ∀ (d : Dev nD) (i : S4096x512.Idx), X d i = xN A (i 0).val (512 * d.val + (i 1).val))
variable (hY : ∀ (d : Dev nD) (i : S512x8192.Idx), Y d i = yN B (512 * d.val + (i 0).val) (i 1).val)

include hX in
theorem rowsOf_apply (sd : Bool) (d e : Dev nD) (s : ℕ) (hs : s < 7) (i k : Fin 512) :
    rowsOf (X e) sd d s (ix2 i k) = xN A (rowOff sd d s 0 + i.val) (512 * e.val + k.val) := by
  unfold rowsOf
  refine (hX e _).trans ?_
  refine congrArg₂ (xN A) ?_ ?_
  · show rowOff sd d s 0 + 1 * i.val = _; omega
  · show 512 * e.val + (rowOff sd d s 1 + 1 * k.val) = _
    rw [rows_col sd ⟨s, hs⟩ d]; omega

include hX in
theorem ownOf_apply (d e : Dev nD) (i k : Fin 512) :
    ownOf (X e) d (ix2 i k) = xN A (512 * d.val + i.val) (512 * e.val + k.val) := by
  unfold ownOf
  refine (hX e _).trans ?_
  refine congrArg₂ (xN A) ?_ ?_
  · show k0_off3 d 0 + 1 * i.val = _; rw [rows_own]; omega
  · show 512 * e.val + (k0_off3 d 1 + 1 * k.val) = _
    rw [own_col]; omega

include hY in
theorem colsOf_apply (e : Dev nD) (b : ℕ) (hb : b < 16) (k j : Fin 512) :
    colsOf (Y e) b (ix2 k j) = yN B (512 * e.val + k.val) (512 * b + j.val) := by
  unfold colsOf
  refine (hY e _).trans ?_
  refine congrArg₂ (yN B) ?_ ?_
  · show 512 * e.val + (0 + 1 * k.val) = _; omega
  · show 512 * (b % 16) + 1 * j.val = _; omega

theorem colOf_lt (sd : Bool) (q : ℕ) : colOf sd q < 16 := by
  have : q % 8 < 8 := Nat.mod_lt _ (by decide)
  cases sd <;> simp only [colOf] <;> omega

include hX hY in
/-- A device's product at a step is its part of the product at the step's rows. -/
theorem dot_step (sd : Bool) (d : Dev nD) (s : ℕ) (hs : s < 7) (b : ℕ) (hb : b < 16) (i j : Fin 512) :
    dotB (rowsOf (X d) sd d s) (colsOf (Y d) b) (ix2 i j) = part A B d.val (rowOff sd d s 0 + i.val) (512 * b + j.val) := by
  rw [dotB_apply]
  unfold part
  rw [← Fin.sum_univ_eq_sum_range (fun k => xN A (rowOff sd d s 0 + i.val) (512 * d.val + k) * yN B (512 * d.val + k) (512 * b + j.val)) 512]
  exact Finset.sum_congr rfl fun k _ => by rw [rowsOf_apply A X hX sd d d s hs, colsOf_apply B Y hY d b hb]

include hX hY in
theorem dot_own (d : Dev nD) (b : ℕ) (hb : b < 16) (i j : Fin 512) :
    ownB X Y d b (ix2 i j) = part A B d.val (512 * d.val + i.val) (512 * b + j.val) := by
  unfold ownB
  rw [dotB_apply]
  unfold part
  rw [← Fin.sum_univ_eq_sum_range (fun k => xN A (512 * d.val + i.val) (512 * d.val + k) * yN B (512 * d.val + k) (512 * b + j.val)) 512]
  exact Finset.sum_congr rfl fun k _ => by rw [ownOf_apply A X hX d d, colsOf_apply B Y hY d b hb]

include hX hY in
/-- A stripe at step `s` is the sum of the parts of the device and of the `s` devices up the ring. -/
theorem acc_apply (sd : Bool) (sc : ℕ) (i j : Fin 512) : ∀ s : ℕ, s < 7 → ∀ d : Dev nD,
    acc X Y sd sc s d (ix2 i j)
      = ∑ t ∈ Finset.range (s + 1), part A B (upN sd t d).val (rowOff sd d s 0 + i.val) (512 * colOf sd sc + j.val)
  | 0, hs, d => by
    rw [Finset.sum_range_one]
    exact dot_step A B X Y hX hY sd d 0 hs _ (colOf_lt sd sc) i j
  | s + 1, hs, d => by
    rw [Finset.sum_range_succ', show acc X Y sd sc (s + 1) d (ix2 i j)
        = acc X Y sd sc s (fromDev sd d) (ix2 i j) + dotB (rowsOf (X d) sd d (s + 1)) (colsOf (Y d) (colOf sd sc)) (ix2 i j) from rfl,
      acc_apply sd sc i j s (by omega) (fromDev sd d), dot_step A B X Y hX hY sd d (s + 1) hs _ (colOf_lt sd sc) i j,
      rows_step sd ⟨s, by omega⟩ d]
    rfl

include hX hY in
/-- A block before scaling: the whole product's block, its negative part dropped. -/
theorem sumB_apply (d : Dev nD) (sd : Bool) (sc : ℕ) (hsc : sc < 8) (i j : Fin 512) :
    sumB X Y d sd sc (ix2 i j) = max (full A B (512 * d.val + i.val) (512 * colOf sd sc + j.val)) 0 := by
  have e1 : sumB X Y d sd sc (ix2 i j)
      = max (ownB X Y d (colOf sd sc) (ix2 i j) + sent X Y sd (48 + sc) (fromDev sd d) (ix2 i j)) (Ideal.ofBits .f32 0x00000000#32) := by
    unfold sumB finU
    rw [shapeCast_self]
    rfl
  rw [e1, Ideal.ofBits_zero_f32, dot_own A B X Y hX hY d _ (colOf_lt sd sc)]
  unfold sent
  rw [show (48 + sc) / 8 = 6 by omega, acc_apply A B X Y hX hY sd _ i j 6 (by omega), ← colOf_mod, rows_last,
    show colOf sd (48 + sc) = colOf sd sc from by rw [colOf_mod, colOf_mod sd sc]; congr 1; omega,
    ← sum_part, ← up_all sd d, Finset.sum_range_succ' _ 7, add_comm]
  rfl

include hX hY in
theorem sumAt_apply (d : Dev nD) (b : ℕ) (hb : b < 16) (i j : Fin 512) :
    sumAt X Y d b (ix2 i j) = max (full A B (512 * d.val + i.val) (512 * b + j.val)) 0 := by
  unfold sumAt
  rw [sumB_apply A B X Y hX hY d _ _ (Nat.mod_lt _ (by decide))]
  congr 3
  by_cases h : 8 ≤ b
  · rw [decide_eq_true h]; show 512 * (8 + b % 8 % 8) = 512 * b; omega
  · rw [decide_eq_false h]; show 512 * (b % 8 % 8) = 512 * b; omega

end

end Cert.KernelIdeal.Ring

end
-- ==== Proof.Value.Amax.lean ====
/- The greatest element: after the three exchanges every device holds the maximum over the whole product. -/
module

public import proofs.«01_k».proof.Proof.Value.Sum
public import Idealize.ShloMosaic.PureOps.Reduce

@[expose] public section

noncomputable section

namespace Cert.KernelIdeal.Ring

open Idealize.ShloMosaic Idealize.ShloMosaic.TcCoe Idealize.ShloMosaic.ValueIdx Idealize.SL.Sem
open Cert.KernelIdeal Cert.KernelIdeal.Gen
open scoped BigOperators

theorem bits_bot : Ideal.ofBits .f32 0xFF800000#32 = ⊥ := by simp [Ideal.ofBits, Ideal.ieee]

/-- A maximum over all of a value, above a lower bound of everything, is below what bounds the value. -/
theorem red_le {s t : Shape} {axes : List (Fin s.rank)} (hr : s.Reduces axes t) (ht : ∀ j j' : t.Idx, j = j') (src : FVec Ideal s .f32)
    (acc : BitVec FTy.f32.bits) (hφ : FKind.Formats .f32) (hacc : acc = FKind.maximumf.neutral .f32 hφ) (hb : Ideal.ofBits .f32 acc = ⊥)
    (j : t.Idx) (z : EReal) : multiReduction .maximumf axes t src acc hr hφ hacc j ≤ z ↔ ∀ i : s.Idx, src i ≤ z := by
  rw [multiReduction_maximumf_eq_fold]
  refine (Finset.fold_max_le (b := Ideal.ofBits .f32 acc) z).trans ?_
  rw [hb]
  exact ⟨fun h i => h.2 i (Finset.mem_filter.2 ⟨Finset.mem_univ _, ht _ _⟩), fun h => ⟨bot_le, fun i _ => h i⟩⟩

theorem cast_le {s t : Shape} (h : s.ShapeCasts t) (v : FVec Ideal s .f32) (z : EReal) :
    (∀ i : t.Idx, shapeCast t v h i ≤ z) ↔ ∀ i : s.Idx, v i ≤ z :=
  ⟨fun H i => by
    have := H ((Shape.reshapeEquiv h).symm i)
    rwa [show shapeCast t v h ((Shape.reshapeEquiv h).symm i) = v i from congrArg v (Equiv.apply_symm_apply _ _)] at this,
  fun H i => H _⟩

theorem one_idx (j j' : S1.Idx) : j = j' :=
  funext fun a => Fin.ext (by
    have h1 := (j a).isLt
    have h2 := (j' a).isLt
    match a with
    | ⟨0, _⟩ => exact (Nat.lt_one_iff.1 h1).trans (Nat.lt_one_iff.1 h2).symm)

/-- The same read off as one number and joined with another. -/
theorem joined_le {s t u : Shape} {axes : List (Fin s.rank)} (hr : s.Reduces axes t) (ht : ∀ j j' : t.Idx, j = j') (src : FVec Ideal s .f32)
    (acc : BitVec FTy.f32.bits) (hφ : FKind.Formats .f32) (hacc : acc = FKind.maximumf.neutral .f32 hφ) (hb : Ideal.ofBits .f32 acc = ⊥)
    (hc : t.ShapeCasts u) (p : Fin u.rank → ℕ) (hp : ∀ a, p a < u.size a) (a : Ideal .f32) (z : EReal) :
    Scalar.maximumf a (extractAt p (shapeCast u (multiReduction .maximumf axes t src acc hr hφ hacc) hc) hp) ≤ z
      ↔ a ≤ z ∧ ∀ i : s.Idx, src i ≤ z :=
  (max_le_iff (a := (a : EReal)) (b := multiReduction .maximumf axes t src acc hr hφ hacc (Shape.reshapeEquiv hc fun b => ⟨p b, hp b⟩))).trans
    (and_congr_right fun _ => red_le hr ht src acc hφ hacc hb _ z)

/-- What a block adds to the running maximum. -/
theorem maxV_le (a : Ideal .f32) (v : FVec Ideal S512x512 .f32) (z : EReal) :
    maxV a v ≤ z ↔ a ≤ z ∧ ∀ i : S512x512.Idx, v i ≤ z := by
  unfold maxV
  exact (joined_le _ one_idx _ _ _ _ bits_bot _ _ _ a z).trans (and_congr_right fun _ => cast_le _ v z)

theorem lanesV_apply (a : Ideal .f32) (i : S1x128.Idx) : lanesV a i = a := by
  unfold lanesV
  rw [shapeCast_self]
  rfl

theorem exU_apply (a u : FVec Ideal S1x128 .f32) (i : S1x128.Idx) : exU a u i = max (a i) (u i) := by
  unfold exU
  rw [shapeCast_self]
  rfl

section

variable (A : XW) (B : YW) (X : Dev nD → XC Ideal) (Y : Dev nD → YC Ideal)
variable (hX : ∀ (d : Dev nD) (i : S4096x512.Idx), X d i = xN A (i 0).val (512 * d.val + (i 1).val))
variable (hY : ∀ (d : Dev nD) (i : S512x8192.Idx), Y d i = yN B (512 * d.val + (i 0).val) (i 1).val)

theorem maxN_le (d : Dev nD) (z : EReal) : ∀ (n : ℕ) (a : Ideal .f32),
    maxN X Y d n a ≤ z ↔ a ≤ z ∧ ∀ m < n, ∀ sd, ∀ i, sumB X Y d sd (7 - m) i ≤ z
  | 0, a => ⟨fun h => ⟨h, fun m hm => absurd hm (Nat.not_lt_zero _)⟩, fun h => h.1⟩
  | n + 1, a => by
    rw [maxN, maxN_le d z n, maxV_le, maxV_le]
    constructor
    · rintro ⟨⟨⟨ha, h0⟩, h1⟩, h⟩
      refine ⟨ha, fun m hm sd => ?_⟩
      rcases Nat.lt_succ_iff_lt_or_eq.1 hm with hm | rfl
      · exact h m hm sd
      · cases sd
        · exact h0
        · exact h1
    · rintro ⟨ha, h⟩
      exact ⟨⟨⟨ha, h n (Nat.lt_succ_self n) false⟩, h n (Nat.lt_succ_self n) true⟩, fun m hm => h m (Nat.lt_succ_of_lt hm)⟩

theorem amx_zero (d : Dev nD) (i : S1x128.Idx) : amx X Y 0 d i = maxN X Y d 8 (Scalar.ofBits .f32 0x00000000#32) := by
  rw [amx, lanesV_apply]

theorem amx_succ (h : ℕ) (d : Dev nD) (i : S1x128.Idx) : amx X Y (h + 1) d i = max (amx X Y h d i) (amx X Y h (partner d h) i) := by
  rw [amx, exU_apply]

include hX hY in
/-- A device's own maximum. -/
theorem amx_zero_le (d : Dev nD) (i : S1x128.Idx) (z : EReal) :
    amx X Y 0 d i ≤ z ↔ 0 ≤ z ∧ ∀ r : Fin 512, ∀ n : Fin 8192, full A B (512 * d.val + r.val) n.val ≤ z := by
  have h0 : (Scalar.ofBits .f32 0x00000000#32 : Ideal .f32) = (0 : EReal) := Ideal.ofBits_zero_f32
  rw [amx_zero, maxN_le, h0]
  refine and_congr_right fun hz => ⟨fun h r n => ?_, fun h m hm sd i => ?_⟩
  · have hn : n.val < 8192 := n.isLt
    have := h (7 - n.val / 512 % 8) (by omega) (decide (8 ≤ n.val / 512)) (ix2 r ⟨n.val % 512, Nat.mod_lt _ (by decide)⟩)
    rw [sumB_apply A B X Y hX hY d _ _ (by omega)] at this
    have e : 512 * colOf (decide (8 ≤ n.val / 512)) (7 - (7 - n.val / 512 % 8)) + n.val % 512 = n.val := by
      by_cases h8 : 8 ≤ n.val / 512
      · rw [decide_eq_true h8]
        show 512 * (8 + (7 - (7 - n.val / 512 % 8)) % 8) + n.val % 512 = n.val; omega
      · rw [decide_eq_false h8]
        show 512 * ((7 - (7 - n.val / 512 % 8)) % 8) + n.val % 512 = n.val; omega
    have this := (max_le_iff.1 this).1
    simp only at this
    rw [e] at this
    exact this
  · obtain ⟨p, q, rfl⟩ : ∃ p q : Fin 512, i = ix2 p q := ⟨i 0, i 1, eq_ix2 i⟩
    rw [sumB_apply A B X Y hX hY d sd (7 - m) (by omega)]
    have hc := colOf_lt sd (7 - m)
    have hq := q.isLt
    exact max_le (h p ⟨512 * colOf sd (7 - m) + q.val, by omega⟩) hz

/-- Three exchanges reach every device. -/
theorem partners : ∀ d e : Dev nD, e = d ∨ e = partner d 0 ∨ e = partner d 1 ∨ e = partner (partner d 1) 0 ∨ e = partner d 2
    ∨ e = partner (partner d 2) 0 ∨ e = partner (partner d 2) 1 ∨ e = partner (partner (partner d 2) 1) 0 := by decide +kernel

theorem three_le (f : ℕ → Dev nD → EReal) (hf : ∀ h d, f (h + 1) d = max (f h d) (f h (partner d h))) (d : Dev nD) (z : EReal) :
    f 3 d ≤ z ↔ ∀ e : Dev nD, f 0 e ≤ z := by
  have e0 : ∀ d, f 1 d ≤ z ↔ f 0 d ≤ z ∧ f 0 (partner d 0) ≤ z := fun d => by rw [hf 0 d, max_le_iff]
  have e1 : ∀ d, f 2 d ≤ z ↔ f 1 d ≤ z ∧ f 1 (partner d 1) ≤ z := fun d => by rw [hf 1 d, max_le_iff]
  have e2 : ∀ d, f 3 d ≤ z ↔ f 2 d ≤ z ∧ f 2 (partner d 2) ≤ z := fun d => by rw [hf 2 d, max_le_iff]
  rw [e2, e1, e1, e0, e0, e0, e0]
  generalize f 0 = g
  constructor
  · rintro ⟨⟨⟨h1, h2⟩, h3, h4⟩, ⟨h5, h6⟩, h7, h8⟩ e
    rcases partners d e with h | h | h | h | h | h | h | h
    exacts [h ▸ h1, h ▸ h2, h ▸ h3, h ▸ h4, h ▸ h5, h ▸ h6, h ▸ h7, h ▸ h8]
  · exact fun h => ⟨⟨⟨h _, h _⟩, h _, h _⟩, ⟨h _, h _⟩, h _, h _⟩

theorem amx_all (d : Dev nD) (i : S1x128.Idx) (z : EReal) : amx X Y 3 d i ≤ z ↔ ∀ e : Dev nD, amx X Y 0 e i ≤ z :=
  three_le (fun h e => amx X Y h e i) (fun h e => amx_succ X Y h e i) d z

include hX hY in
/-- The maximum that every device ends with bounds the product and nothing smaller does. -/
theorem amx_le (d : Dev nD) (i : S1x128.Idx) (z : EReal) :
    amx X Y 3 d i ≤ z ↔ 0 ≤ z ∧ ∀ r : Fin 4096, ∀ n : Fin 8192, full A B r.val n.val ≤ z := by
  rw [amx_all]
  constructor
  · intro h
    refine ⟨((amx_zero_le A B X Y hX hY d i z).1 (h d)).1, fun r n => ?_⟩
    have hr : r.val < 4096 := r.isLt
    have := ((amx_zero_le A B X Y hX hY ⟨r.val / 512, by show _ < 8; omega⟩ i z).1 (h _)).2 ⟨r.val % 512, Nat.mod_lt _ (by decide)⟩ n
    rw [show 512 * (r.val / 512) + r.val % 512 = r.val by omega] at this
    exact this
  · rintro ⟨hz, h⟩ e
    have he : e.val < 8 := e.isLt
    exact (amx_zero_le A B X Y hX hY e i z).2 ⟨hz, fun r n => h ⟨512 * e.val + r.val, by have := r.isLt; omega⟩ n⟩

end

end Cert.KernelIdeal.Ring

end
-- ==== Proof.Value.Quant.lean ====
/- The quantiser over the extended reals: a product with `127 / a` is a quotient by `a / 127`. -/
module

public import Idealize.ShloMosaic.PureOps.Ideal.Laws

@[expose] public section

noncomputable section

namespace Cert.KernelIdeal.Ring

open Idealize.ShloMosaic

theorem bits_127 : Ideal.ofBits .f32 0x42FE0000#32 = ((127 : ℝ) : EReal) := by
  simp [Ideal.ofBits, Ideal.ieee]
  rw [← EReal.coe_mul]
  norm_num

/-- The scaled value of `y` at the maximum `a`, both ways; `f` is the rounding and clipping between. -/
theorem quant_eq (f : EReal → EReal) (a y : EReal) (ha : 0 ≤ a) (hy : 0 ≤ y) (hya : y ≤ a) :
    f (y * Ideal.div ((127 : ℝ) : EReal) a) * Ideal.div a ((127 : ℝ) : EReal)
      = f (Ideal.div y (Ideal.div a ((127 : ℝ) : EReal))) * Ideal.div a ((127 : ℝ) : EReal) := by
  have hc : ((127 : ℝ) : EReal) ≠ 0 := by exact_mod_cast (by norm_num : (127 : ℝ) ≠ 0)
  rcases eq_or_ne a 0 with rfl | h0
  · have : Ideal.div (0 : EReal) ((127 : ℝ) : EReal) = 0 := by rw [Ideal.div, if_neg hc, zero_mul]
    rw [this, mul_zero, mul_zero]
  · congr 2
    induction a using EReal.rec with
    | bot => exact absurd ha (by simp)
    | top =>
      have e1 : Ideal.div (⊤ : EReal) ((127 : ℝ) : EReal) = ⊤ := by
        rw [Ideal.div, if_neg hc, ← EReal.coe_inv, EReal.top_mul_coe_of_pos (by norm_num)]
      have e2 : Ideal.div ((127 : ℝ) : EReal) ⊤ = 0 := by
        rw [Ideal.div, if_neg (by simp), EReal.inv_top, mul_zero]
      rw [e1, e2, mul_zero, Ideal.div, if_neg (by simp), EReal.inv_top, mul_zero]
    | coe a =>
      have h0' : a ≠ 0 := by exact_mod_cast h0
      have e1 : Ideal.div (a : EReal) ((127 : ℝ) : EReal) = ((a * (127 : ℝ)⁻¹ : ℝ) : EReal) := by
        rw [Ideal.div, if_neg hc, ← EReal.coe_inv, EReal.coe_mul]
      have e2 : Ideal.div ((127 : ℝ) : EReal) (a : EReal) = (((127 : ℝ) * a⁻¹ : ℝ) : EReal) := by
        rw [Ideal.div, if_neg h0, ← EReal.coe_inv, EReal.coe_mul]
      rw [e1, e2, Ideal.div, if_neg (by exact_mod_cast (mul_ne_zero h0' (by norm_num))), ← EReal.coe_inv, mul_inv, inv_inv, mul_comm (127 : ℝ)]

end Cert.KernelIdeal.Ring

end
-- ==== Proof.Value.Reference.lean ====
/- The reference, element by element: the whole product's block, its negative part dropped, quantised at its greatest
   element. -/
module

public import proofs.«01_k».proof.Proof.Gen.ReferenceIdeal
public import proofs.«01_k».proof.Proof.Value.Amax

@[expose] public section

noncomputable section

namespace Cert.ReferenceIdeal.Value

open Idealize.ShloMosaic Idealize.ShloMosaic.ValueIdx
open Cert.ReferenceIdeal Cert.ReferenceIdeal.Gen
open Cert.KernelIdeal.Ring (XW YW xN yN full bits_bot)
open scoped BigOperators

/-- A scalar stretched over an array is the scalar everywhere. -/
theorem stretch_apply {s : Shape} (dims : Fin S_.rank → Fin s.rank) (h : S_.BroadcastsInDim s dims) (x : FVec Ideal S_ .f32) (i : s.Idx) (j : S_.Idx) :
    broadcastInDim s dims h x i = x j :=
  congrArg x (funext fun a => a.elim0)

/-- A maximum taken over all of an array. -/
theorem hostMax_le {s u : Shape} {axes : List (Fin s.rank)} (h : s.ReducesTo axes S_) (hu : 0 < u.numel) (x : FVec Ideal s .f32)
    (init : FVec Ideal u .f32) (hb : ∀ i, init i = (⊥ : EReal)) (j : S_.Idx) (z : EReal) :
    Host.reduce FloatOps.maximumf x init h hu j ≤ z ↔ ∀ i : s.Idx, x i ≤ z := by
  rw [Host.reduce_eq_fold]
  refine (Finset.fold_max_le (b := (init (Shape.Idx.first hu) : EReal)) z).trans ?_
  rw [hb]
  exact ⟨fun h' i => h'.2 i (Finset.mem_filter.2 ⟨Finset.mem_univ _, funext fun a => a.elim0⟩), fun h' => ⟨bot_le, fun i _ => h' i⟩⟩

/-- The product of the operands, its negative part dropped. -/
def refY (A : FVec Ideal S4096x4096 .bf16) (B : FVec Ideal S4096x8192 .bf16) : FVec Ideal S4096x8192 .f32 :=
  maximumf (extf .f32 (truncf .bf16 (Host.dotGeneral dot_S4096x4096_S4096x8192_S4096x8192_1_0_0_1_n_n none A B) bitsLt_bf16_f32) bitsLt_bf16_f32)
    (broadcastInDim S4096x8192 ![] bcast_S_S4096x8192 (constant S_ .f32 0x00000000#32))

/-- Its greatest absolute value. -/
def refR (y : FVec Ideal S4096x8192 .f32) : FVec Ideal S_ .f32 :=
  Host.reduce FloatOps.maximumf (Host.absf y) (constant S_ .f32 0xFF800000#32) reducesTo_S4096x8192_S_d0_1 h_S_

/-- The quantiser at a scale. -/
def refQ (y : FVec Ideal S4096x8192 .f32) (r : FVec Ideal S_ .f32) : FVec Ideal S4096x8192 .f32 :=
  mulf (minimumf (broadcastInDim S4096x8192 ![] bcast_S_S4096x8192 (id (constant S_ .f32 0x42FE0000#32)))
      (maximumf (broadcastInDim S4096x8192 ![] bcast_S_S4096x8192 (id (constant S_ .f32 0xC2FE0000#32)))
        (Host.roundeven (Host.divf y (broadcastInDim S4096x8192 ![] bcast_S_S4096x8192 (Host.divf r (constant S_ .f32 0x42FE0000#32)))))))
    (broadcastInDim S4096x8192 ![] bcast_S_S4096x8192 (Host.divf r (constant S_ .f32 0x42FE0000#32)))

/-- What the reference computes. -/
def refOut (A : FVec Ideal S4096x4096 .bf16) (B : FVec Ideal S4096x8192 .bf16) : FVec Ideal S4096x8192 .f32 :=
  refQ (refY A B) (refR (refY A B))

/-- Rounding and clipping. -/
def clip (t : EReal) : EReal :=
  min (Ideal.ofBits .f32 0x42FE0000#32) (max (Ideal.ofBits .f32 0xC2FE0000#32) (FloatOps.roundeven (F := Ideal) (φ := .f32) t))

theorem refQ_apply (y : FVec Ideal S4096x8192 .f32) (r : FVec Ideal S_ .f32) (i : S4096x8192.Idx) (j : S_.Idx) :
    refQ y r i = clip (Ideal.div (y i) (Ideal.div (r j) (Ideal.ofBits .f32 0x42FE0000#32))) * Ideal.div (r j) (Ideal.ofBits .f32 0x42FE0000#32) := by
  unfold refQ
  generalize hs : (Host.divf r (constant S_ .f32 0x42FE0000#32) : FVec Ideal S_ .f32) = s
  have e : s j = Ideal.div (r j) (Ideal.ofBits .f32 0x42FE0000#32) := by rw [← hs]; rfl
  rw [mulf_apply, minimumf_apply, maximumf_apply, stretch_apply _ _ _ i j, stretch_apply _ _ _ i j, stretch_apply _ _ s i j, ← e]
  unfold clip
  rw [show (Host.roundeven (Host.divf y (broadcastInDim S4096x8192 ![] bcast_S_S4096x8192 s)) : FVec Ideal S4096x8192 .f32) i
      = FloatOps.roundeven (F := Ideal) (φ := .f32) (Ideal.div (y i) (broadcastInDim S4096x8192 ![] bcast_S_S4096x8192 s i)) from rfl, stretch_apply _ _ s i j]
  rfl

theorem refDot_apply (A : FVec Ideal S4096x4096 .bf16) (B : FVec Ideal S4096x8192 .bf16) (r : Fin 4096) (n : Fin 8192) :
    (Host.dotGeneral dot_S4096x4096_S4096x8192_S4096x8192_1_0_0_1_n_n none A B : FVec Ideal S4096x8192 .f32) (ix2 r n) = full A B r.val n.val := by
  refine ((Ideal.matmul_plain_apply (M := 4096) (K := 4096) (N := 8192) none A B (fun _ => 0) r n).trans ?_)
  rw [zero_add]
  unfold full
  rw [← Fin.sum_univ_eq_sum_range (fun k => xN A r.val k * yN B k n.val) 4096]
  refine Finset.sum_congr rfl fun k _ => ?_
  refine congrArg₂ (fun a b : EReal => a * b) (congrArg A (congrArg₂ ix2 (Fin.ext ?_) (Fin.ext ?_))) (congrArg B (congrArg₂ ix2 (Fin.ext ?_) (Fin.ext ?_)))
  · exact (Nat.mod_eq_of_lt r.isLt).symm
  · exact (Nat.mod_eq_of_lt k.isLt).symm
  · exact (Nat.mod_eq_of_lt k.isLt).symm
  · exact (Nat.mod_eq_of_lt n.isLt).symm

theorem refY_apply (A : FVec Ideal S4096x4096 .bf16) (B : FVec Ideal S4096x8192 .bf16) (r : Fin 4096) (n : Fin 8192) :
    refY A B (ix2 r n) = max (full A B r.val n.val) 0 := by
  rw [← refDot_apply A B r n]
  unfold refY
  generalize (Host.dotGeneral dot_S4096x4096_S4096x8192_S4096x8192_1_0_0_1_n_n none A B : FVec Ideal S4096x8192 .f32) = p
  rw [maximumf_apply, stretch_apply _ _ _ (ix2 r n) (fun a => a.elim0)]
  exact congrArg (max (p (ix2 r n))) Ideal.ofBits_zero_f32

/-- The reference's greatest element bounds the product and nothing smaller does. -/
theorem refR_le (A : FVec Ideal S4096x4096 .bf16) (B : FVec Ideal S4096x8192 .bf16) (j : S_.Idx) (z : EReal) :
    refR (refY A B) j ≤ z ↔ 0 ≤ z ∧ ∀ r : Fin 4096, ∀ n : Fin 8192, full A B r.val n.val ≤ z := by
  have habs : ∀ (r : Fin 4096) (n : Fin 8192), (Host.absf (refY A B) : FVec Ideal S4096x8192 .f32) (ix2 r n) = max (full A B r.val n.val) 0 := fun r n => by
    have hy := refY_apply A B r n
    generalize refY A B = y at hy ⊢
    have h0 : (0 : EReal) ≤ y (ix2 r n) := by rw [hy]; exact le_max_right _ _
    refine Eq.trans ?_ hy
    exact max_eq_left ((EReal.neg_le_neg_iff.2 h0).trans (by rw [neg_zero]; exact h0))
  unfold refR
  refine (hostMax_le _ _ _ (constant S_ .f32 0xFF800000#32) (fun _ => bits_bot) j z).trans ?_
  constructor
  · intro h
    have h' : ∀ (r : Fin 4096) (n : Fin 8192), max (full A B r.val n.val) 0 ≤ z := fun r n => by rw [← habs r n]; exact h _
    exact ⟨(max_le_iff.1 (h' 0 0)).2, fun r n => (max_le_iff.1 (h' r n)).1⟩
  · rintro ⟨hz, h⟩ i
    obtain ⟨r, n, rfl⟩ : ∃ (r : Fin 4096) (n : Fin 8192), i = ix2 r n := ⟨i 0, i 1, eq_ix2 i⟩
    rw [habs]
    exact max_le (h r n) hz

end Cert.ReferenceIdeal.Value

end
-- ==== Proof.Value.Result.lean ====
/- The results: what a device ends with is its block of what the reference computes. -/
module

public import proofs.«01_k».proof.Proof.Value.Amax
public import proofs.«01_k».proof.Proof.Value.Quant
public import proofs.«01_k».proof.Proof.Value.Reference

@[expose] public section

noncomputable section

namespace Cert.KernelIdeal.Ring

open Idealize.ShloMosaic Idealize.ShloMosaic.TcCoe Idealize.ShloMosaic.ValueIdx Idealize.SL.Sem
open Cert.KernelIdeal Cert.KernelIdeal.Gen
open Cert.ReferenceIdeal.Value (clip refY refR refQ refOut refQ_apply refY_apply refR_le)

/-- The first lane of a row. -/
def lane0 : S1x128.Idx := ix2 (⟨0, by decide⟩ : Fin 1) (⟨0, by decide⟩ : Fin 128)

theorem lane_apply (v : FVec Ideal S1x128 .f32) : extractAt ![0, 0] (lane v) inpos_S1x1_p0_0 = v lane0 :=
  congrArg v (funext fun a => Fin.ext (by
    match a with
    | ⟨0, _⟩ => rfl
    | ⟨1, _⟩ => rfl))

theorem scale_eq (v : FVec Ideal S1x128 .f32) : k0_pay221 (lane v) = Ideal.div (v lane0) (Ideal.ofBits .f32 0x42FE0000#32) := by
  rw [← lane_apply v]; rfl

theorem inv_eq (v : FVec Ideal S1x128 .f32) : k0_pay222 (lane v) = Ideal.div (Ideal.ofBits .f32 0x42FE0000#32) (v lane0) := by
  rw [← lane_apply v]; rfl

theorem quantV_apply (s i : Ideal .f32) (v : FVec Ideal S512x512 .f32) (x : S512x512.Idx) :
    quantV s i v x = clip ((v x : EReal) * i) * s := by
  unfold quantV k0_pay1
  rw [shapeCast_self]
  rfl

section

variable (A : XW) (B : YW) (X : Dev nD → XC Ideal) (Y : Dev nD → YC Ideal)
variable (hX : ∀ (d : Dev nD) (i : S4096x512.Idx), X d i = xN A (i 0).val (512 * d.val + (i 1).val))
variable (hY : ∀ (d : Dev nD) (i : S512x8192.Idx), Y d i = yN B (512 * d.val + (i 0).val) (i 1).val)

include hX hY in
/-- A block of a device's result, element by element. -/
theorem resB_apply (d : Dev nD) (b : ℕ) (hb : b < 16) (i j : Fin 512) (r : Fin 4096) (n : Fin 8192)
    (hr : r.val = 512 * d.val + i.val) (hn : n.val = 512 * b + j.val) :
    resB X Y d b (ix2 i j) = refOut A B (ix2 r n) := by
  have hR : refR (refY A B) (fun a => a.elim0) = amx X Y 3 d lane0 :=
    eq_of_forall_ge_iff fun z => (refR_le A B _ z).trans (amx_le A B X Y hX hY d lane0 z).symm
  have hy := refY_apply A B r n
  have hle := amx_le A B X Y hX hY d lane0 (amx X Y 3 d lane0)
  have hs := sumAt_apply A B X Y hX hY d b hb i j
  unfold resB refOut
  rw [quantV_apply, refQ_apply _ _ _ (fun a => a.elim0), hR, scale_eq, inv_eq, hs, hy, hr, hn, bits_127]
  obtain ⟨h0, hall⟩ := hle.1 le_rfl
  have hrn := hall r n
  rw [hr, hn] at hrn
  exact quant_eq clip _ _ h0 (le_max_right _ _) (max_le hrn h0)

end

theorem X_apply (A : XW) (X : Dev nD → XC Ideal)
    (hX : ∀ d, X d = Layout.block ⟨2, ![4096, 512]⟩ ⟨2, ![4096, 4096]⟩ 1 8 d A) (d : Dev nD) (i : S4096x512.Idx) : X d i = xN A (i 0).val (512 * d.val + (i 1).val) := by
  have h0 : (i 0).val < 4096 := (i 0).isLt
  have h1 : (i 1).val < 512 := (i 1).isLt
  have hd : d.val < 8 := d.isLt
  rw [hX d]
  refine congrArg A (funext fun a => Fin.ext ?_)
  match a with
  | ⟨0, _⟩ => exact (Nat.mod_eq_of_lt h0).symm
  | ⟨1, _⟩ => show d.val * 512 + (i 1).val = (512 * d.val + (i 1).val) % 4096; omega

theorem Y_apply (B : YW) (Y : Dev nD → YC Ideal)
    (hY : ∀ d, Y d = Layout.block ⟨2, ![512, 8192]⟩ ⟨2, ![4096, 8192]⟩ 0 8 d B) (d : Dev nD) (i : S512x8192.Idx) : Y d i = yN B (512 * d.val + (i 0).val) (i 1).val := by
  have h0 : (i 0).val < 512 := (i 0).isLt
  have h1 : (i 1).val < 8192 := (i 1).isLt
  have hd : d.val < 8 := d.isLt
  rw [hY d]
  refine congrArg B (funext fun a => Fin.ext ?_)
  match a with
  | ⟨0, _⟩ => show d.val * 512 + (i 0).val = (512 * d.val + (i 0).val) % 4096; omega
  | ⟨1, _⟩ => exact (Nat.mod_eq_of_lt h1).symm

/-- A device's result is its block of the reference's. -/
theorem out_eq (A : XW) (B : YW) (X : Dev nD → XC Ideal) (Y : Dev nD → YC Ideal)
    (hX : ∀ d, X d = Layout.block ⟨2, ![4096, 512]⟩ ⟨2, ![4096, 4096]⟩ 1 8 d A)
    (hY : ∀ d, Y d = Layout.block ⟨2, ![512, 8192]⟩ ⟨2, ![4096, 8192]⟩ 0 8 d B) (d : Dev nD) :
    outC (resB X Y d) = Layout.block ⟨2, ![512, 8192]⟩ ⟨2, ![4096, 8192]⟩ 0 8 d (refOut A B) := by
  refine funext fun (i : S512x8192.Idx) => ?_
  have h0 : (i 0).val < 512 := (i 0).isLt
  have h1 : (i 1).val < 8192 := (i 1).isLt
  have hd : d.val < 8 := d.isLt
  unfold outC
  refine (resB_apply A B X Y (X_apply A X hX) (Y_apply B Y hY) d _ (by omega) _ _
    (⟨512 * d.val + (i 0).val, by omega⟩ : Fin 4096) (⟨(i 1).val, h1⟩ : Fin 8192) rfl (by show (i 1).val = 512 * ((i 1).val / 512) + (i 1).val % 512; omega)).trans ?_
  refine congrArg (refOut A B) (funext fun a => Fin.ext ?_)
  match a with
  | ⟨0, _⟩ => show 512 * d.val + (i 0).val = d.val * 512 + (i 0).val; omega
  | ⟨1, _⟩ => rfl

end Cert.KernelIdeal.Ring

end
-- ==== Proof.lean ====
/- The claims of the certificate: both runs of the kernel, the run of the reference, and the equation of their results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelIdeal.Launch
public import proofs.«01_k».proof.Proof.Kernel.Launch
public import proofs.«01_k».proof.Proof.Value.Result
public import Idealize.ShloMosaic.Adequacy
public import Idealize.ShloMosaic.Init

@[expose] public section

noncomputable section

namespace Cert.Proof

open Idealize.ShloMosaic Idealize.SL.Sem

/-- The kernel on words: from any memory it ends, its operands unchanged and every counter at zero. -/
theorem frame_p : Cert.quiescent_Kernel (hKernel := Cert.Kernel.Gen.facts) := fun m ρ _ =>
  (θ_run Cert.Kernel.defs _ _).mono (fun _ h => ⟨fun c => (h.1 c).2, h.2⟩) (Cert.Kernel.Ring.run_all (F := Bits) m ρ)

/-- The same of the kernel over the extended reals. -/
theorem frame_pi : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Ring.run_all (F := Ideal) m ρ)

/-- The reference ends, its arguments unchanged; it declares no semaphore. -/
theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals, with the operands' blocks on the devices, every device ends with its block of what the
    reference computes. -/
theorem algebraic : Cert.algebraic_KernelIdeal_ReferenceIdeal (hKernelIdeal := Cert.KernelIdeal.Gen.facts)
    (hReferenceIdeal := Cert.ReferenceIdeal.Gen.facts) := fun m g m' g' _ hm =>
  ⟨Cert.ReferenceIdeal.Value.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨(h.1 c).1.trans
        (Cert.KernelIdeal.Ring.out_eq _ _ _ _ (fun d => (hm d).1) (fun d => (hm d).2) c), (h.1 c).2⟩)
      (Cert.KernelIdeal.Ring.run_all (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  frame_p, frame_pi, frame_ri, trivial, algebraic⟩

end Cert.Proof

end
